-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30)) (v1 : (c : Dev Cert.Kernel2Ideal.nD) → Buf (Elt Ideal) ((c.tc : Thread Cert.Kernel2Ideal.nD Cert.Kernel2Ideal.τ).loc Cert.Kernel2Ideal.main_v31)) (v2 : (c : Dev Cert.Kernel2Ideal.nD) → Buf (Elt Ideal) ((c.tc : Thread Cert.Kernel2Ideal.nD Cert.Kernel2Ideal.τ).loc Cert.Kernel2Ideal.main_v32)) (v3 : (c : Dev Cert.Kernel2Ideal.nD) → Buf (Elt Ideal) ((c.tc : Thread Cert.Kernel2Ideal.nD Cert.Kernel2Ideal.τ).loc Cert.Kernel2Ideal.main_v33)) (v4 : (c : Dev Cert.Kernel2Ideal.nD) → Buf (Elt Ideal) ((c.tc : Thread Cert.Kernel2Ideal.nD Cert.Kernel2Ideal.τ).loc Cert.Kernel2Ideal.main_v13)) (v5 : (c : Dev Cert.Kernel2Ideal.nD) → Buf (Elt Ideal) ((c.tc : Thread Cert.Kernel2Ideal.nD Cert.Kernel2Ideal.τ).loc Cert.Kernel2Ideal.main_v16_1)) (v6 : (c : Dev Cert.Kernel2Ideal.nD) → Buf (Elt Ideal) ((c.tc : Thread Cert.Kernel2Ideal.nD Cert.Kernel2Ideal.τ).loc Cert.Kernel2Ideal.main_v19_1)) (v7 : (c : Dev Cert.Kernel2Ideal.nD) → Buf (Elt Ideal) ((c.tc : Thread Cert.Kernel2Ideal.nD Cert.Kernel2Ideal.τ).loc Cert.Kernel2Ideal.main_v21)) (v8 : (c : Dev Cert.Kernel2Ideal.nD) → Buf (Elt Ideal) ((c.tc : Thread Cert.Kernel2Ideal.nD Cert.Kernel2Ideal.τ).loc Cert.Kernel2Ideal.main_v23_1)) (v9 : (c : Dev Cert.Kernel2Ideal.nD) → Buf (Elt Ideal) ((c.tc : Thread Cert.Kernel2Ideal.nD Cert.Kernel2Ideal.τ).loc Cert.Kernel2Ideal.main_v26_1)) (v10 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_v31) = v1 c
          ∧ r.2.mem ((c.tc : Thread Cert.Kernel2Ideal.nD Cert.Kernel2Ideal.τ).loc Cert.Kernel2Ideal.main_v32) = v2 c
          ∧ r.2.mem ((c.tc : Thread Cert.Kernel2Ideal.nD Cert.Kernel2Ideal.τ).loc Cert.Kernel2Ideal.main_v33) = v3 c
          ∧ r.2.mem ((c.tc : Thread Cert.Kernel2Ideal.nD Cert.Kernel2Ideal.τ).loc Cert.Kernel2Ideal.main_v13) = v4 c
          ∧ r.2.mem ((c.tc : Thread Cert.Kernel2Ideal.nD Cert.Kernel2Ideal.τ).loc Cert.Kernel2Ideal.main_v16_1) = v5 c
          ∧ r.2.mem ((c.tc : Thread Cert.Kernel2Ideal.nD Cert.Kernel2Ideal.τ).loc Cert.Kernel2Ideal.main_v19_1) = v6 c
          ∧ r.2.mem ((c.tc : Thread Cert.Kernel2Ideal.nD Cert.Kernel2Ideal.τ).loc Cert.Kernel2Ideal.main_v21) = v7 c
          ∧ r.2.mem ((c.tc : Thread Cert.Kernel2Ideal.nD Cert.Kernel2Ideal.τ).loc Cert.Kernel2Ideal.main_v23_1) = v8 c
          ∧ r.2.mem ((c.tc : Thread Cert.Kernel2Ideal.nD Cert.Kernel2Ideal.τ).loc Cert.Kernel2Ideal.main_v26_1) = v9 c
          ∧ r.2.mem ((c.tc : Thread Cert.Kernel2Ideal.nD Cert.Kernel2Ideal.τ).loc Cert.Kernel2Ideal.main_v29) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_v67) = v4 c
          ∧ r.2.mem ((c.tc : Thread Cert.Reference2Ideal.nD Cert.Reference2Ideal.τ).loc Cert.Reference2Ideal.main_v69) = v5 c
          ∧ r.2.mem ((c.tc : Thread Cert.Reference2Ideal.nD Cert.Reference2Ideal.τ).loc Cert.Reference2Ideal.main_v71) = v6 c
          ∧ r.2.mem ((c.tc : Thread Cert.Reference2Ideal.nD Cert.Reference2Ideal.τ).loc Cert.Reference2Ideal.main_v73) = v7 c
          ∧ r.2.mem ((c.tc : Thread Cert.Reference2Ideal.nD Cert.Reference2Ideal.τ).loc Cert.Reference2Ideal.main_v75) = v8 c
          ∧ r.2.mem ((c.tc : Thread Cert.Reference2Ideal.nD Cert.Reference2Ideal.τ).loc Cert.Reference2Ideal.main_v77) = v9 c
          ∧ r.2.mem ((c.tc : Thread Cert.Reference2Ideal.nD Cert.Reference2Ideal.τ).loc Cert.Reference2Ideal.main_v79) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v30)) (v1 : (c : Dev Cert.Kernel3Ideal.nD) → Buf (Elt Ideal) ((c.tc : Thread Cert.Kernel3Ideal.nD Cert.Kernel3Ideal.τ).loc Cert.Kernel3Ideal.main_v31)) (v2 : (c : Dev Cert.Kernel3Ideal.nD) → Buf (Elt Ideal) ((c.tc : Thread Cert.Kernel3Ideal.nD Cert.Kernel3Ideal.τ).loc Cert.Kernel3Ideal.main_v32)) (v3 : (c : Dev Cert.Kernel3Ideal.nD) → Buf (Elt Ideal) ((c.tc : Thread Cert.Kernel3Ideal.nD Cert.Kernel3Ideal.τ).loc Cert.Kernel3Ideal.main_v33)) (v4 : (c : Dev Cert.Kernel3Ideal.nD) → Buf (Elt Ideal) ((c.tc : Thread Cert.Kernel3Ideal.nD Cert.Kernel3Ideal.τ).loc Cert.Kernel3Ideal.main_v13)) (v5 : (c : Dev Cert.Kernel3Ideal.nD) → Buf (Elt Ideal) ((c.tc : Thread Cert.Kernel3Ideal.nD Cert.Kernel3Ideal.τ).loc Cert.Kernel3Ideal.main_v21)) (v6 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30) = v0 c
          ∧ r.2.mem ((c.tc : Thread Cert.Kernel3Ideal.nD Cert.Kernel3Ideal.τ).loc Cert.Kernel3Ideal.main_v31) = v1 c
          ∧ r.2.mem ((c.tc : Thread Cert.Kernel3Ideal.nD Cert.Kernel3Ideal.τ).loc Cert.Kernel3Ideal.main_v32) = v2 c
          ∧ r.2.mem ((c.tc : Thread Cert.Kernel3Ideal.nD Cert.Kernel3Ideal.τ).loc Cert.Kernel3Ideal.main_v33) = v3 c
          ∧ r.2.mem ((c.tc : Thread Cert.Kernel3Ideal.nD Cert.Kernel3Ideal.τ).loc Cert.Kernel3Ideal.main_v13) = v4 c
          ∧ r.2.mem ((c.tc : Thread Cert.Kernel3Ideal.nD Cert.Kernel3Ideal.τ).loc Cert.Kernel3Ideal.main_v21) = v5 c
          ∧ r.2.mem ((c.tc : Thread Cert.Kernel3Ideal.nD Cert.Kernel3Ideal.τ).loc Cert.Kernel3Ideal.main_v29) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_v66) = v4 c
          ∧ r.2.mem ((c.tc : Thread Cert.Reference3Ideal.nD Cert.Reference3Ideal.τ).loc Cert.Reference3Ideal.main_v67) = v5 c
          ∧ r.2.mem ((c.tc : Thread Cert.Reference3Ideal.nD Cert.Reference3Ideal.τ).loc Cert.Reference3Ideal.main_v69) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "neg" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x1024 : Shape := ⟨2, ![16384, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .bf16) (main_arg1 : FVec F S16384x1024 .bf16) (main_arg2 : FVec F S16384x1024 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  main_v10
-- ==== Pre_finite5.lean ====
abbrev S1 : Shape := ⟨1, ![1]⟩
abbrev S16384x1024 : Shape := ⟨2, ![16384, 1024]⟩
abbrev S256 : Shape := ⟨1, ![256]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S1 .f32) (main_arg1 : FVec F S16384x1024 .bf16) (main_arg2 : FVec F S16384x1024 .bf16) (main_arg3 : FVec F S16384x1024 .bf16) (main_arg4 : FVec F S256 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S16384x1024 .f32 := (extf .f32 · bitsLt_bf16_f32) main_arg3
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v3 main_v8
  main_v9
-- ==== Kernel.lean ====
abbrev S16384x1024 : Shape := ⟨2, ![16384, 1024]⟩
abbrev S256x128 : Shape := ⟨2, ![256, 128]⟩
abbrev S2048x128 : Shape := ⟨2, ![2048, 128]⟩
abbrev S256x256 : Shape := ⟨2, ![256, 256]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v8 : BitVec 32 := Scalar.addi arg2 c1_i32
  let v11 : BitVec 32 := Scalar.subi v8 c0_i32
  let c1_i32_4 : BitVec 32 := 1#32
  let v13 : BitVec 32 := Scalar.divsi v11 c1_i32_4
  let v14 : BitVec 32 := Scalar.muli v13 c1_i32_4
  let v15 : BitVec 32 := Scalar.addi c0_i32 v14
  let c1_i32_5 : BitVec 32 := 1#32
  ⟨c0_i32, v15, c1_i32_5⟩
def k0_mult1 (i : grid0.Coords) (k0_t1 : Fin (k0_t1_loop i).trips) : BitVec 32 :=
  let arg2 : BitVec 32 := BitVec.ofNat 32 (i 2).val
  let c0_i32 : BitVec 32 := 0#32
  let c1_i32_5 : BitVec 32 := 1#32
  let arg7 : BitVec 32 := Scf.iv c0_i32 c1_i32_5 k0_t1
  let v20 : BitVec 32 := Scalar.subi arg2 arg7
  let c256_i32 : BitVec 32 := 256#32
  let v21 : BitVec 32 := Scalar.muli v20 c256_i32
  v21
def k0_off1 (i : grid0.Coords) (k0_t1 : Fin (k0_t1_loop i).trips) : Fin 2 → Nat :=
  let arg2 : BitVec 32 := BitVec.ofNat 32 (i 2).val
  let c0_i32 : BitVec 32 := 0#32
  let c1_i32_5 : BitVec 32 := 1#32
  let arg7 : BitVec 32 := Scf.iv c0_i32 c1_i32_5 k0_t1
  let v20 : BitVec 32 := Scalar.subi arg2 arg7
  let c256_i32 : BitVec 32 := 256#32
  let v21 : BitVec 32 := Scalar.muli v20 c256_i32
  let v22 : BitVec 32 := v21
  let v23 : Index := Scalar.indexCast v22
  let c0_9 : Index := 0#32
  ![v23.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v8 : BitVec 32 := Scalar.addi arg2 c1_i32
  let v11 : BitVec 32 := Scalar.subi v8 c0_i32
  let c1_i32_4 : BitVec 32 := 1#32
  let v13 : BitVec 32 := Scalar.divsi v11 c1_i32_4
  let v14 : BitVec 32 := Scalar.muli v13 c1_i32_4
  let v15 : BitVec 32 := Scalar.addi c0_i32 v14
  let v12 : BitVec 32 := Scalar.addi c0_i32 v11
  let c1_i32_6 : BitVec 32 := 1#32
  ⟨v15, v12, c1_i32_6⟩
def k0_mult2 (i : grid0.Coords) (k0_t2 : Fin (k0_t2_loop i).trips) : BitVec 32 :=
  let arg2 : BitVec 32 := BitVec.ofNat 32 (i 2).val
  let c0_i32 : BitVec 32 := 0#32
  let c1_i32 : BitVec 32 := 1#32
  let v8 : BitVec 32 := Scalar.addi arg2 c1_i32
  let v11 : BitVec 32 := Scalar.subi v8 c0_i32
  let c1_i32_4 : BitVec 32 := 1#32
  let v13 : BitVec 32 := Scalar.divsi v11 c1_i32_4
  let v14 : BitVec 32 := Scalar.muli v13 c1_i32_4
  let v15 : BitVec 32 := Scalar.addi c0_i32 v14
  let c1_i32_6 : BitVec 32 := 1#32
  let arg7 : BitVec 32 := Scf.iv v15 c1_i32_6 k0_t2
  let v20 : BitVec 32 := Scalar.subi arg2 arg7
  let c256_i32 : BitVec 32 := 256#32
  let v21 : BitVec 32 := Scalar.muli v20 c256_i32
  v21
def k0_off2 (i : grid0.Coords) (k0_t2 : Fin (k0_t2_loop i).trips) : Fin 2 → Nat :=
  let arg2 : BitVec 32 := BitVec.ofNat 32 (i 2).val
  let c0_i32 : BitVec 32 := 0#32
  let c1_i32 : BitVec 32 := 1#32
  let v8 : BitVec 32 := Scalar.addi arg2 c1_i32
  let v11 : BitVec 32 := Scalar.subi v8 c0_i32
  let c1_i32_4 : BitVec 32 := 1#32
  let v13 : BitVec 32 := Scalar.divsi v11 c1_i32_4
  let v14 : BitVec 32 := Scalar.muli v13 c1_i32_4
  let v15 : BitVec 32 := Scalar.addi c0_i32 v14
  let c1_i32_6 : BitVec 32 := 1#32
  let arg7 : BitVec 32 := Scf.iv v15 c1_i32_6 k0_t2
  let v20 : BitVec 32 := Scalar.subi arg2 arg7
  let c256_i32 : BitVec 32 := 256#32
  let v21 : BitVec 32 := Scalar.muli v20 c256_i32
  let v22 : BitVec 32 := v21
  let v23 : Index := Scalar.indexCast v22
  let c0_9 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x1024 : Shape := ⟨2, ![16384, 1024]⟩
abbrev S8x2048x8x128 : Shape := ⟨4, ![8, 2048, 8, 128]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S8x2048x8x128, .f32⟩
  | .hbm, ⟨5, _⟩ => ⟨S16384x1024, .f32⟩
  | .hbm, ⟨6, _⟩ => ⟨S8x2048x8x128, .f32⟩
  | .hbm, ⟨7, _⟩ => ⟨S16384x1024, .f32⟩
  | .hbm, ⟨8, _⟩ => ⟨S8x2048x8x128, .f32⟩
  | .hbm, ⟨9, _⟩ => ⟨S2048, .i32⟩
  | .hbm, ⟨10, _⟩ => ⟨S8x8x2048x2048, .f32⟩
  | .hbm, ⟨11, _⟩ => ⟨S_, .f32⟩
  | .hbm, ⟨12, _⟩ => ⟨S8x8x2048x2048, .f32⟩
  | .hbm, ⟨13, _⟩ => ⟨S8x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048x2048, .f32⟩
  | .hbm, ⟨23, _⟩ => ⟨S8x8x2048x2048, .f32⟩
  | .hbm, ⟨24, _⟩ => ⟨S8x8x2048x2048, .f32⟩
  | .hbm, ⟨25, _⟩ => ⟨S8x8x2048x2048, .f32⟩
  | .hbm, ⟨26, _⟩ => ⟨S8x8x2048x2048, .i1⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S_, .f32⟩
  | .hbm, ⟨38, _⟩ => ⟨S8x8x2048x2048, .i1⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S_, .f32⟩
  | .hbm, ⟨43, _⟩ => ⟨S8x8x2048x2048, .f32⟩
  | .hbm, ⟨44, _⟩ => ⟨S8x8x2048x2048, .f32⟩
  | .hbm, ⟨45, _⟩ => ⟨S8x8x2048x2048, .f32⟩
  | .hbm, ⟨46, _⟩ => ⟨S_, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S8x8x2048x2048, .f32⟩
  | .hbm, ⟨51, _⟩ => ⟨S8x8x2048x2048, .i1⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .f32⟩
  | .hbm, ⟨63, _⟩ => ⟨S_, .f32⟩
  | .hbm, ⟨64, _⟩ => ⟨S_, .f32⟩
  | .hbm, ⟨65, _⟩ => ⟨S8x8x2048x2048, .i1⟩
  | .hbm, ⟨66, _⟩ => ⟨S8x8x2048x2048, .f32⟩
  | .hbm, ⟨67, _⟩ => ⟨S8x8x2048x2048, .f32⟩
  | .hbm, ⟨68, _⟩ => ⟨S8x8x128x2048, .f32⟩
  | .hbm, ⟨69, _⟩ => ⟨S8x2048x8x128, .f32⟩
  | .hbm, ⟨70, _⟩ => ⟨S16384x1024, .f32⟩
  | .hbm, ⟨71, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S2048x10240 : Shape := ⟨2, ![2048, 10240]⟩
abbrev S128 : Shape := ⟨1, ![128]⟩
abbrev S2048x1024 : Shape := ⟨2, ![2048, 1024]⟩
abbrev S2048x4096 : Shape := ⟨2, ![2048, 4096]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S_ : Shape := ⟨0, ![]⟩
abbrev S1x128 : Shape := ⟨2, ![1, 128]⟩
abbrev S16384x1024 : Shape := ⟨2, ![16384, 1024]⟩
abbrev S512x1024 : Shape := ⟨2, ![512, 1024]⟩
abbrev S512x128 : Shape := ⟨2, ![512, 128]⟩
abbrev S16384x4096 : Shape := ⟨2, ![16384, 4096]⟩
abbrev S8x2048x8x128 : Shape := ⟨4, ![8, 2048, 8, 128]⟩
abbrev S8x2048x4x2x128 : Shape := ⟨5, ![8, 2048, 4, 2, 128]⟩
abbrev S8x2048x4x256 : Shape := ⟨4, ![8, 2048, 4, 256]⟩

abbrev nBuf : Space → Nat
  | .hbm => 48
  | .vmem => 56
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x10240, .f32⟩
  | .hbm, ⟨3, _⟩ => ⟨S128, .f32⟩
  | .hbm, ⟨4, _⟩ => ⟨S128, .f32⟩
  | .hbm, ⟨5, _⟩ => ⟨S2048x10240, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x4096, .bf16⟩
  | .hbm, ⟨13, _⟩ => ⟨S16384x2048, .f32⟩
  | .hbm, ⟨14, _⟩ => ⟨S1x2048, .f32⟩
  | .hbm, ⟨15, _⟩ => ⟨S16384x2048, .bf16⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16384x1024, .bf16⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S16384x1024, .f32⟩
  | .hbm, ⟨24, _⟩ => ⟨S16384x1024, .bf16⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S16384x1024, .f32⟩
  | .hbm, ⟨29, _⟩ => ⟨S16384x1024, .bf16⟩
  | .hbm, ⟨30, _⟩ => ⟨S1x128, .f32⟩
  | .hbm, ⟨31, _⟩ => ⟨S16384x1024, .bf16⟩
  | .hbm, ⟨32, _⟩ => ⟨S1x128, .f32⟩
  | .hbm, ⟨33, _⟩ => ⟨S16384x1024, .f32⟩
  | .hbm, ⟨34, _⟩ => ⟨S16384x1024, .bf16⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S16384x1024, .f32⟩
  | .hbm, ⟨39, _⟩ => ⟨S16384x1024, .bf16⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S16384x4096, .bf16⟩
  | .hbm, ⟨44, _⟩ => ⟨S8x2048x8x128, .f32⟩
  | .hbm, ⟨45, _⟩ => ⟨S8x2048x8x128, .f32⟩
  | .hbm, ⟨46, _⟩ => ⟨S8x2048x4x2x128, .f32⟩
  | .hbm, ⟨47, _⟩ => ⟨S8x2048x4x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S2048x1024, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S2048x1024, .bf16⟩
  | .local _ .vmem, ⟨22, _⟩ => ⟨S1x128, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x2048, .bf16⟩
  | .local _ .vmem, ⟨28, _⟩ => ⟨S512x2048, .bf16⟩
  | .local _ .vmem, ⟨29, _⟩ => ⟨S2048x1024, .bf16⟩
  | .local _ .vmem, ⟨30, _⟩ => ⟨S1x128, .f32⟩
  | .local _ .vmem, ⟨31, _⟩ => ⟨S512x1024, .bf16⟩
  | .local _ .vmem, ⟨32, _⟩ => ⟨S512x1024, .bf16⟩
  | .local _ .vmem, ⟨33, _⟩ => ⟨S512x2048, .bf16⟩
  | .local _ .vmem, ⟨34, _⟩ => ⟨S512x2048, .bf16⟩
  | .local _ .vmem, ⟨35, _⟩ => ⟨S2048x1024, .bf16⟩
  | .local _ .vmem, ⟨36, _⟩ => ⟨S1x128, .f32⟩
  | .local _ .vmem, ⟨37, _⟩ => ⟨S512x1024, .f32⟩
  | .local _ .vmem, ⟨38, _⟩ => ⟨S512x1024, .f32⟩
  | .local _ .vmem, ⟨39, _⟩ => ⟨S512x1024, .bf16⟩
  | .local _ .vmem, ⟨40, _⟩ => ⟨S512x1024, .bf16⟩
  | .local _ .vmem, ⟨41, _⟩ => ⟨S512x2048, .bf16⟩
  | .local _ .vmem, ⟨42, _⟩ => ⟨S512x2048, .bf16⟩
  | .local _ .vmem, ⟨43, _⟩ => ⟨S2048x1024, .bf16⟩
  | .local _ .vmem, ⟨44, _⟩ => ⟨S1x128, .f32⟩
  | .local _ .vmem, ⟨45, _⟩ => ⟨S512x1024, .f32⟩
  | .local _ .vmem, ⟨46, _⟩ => ⟨S512x1024, .f32⟩
  | .local _ .vmem, ⟨47, _⟩ => ⟨S512x1024, .bf16⟩
  | .local _ .vmem, ⟨48, _⟩ => ⟨S512x1024, .bf16⟩
  | .local _ .vmem, ⟨49, _⟩ => ⟨S512x2048, .bf16⟩
  | .local _ .vmem, ⟨50, _⟩ => ⟨S512x2048, .bf16⟩
  | .local _ .vmem, ⟨51, _⟩ => ⟨S2048x1024, .bf16⟩
  | .local _ .vmem, ⟨52, _⟩ => ⟨S2048x1024, .bf16⟩
  | .local _ .vmem, ⟨53, _⟩ => ⟨S1x128, .f32⟩
  | .local _ .vmem, ⟨54, _⟩ => ⟨S512x1024, .bf16⟩
  | .local _ .vmem, ⟨55, _⟩ => ⟨S512x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc5_stg4_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc6_stg4_0 : Ref sig .tc := ⟨.vmem, 47, rfl⟩
abbrev cc6_stg4_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc5_sem4_0 : DmaSem sig := 39
abbrev cc5_sem4_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem3_1 : DmaSem sig := 46
abbrev cc6_sem4_0 : DmaSem sig := 47
abbrev cc6_sem4_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![32, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![32, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![32, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![32, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![32, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S512x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![32, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S512x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]
-- ==== Reference2Ideal.lean ====
abbrev S8x2048x2048 : Shape := ⟨3, ![8, 2048, 2048]⟩
abbrev S2048 : Shape := ⟨1, ![2048]⟩
abbrev S2048x10240 : Shape := ⟨2, ![2048, 10240]⟩
abbrev S128 : Shape := ⟨1, ![128]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x10240 : Shape := ⟨3, ![8, 2048, 10240]⟩
abbrev S8x2048x1024 : Shape := ⟨3, ![8, 2048, 1024]⟩
abbrev S8x2048x8x128 : Shape := ⟨4, ![8, 2048, 8, 128]⟩
abbrev S8x2048x4x2x128 : Shape := ⟨5, ![8, 2048, 4, 2, 128]⟩
abbrev S8x2048x4x2 : Shape := ⟨4, ![8, 2048, 4, 2]⟩
abbrev S8x2048x4x2x1 : Shape := ⟨5, ![8, 2048, 4, 2, 1]⟩
abbrev S1x1x1x1x128 : Shape := ⟨5, ![1, 1, 1, 1, 128]⟩
abbrev S8x2048x4x256 : Shape := ⟨4, ![8, 2048, 4, 256]⟩
abbrev S8x2048x4096 : Shape := ⟨3, ![8, 2048, 4096]⟩
abbrev S16384x1024 : Shape := ⟨2, ![16384, 1024]⟩
abbrev S16384x4096 : Shape := ⟨2, ![16384, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x10240, .f32⟩
  | .hbm, ⟨3, _⟩ => ⟨S128, .f32⟩
  | .hbm, ⟨4, _⟩ => ⟨S128, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x2048x10240, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x2048, .f32⟩
  | .hbm, ⟨29, _⟩ => ⟨S8x2048x2048, .f32⟩
  | .hbm, ⟨30, _⟩ => ⟨S8x2048x8x128, .f32⟩
  | .hbm, ⟨31, _⟩ => ⟨S8x2048x8x128, .f32⟩
  | .hbm, ⟨32, _⟩ => ⟨S8x2048x4x2x128, .f32⟩
  | .hbm, ⟨33, _⟩ => ⟨S8x2048x4x2x128, .f32⟩
  | .hbm, ⟨34, _⟩ => ⟨S_, .f32⟩
  | .hbm, ⟨35, _⟩ => ⟨S8x2048x4x2, .f32⟩
  | .hbm, ⟨36, _⟩ => ⟨S8x2048x4x2x1, .f32⟩
  | .hbm, ⟨37, _⟩ => ⟨S_, .f32⟩
  | .hbm, ⟨38, _⟩ => ⟨S8x2048x4x2x1, .f32⟩
  | .hbm, ⟨39, _⟩ => ⟨S8x2048x4x2x1, .f32⟩
  | .hbm, ⟨40, _⟩ => ⟨S_, .f32⟩
  | .hbm, ⟨41, _⟩ => ⟨S8x2048x4x2x1, .f32⟩
  | .hbm, ⟨42, _⟩ => ⟨S8x2048x4x2x1, .f32⟩
  | .hbm, ⟨43, _⟩ => ⟨S8x2048x4x2x1, .f32⟩
  | .hbm, ⟨44, _⟩ => ⟨S8x2048x4x2x128, .f32⟩
  | .hbm, ⟨45, _⟩ => ⟨S8x2048x4x2x128, .f32⟩
  | .hbm, ⟨46, _⟩ => ⟨S1x1x1x1x128, .f32⟩
  | .hbm, ⟨47, _⟩ => ⟨S8x2048x4x2x128, .f32⟩
  | .hbm, ⟨48, _⟩ => ⟨S8x2048x4x2x128, .f32⟩
  | .hbm, ⟨49, _⟩ => ⟨S8x2048x4x2x128, .f32⟩
  | .hbm, ⟨50, _⟩ => ⟨S8x2048x4x2x128, .f32⟩
  | .hbm, ⟨51, _⟩ => ⟨S_, .f32⟩
  | .hbm, ⟨52, _⟩ => ⟨S8x2048x4x2, .f32⟩
  | .hbm, ⟨53, _⟩ => ⟨S8x2048x4x2x1, .f32⟩
  | .hbm, ⟨54, _⟩ => ⟨S_, .f32⟩
  | .hbm, ⟨55, _⟩ => ⟨S8x2048x4x2x1, .f32⟩
  | .hbm, ⟨56, _⟩ => ⟨S8x2048x4x2x1, .f32⟩
  | .hbm, ⟨57, _⟩ => ⟨S_, .f32⟩
  | .hbm, ⟨58, _⟩ => ⟨S8x2048x4x2x1, .f32⟩
  | .hbm, ⟨59, _⟩ => ⟨S8x2048x4x2x1, .f32⟩
  | .hbm, ⟨60, _⟩ => ⟨S8x2048x4x2x1, .f32⟩
  | .hbm, ⟨61, _⟩ => ⟨S8x2048x4x2x128, .f32⟩
  | .hbm, ⟨62, _⟩ => ⟨S8x2048x4x2x128, .f32⟩
  | .hbm, ⟨63, _⟩ => ⟨S1x1x1x1x128, .f32⟩
  | .hbm, ⟨64, _⟩ => ⟨S8x2048x4x2x128, .f32⟩
  | .hbm, ⟨65, _⟩ => ⟨S8x2048x4x2x128, .f32⟩
  | .hbm, ⟨66, _⟩ => ⟨S8x2048x4x256, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S_, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048x2048, .f32⟩
  | .hbm, ⟨82, _⟩ => ⟨S8x2048x2048, .f32⟩
  | .hbm, ⟨83, _⟩ => ⟨S8x2048x4096, .f32⟩
  | .hbm, ⟨84, _⟩ => ⟨S16384x1024, .f32⟩
  | .hbm, ⟨85, _⟩ => ⟨S16384x1024, .bf16⟩
  | .hbm, ⟨86, _⟩ => ⟨S16384x1024, .f32⟩
  | .hbm, ⟨87, _⟩ => ⟨S16384x1024, .bf16⟩
  | .hbm, ⟨88, _⟩ => ⟨S16384x1024, .f32⟩
  | .hbm, ⟨89, _⟩ => ⟨S16384x1024, .bf16⟩
  | .hbm, ⟨90, _⟩ => ⟨S16384x1024, .f32⟩
  | .hbm, ⟨91, _⟩ => ⟨S16384x1024, .bf16⟩
  | .hbm, ⟨92, _⟩ => ⟨S16384x1024, .f32⟩
  | .hbm, ⟨93, _⟩ => ⟨S16384x1024, .bf16⟩
  | .hbm, ⟨94, _⟩ => ⟨S16384x1024, .f32⟩
  | .hbm, ⟨95, _⟩ => ⟨S16384x1024, .bf16⟩
  | .hbm, ⟨96, _⟩ => ⟨S16384x4096, .f32⟩
  | .hbm, ⟨97, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Kernel3.lean ====
abbrev S32x4x2048 : Shape := ⟨3, ![32, 4, 2048]⟩
abbrev S2048 : Shape := ⟨1, ![2048]⟩
abbrev S2048x10240 : Shape := ⟨2, ![2048, 10240]⟩
abbrev S128 : Shape := ⟨1, ![128]⟩
abbrev S2048x1024 : Shape := ⟨2, ![2048, 1024]⟩
abbrev S2048x4096 : Shape := ⟨2, ![2048, 4096]⟩
abbrev S128x2048 : Shape := ⟨2, ![128, 2048]⟩
abbrev S1x2048 : Shape := ⟨2, ![1, 2048]⟩
abbrev S128x1 : Shape := ⟨2, ![128, 1]⟩
abbrev S_ : Shape := ⟨0, ![]⟩
abbrev S1x128 : Shape := ⟨2, ![1, 128]⟩
abbrev S128x1024 : Shape := ⟨2, ![128, 1024]⟩
abbrev S128x128 : Shape := ⟨2, ![128, 128]⟩
abbrev S128x4096 : Shape := ⟨2, ![128, 4096]⟩
abbrev S32x4x8x128 : Shape := ⟨4, ![32, 4, 8, 128]⟩
abbrev S32x4x4x2x128 : Shape := ⟨5, ![32, 4, 4, 2, 128]⟩
abbrev S32x4x4x256 : Shape := ⟨4, ![32, 4, 4, 256]⟩

abbrev nBuf : Space → Nat
  | .hbm => 44
  | .vmem => 33
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x10240, .f32⟩
  | .hbm, ⟨3, _⟩ => ⟨S128, .f32⟩
  | .hbm, ⟨4, _⟩ => ⟨S128, .f32⟩
  | .hbm, ⟨5, _⟩ => ⟨S2048x10240, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x4096, .bf16⟩
  | .hbm, ⟨13, _⟩ => ⟨S128x2048, .f32⟩
  | .hbm, ⟨14, _⟩ => ⟨S1x2048, .f32⟩
  | .hbm, ⟨15, _⟩ => ⟨S128x2048, .bf16⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S128x1024, .f32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S128x1024, .f32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S128x1024, .f32⟩
  | .hbm, ⟨28, _⟩ => ⟨S1x128, .f32⟩
  | .hbm, ⟨29, _⟩ => ⟨S128x1024, .f32⟩
  | .hbm, ⟨30, _⟩ => ⟨S1x128, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S128x1024, .f32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S128x4096, .bf16⟩
  | .hbm, ⟨40, _⟩ => ⟨S32x4x8x128, .f32⟩
  | .hbm, ⟨41, _⟩ => ⟨S32x4x8x128, .f32⟩
  | .hbm, ⟨42, _⟩ => ⟨S32x4x4x2x128, .f32⟩
  | .hbm, ⟨43, _⟩ => ⟨S32x4x4x256, .f32⟩
  | .local _ .vmem, ⟨0, _⟩ => ⟨S128x2048, .f32⟩
  | .local _ .vmem, ⟨1, _⟩ => ⟨S1x2048, .f32⟩
  | .local _ .vmem, ⟨2, _⟩ => ⟨S128x2048, .bf16⟩
  | .local _ .vmem, ⟨3, _⟩ => ⟨S128x2048, .bf16⟩
  | .local _ .vmem, ⟨4, _⟩ => ⟨S2048x1024, .bf16⟩
  | .local _ .vmem, ⟨5, _⟩ => ⟨S1x128, .f32⟩
  | .local _ .vmem, ⟨6, _⟩ => ⟨S128x1024, .f32⟩
  | .local _ .vmem, ⟨7, _⟩ => ⟨S128x2048, .bf16⟩
  | .local _ .vmem, ⟨8, _⟩ => ⟨S2048x1024, .bf16⟩
  | .local _ .vmem, ⟨9, _⟩ => ⟨S1x128, .f32⟩
  | .local _ .vmem, ⟨10, _⟩ => ⟨S128x1024, .f32⟩
  | .local _ .vmem, ⟨11, _⟩ => ⟨S128x2048, .bf16⟩
  | .local _ .vmem, ⟨12, _⟩ => ⟨S2048x1024, .bf16⟩
  | .local _ .vmem, ⟨13, _⟩ => ⟨S1x128, .f32⟩
  | .local _ .vmem, ⟨14, _⟩ => ⟨S128x1024, .f32⟩
  | .local _ .vmem, ⟨15, _⟩ => ⟨S128x2048, .bf16⟩
  | .local _ .vmem, ⟨16, _⟩ => ⟨S2048x1024, .bf16⟩
  | .local _ .vmem, ⟨17, _⟩ => ⟨S1x128, .f32⟩
  | .local _ .vmem, ⟨18, _⟩ => ⟨S128x1024, .f32⟩
  | .local _ .vmem, ⟨19, _⟩ => ⟨S128x2048, .bf16⟩
  | .local _ .vmem, ⟨20, _⟩ => ⟨S2048x1024, .bf16⟩
  | .local _ .vmem, ⟨21, _⟩ => ⟨S1x128, .f32⟩
  | .local _ .vmem, ⟨22, _⟩ => ⟨S128x1024, .f32⟩
  | .local _ .vmem, ⟨23, _⟩ => ⟨S128x2048, .bf16⟩
  | .local _ .vmem, ⟨24, _⟩ => ⟨S2048x1024, .bf16⟩
  | .local _ .vmem, ⟨25, _⟩ => ⟨S1x128, .f32⟩
  | .local _ .vmem, ⟨26, _⟩ => ⟨S128x1024, .f32⟩
  | .local _ .vmem, ⟨27, _⟩ => ⟨S128x2048, .bf16⟩
  | .local _ .vmem, ⟨28, _⟩ => ⟨S2048x1024, .bf16⟩
  | .local _ .vmem, ⟨29, _⟩ => ⟨S2048x1024, .bf16⟩
  | .local _ .vmem, ⟨30, _⟩ => ⟨S1x128, .f32⟩
  | .local _ .vmem, ⟨31, _⟩ => ⟨S128x1024, .bf16⟩
  | .local _ .vmem, ⟨32, _⟩ => ⟨S128x1024, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc3_stg0_0 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg3_0 : Ref sig .tc := ⟨.vmem, 14, rfl⟩
abbrev cc4_stg0_0 : Ref sig .tc := ⟨.vmem, 15, rfl⟩
abbrev cc4_stg1_0 : Ref sig .tc := ⟨.vmem, 16, rfl⟩
abbrev cc4_stg2_0 : Ref sig .tc := ⟨.vmem, 17, rfl⟩
abbrev cc4_stg3_0 : Ref sig .tc := ⟨.vmem, 18, rfl⟩
abbrev cc5_stg0_0 : Ref sig .tc := ⟨.vmem, 19, rfl⟩
abbrev cc5_stg1_0 : Ref sig .tc := ⟨.vmem, 20, rfl⟩
abbrev cc5_stg2_0 : Ref sig .tc := ⟨.vmem, 21, rfl⟩
abbrev cc5_stg3_0 : Ref sig .tc := ⟨.vmem, 22, rfl⟩
abbrev cc6_stg0_0 : Ref sig .tc := ⟨.vmem, 23, rfl⟩
abbrev cc6_stg1_0 : Ref sig .tc := ⟨.vmem, 24, rfl⟩
abbrev cc6_stg2_0 : Ref sig .tc := ⟨.vmem, 25, rfl⟩
abbrev cc6_stg3_0 : Ref sig .tc := ⟨.vmem, 26, rfl⟩
abbrev cc7_stg0_0 : Ref sig .tc := ⟨.vmem, 27, rfl⟩
abbrev cc7_stg1_0 : Ref sig .tc := ⟨.vmem, 28, rfl⟩
abbrev cc7_stg1_1 : Ref sig .tc := ⟨.vmem, 29, rfl⟩
abbrev cc7_stg2_0 : Ref sig .tc := ⟨.vmem, 30, rfl⟩
abbrev cc7_stg3_0 : Ref sig .tc := ⟨.vmem, 31, rfl⟩
abbrev cc7_stg3_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem2_0 : DmaSem sig := 9
abbrev cc2_sem3_0 : DmaSem sig := 10
abbrev cc3_sem0_0 : DmaSem sig := 11
abbrev cc3_sem1_0 : DmaSem sig := 12
abbrev cc3_sem2_0 : DmaSem sig := 13
abbrev cc3_sem3_0 : DmaSem sig := 14
abbrev cc4_sem0_0 : DmaSem sig := 15
abbrev cc4_sem1_0 : DmaSem sig := 16
abbrev cc4_sem2_0 : DmaSem sig := 17
abbrev cc4_sem3_0 : DmaSem sig := 18
abbrev cc5_sem0_0 : DmaSem sig := 19
abbrev cc5_sem1_0 : DmaSem sig := 20
abbrev cc5_sem2_0 : DmaSem sig := 21
abbrev cc5_sem3_0 : DmaSem sig := 22
abbrev cc6_sem0_0 : DmaSem sig := 23
abbrev cc6_sem1_0 : DmaSem sig := 24
abbrev cc6_sem2_0 : DmaSem sig := 25
abbrev cc6_sem3_0 : DmaSem sig := 26
abbrev cc7_sem0_0 : DmaSem sig := 27
abbrev cc7_sem1_0 : DmaSem sig := 28
abbrev cc7_sem1_1 : DmaSem sig := 29
abbrev cc7_sem2_0 : DmaSem sig := 30
abbrev cc7_sem3_0 : DmaSem sig := 31
abbrev cc7_sem3_1 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S128x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S128x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S128x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S128x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S128x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S128x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true, true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S128x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S128x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]
-- ==== Reference3Ideal.lean ====
abbrev S32x4x2048 : Shape := ⟨3, ![32, 4, 2048]⟩
abbrev S2048 : Shape := ⟨1, ![2048]⟩
abbrev S2048x10240 : Shape := ⟨2, ![2048, 10240]⟩
abbrev S128 : Shape := ⟨1, ![128]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x10240 : Shape := ⟨3, ![32, 4, 10240]⟩
abbrev S32x4x1024 : Shape := ⟨3, ![32, 4, 1024]⟩
abbrev S32x4x8x128 : Shape := ⟨4, ![32, 4, 8, 128]⟩
abbrev S32x4x4x2x128 : Shape := ⟨5, ![32, 4, 4, 2, 128]⟩
abbrev S32x4x4x2 : Shape := ⟨4, ![32, 4, 4, 2]⟩
abbrev S32x4x4x2x1 : Shape := ⟨5, ![32, 4, 4, 2, 1]⟩
abbrev S1x1x1x1x128 : Shape := ⟨5, ![1, 1, 1, 1, 128]⟩
abbrev S32x4x4x256 : Shape := ⟨4, ![32, 4, 4, 256]⟩
abbrev S32x4x4096 : Shape := ⟨3, ![32, 4, 4096]⟩
abbrev S128x1024 : Shape := ⟨2, ![128, 1024]⟩
abbrev S128x4096 : Shape := ⟨2, ![128, 4096]⟩

abbrev nBuf : Space → Nat
  | .hbm => 88
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x10240, .f32⟩
  | .hbm, ⟨3, _⟩ => ⟨S128, .f32⟩
  | .hbm, ⟨4, _⟩ => ⟨S128, .f32⟩
  | .hbm, ⟨5, _⟩ => ⟨S32x4x2048, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x2048, .f32⟩
  | .hbm, ⟨17, _⟩ => ⟨S32x4x2048, .f32⟩
  | .hbm, ⟨18, _⟩ => ⟨S1x1x2048, .f32⟩
  | .hbm, ⟨19, _⟩ => ⟨S32x4x2048, .f32⟩
  | .hbm, ⟨20, _⟩ => ⟨S32x4x2048, .f32⟩
  | .hbm, ⟨21, _⟩ => ⟨S32x4x10240, .f32⟩
  | .hbm, ⟨22, _⟩ => ⟨S32x4x1024, .f32⟩
  | .hbm, ⟨23, _⟩ => ⟨S32x4x1024, .f32⟩
  | .hbm, ⟨24, _⟩ => ⟨S32x4x1024, .f32⟩
  | .hbm, ⟨25, _⟩ => ⟨S32x4x1024, .f32⟩
  | .hbm, ⟨26, _⟩ => ⟨S32x4x1024, .f32⟩
  | .hbm, ⟨27, _⟩ => ⟨S32x4x1024, .f32⟩
  | .hbm, ⟨28, _⟩ => ⟨S32x4x2048, .f32⟩
  | .hbm, ⟨29, _⟩ => ⟨S32x4x2048, .f32⟩
  | .hbm, ⟨30, _⟩ => ⟨S32x4x8x128, .f32⟩
  | .hbm, ⟨31, _⟩ => ⟨S32x4x8x128, .f32⟩
  | .hbm, ⟨32, _⟩ => ⟨S32x4x4x2x128, .f32⟩
  | .hbm, ⟨33, _⟩ => ⟨S32x4x4x2x128, .f32⟩
  | .hbm, ⟨34, _⟩ => ⟨S_, .f32⟩
  | .hbm, ⟨35, _⟩ => ⟨S32x4x4x2, .f32⟩
  | .hbm, ⟨36, _⟩ => ⟨S32x4x4x2x1, .f32⟩
  | .hbm, ⟨37, _⟩ => ⟨S_, .f32⟩
  | .hbm, ⟨38, _⟩ => ⟨S32x4x4x2x1, .f32⟩
  | .hbm, ⟨39, _⟩ => ⟨S32x4x4x2x1, .f32⟩
  | .hbm, ⟨40, _⟩ => ⟨S_, .f32⟩
  | .hbm, ⟨41, _⟩ => ⟨S32x4x4x2x1, .f32⟩
  | .hbm, ⟨42, _⟩ => ⟨S32x4x4x2x1, .f32⟩
  | .hbm, ⟨43, _⟩ => ⟨S32x4x4x2x1, .f32⟩
  | .hbm, ⟨44, _⟩ => ⟨S32x4x4x2x128, .f32⟩
  | .hbm, ⟨45, _⟩ => ⟨S32x4x4x2x128, .f32⟩
  | .hbm, ⟨46, _⟩ => ⟨S1x1x1x1x128, .f32⟩
  | .hbm, ⟨47, _⟩ => ⟨S32x4x4x2x128, .f32⟩
  | .hbm, ⟨48, _⟩ => ⟨S32x4x4x2x128, .f32⟩
  | .hbm, ⟨49, _⟩ => ⟨S32x4x4x2x128, .f32⟩
  | .hbm, ⟨50, _⟩ => ⟨S32x4x4x2x128, .f32⟩
  | .hbm, ⟨51, _⟩ => ⟨S_, .f32⟩
  | .hbm, ⟨52, _⟩ => ⟨S32x4x4x2, .f32⟩
  | .hbm, ⟨53, _⟩ => ⟨S32x4x4x2x1, .f32⟩
  | .hbm, ⟨54, _⟩ => ⟨S_, .f32⟩
  | .hbm, ⟨55, _⟩ => ⟨S32x4x4x2x1, .f32⟩
  | .hbm, ⟨56, _⟩ => ⟨S32x4x4x2x1, .f32⟩
  | .hbm, ⟨57, _⟩ => ⟨S_, .f32⟩
  | .hbm, ⟨58, _⟩ => ⟨S32x4x4x2x1, .f32⟩
  | .hbm, ⟨59, _⟩ => ⟨S32x4x4x2x1, .f32⟩
  | .hbm, ⟨60, _⟩ => ⟨S32x4x4x2x1, .f32⟩
  | .hbm, ⟨61, _⟩ => ⟨S32x4x4x2x128, .f32⟩
  | .hbm, ⟨62, _⟩ => ⟨S32x4x4x2x128, .f32⟩
  | .hbm, ⟨63, _⟩ => ⟨S1x1x1x1x128, .f32⟩
  | .hbm, ⟨64, _⟩ => ⟨S32x4x4x2x128, .f32⟩
  | .hbm, ⟨65, _⟩ => ⟨S32x4x4x2x128, .f32⟩
  | .hbm, ⟨66, _⟩ => ⟨S32x4x4x256, .f32⟩
  | .hbm, ⟨67, _⟩ => ⟨S32x4x2048, .f32⟩
  | .hbm, ⟨68, _⟩ => ⟨S32x4x2048, .f32⟩
  | .hbm, ⟨69, _⟩ => ⟨S_, .f32⟩
  | .hbm, ⟨70, _⟩ => ⟨S32x4x2048, .f32⟩
  | .hbm, ⟨71, _⟩ => ⟨S32x4x2048, .f32⟩
  | .hbm, ⟨72, _⟩ => ⟨S_, .f32⟩
  | .hbm, ⟨73, _⟩ => ⟨S32x4x2048, .f32⟩
  | .hbm, ⟨74, _⟩ => ⟨S32x4x2048, .f32⟩
  | .hbm, ⟨75, _⟩ => ⟨S32x4x2048, .f32⟩
  | .hbm, ⟨76, _⟩ => ⟨S32x4x2048, .f32⟩
  | .hbm, ⟨77, _⟩ => ⟨S_, .f32⟩
  | .hbm, ⟨78, _⟩ => ⟨S32x4x2048, .f32⟩
  | .hbm, ⟨79, _⟩ => ⟨S32x4x2048, .f32⟩
  | .hbm, ⟨80, _⟩ => ⟨S_, .f32⟩
  | .hbm, ⟨81, _⟩ => ⟨S32x4x2048, .f32⟩
  | .hbm, ⟨82, _⟩ => ⟨S32x4x2048, .f32⟩
  | .hbm, ⟨83, _⟩ => ⟨S32x4x4096, .f32⟩
  | .hbm, ⟨84, _⟩ => ⟨S128x1024, .f32⟩
  | .hbm, ⟨85, _⟩ => ⟨S128x1024, .f32⟩
  | .hbm, ⟨86, _⟩ => ⟨S128x4096, .f32⟩
  | .hbm, ⟨87, _⟩ => ⟨S128x4096, .bf16⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_cst_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel4.lean ====
abbrev S16384x1024 : Shape := ⟨2, ![16384, 1024]⟩
abbrev S16384x4096 : Shape := ⟨2, ![16384, 4096]⟩
abbrev S8x2048x2048 : Shape := ⟨3, ![8, 2048, 2048]⟩
abbrev S1024x2048 : Shape := ⟨2, ![1024, 2048]⟩
abbrev S2048x2048 : Shape := ⟨2, ![2048, 2048]⟩
abbrev S16384x2048 : Shape := ⟨2, ![16384, 2048]⟩
abbrev S512x1024 : Shape := ⟨2, ![512, 1024]⟩
abbrev S1024x1024 : Shape := ⟨2, ![1024, 1024]⟩
abbrev S512x2048 : Shape := ⟨2, ![512, 2048]⟩
abbrev S2048x1024 : Shape := ⟨2, ![2048, 1024]⟩

abbrev nBuf : Space → Nat
  | .hbm => 13
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S16384x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S16384x2048, .bf16⟩
  | .hbm, ⟨12, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S2048x1024, .bf16⟩
  | .local _ .vmem, ⟨17, _⟩ => ⟨S2048x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference4Ideal.lean ====
abbrev S16384x1024 : Shape := ⟨2, ![16384, 1024]⟩
abbrev S16384x4096 : Shape := ⟨2, ![16384, 4096]⟩
abbrev S8x2048x2048 : Shape := ⟨3, ![8, 2048, 2048]⟩
abbrev S1024x2048 : Shape := ⟨2, ![1024, 2048]⟩
abbrev S2048x2048 : Shape := ⟨2, ![2048, 2048]⟩
abbrev S8x2048x1024 : Shape := ⟨3, ![8, 2048, 1024]⟩
abbrev S8x2048x4096 : Shape := ⟨3, ![8, 2048, 4096]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S16384x1024, .f32⟩
  | .hbm, ⟨8, _⟩ => ⟨S8x2048x1024, .f32⟩
  | .hbm, ⟨9, _⟩ => ⟨S16384x1024, .f32⟩
  | .hbm, ⟨10, _⟩ => ⟨S8x2048x1024, .f32⟩
  | .hbm, ⟨11, _⟩ => ⟨S16384x4096, .f32⟩
  | .hbm, ⟨12, _⟩ => ⟨S8x2048x4096, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S1 : Shape := ⟨1, ![1]⟩
abbrev S16384x1024 : Shape := ⟨2, ![16384, 1024]⟩
abbrev S256 : Shape := ⟨1, ![256]⟩
abbrev S4 : Shape := ⟨1, ![4]⟩
abbrev S1x256 : Shape := ⟨2, ![1, 256]⟩
abbrev S256x256 : Shape := ⟨2, ![256, 256]⟩
abbrev S2048x256 : Shape := ⟨2, ![2048, 256]⟩
abbrev S256x1 : Shape := ⟨2, ![256, 1]⟩
abbrev S256x128 : Shape := ⟨2, ![256, 128]⟩

abbrev nBuf : Space → Nat
  | .hbm => 8
  | .vmem => 9
  | .smem => 2
  | _ => 0

abbrev bufTy : (tb : Table) → Fin (tcTables nBuf tb) → BufTy
  | .hbm, ⟨0, _⟩ => ⟨S1, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S256, .f32⟩
  | .hbm, ⟨5, _⟩ => ⟨S4, .f32⟩
  | .hbm, ⟨6, _⟩ => ⟨S1x256, .f32⟩
  | .hbm, ⟨7, _⟩ => ⟨S16384x1024, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .smem, ⟨0, _⟩ => ⟨S1, .f32⟩
  | .local _ .smem, ⟨1, _⟩ => ⟨S4, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 1 → Nat :=
  let arg1 : BitVec 32 := BitVec.ofNat 32 (i 1).val
  let v3 : Index := Scalar.indexCast arg1
  ![v3.toNat]
@[reducible] def k0_t1_loop (i : grid0.Coords) : Scf.Loop 32 :=
  let c0_i32 : BitVec 32 := 0#32
  let arg2 : BitVec 32 := BitVec.ofNat 32 (i 2).val
  let c1_i32 : BitVec 32 := 1#32
  let v9 : BitVec 32 := Scalar.addi arg2 c1_i32
  let v10 : BitVec 32 := Scalar.subi v9 c0_i32
  let c1_i32_4 : BitVec 32 := 1#32
  let v12 : BitVec 32 := Scalar.divsi v10 c1_i32_4
  let v13 : BitVec 32 := Scalar.muli v12 c1_i32_4
  let v14 : BitVec 32 := Scalar.addi c0_i32 v13
  let c1_i32_5 : BitVec 32 := 1#32
  ⟨c0_i32, v14, c1_i32_5⟩
def k0_mult1 (i : grid0.Coords) (k0_t1 : Fin (k0_t1_loop i).trips) : BitVec 32 :=
  let c0_i32 : BitVec 32 := 0#32
  let c1_i32_5 : BitVec 32 := 1#32
  let arg10 : BitVec 32 := Scf.iv c0_i32 c1_i32_5 k0_t1
  let c256_i32 : BitVec 32 := 256#32
  let v42 : BitVec 32 := Scalar.muli arg10 c256_i32
  v42
def k0_off2 (i : grid0.Coords) (k0_t1 : Fin (k0_t1_loop i).trips) : Fin 2 → Nat :=
  let c0_i32 : BitVec 32 := 0#32
  let c1_i32_5 : BitVec 32 := 1#32
  let arg10 : BitVec 32 := Scf.iv c0_i32 c1_i32_5 k0_t1
  let c256_i32 : BitVec 32 := 256#32
  let v42 : BitVec 32 := Scalar.muli arg10 c256_i32
  let v43 : BitVec 32 := v42
  let v44 : Index := Scalar.indexCast v43
  let c0_15 : Index := 0#32
  ![v44.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v9 : BitVec 32 := Scalar.addi arg2 c1_i32
  let v10 : BitVec 32 := Scalar.subi v9 c0_i32
  let c1_i32_4 : BitVec 32 := 1#32
  let v12 : BitVec 32 := Scalar.divsi v10 c1_i32_4
  let v13 : BitVec 32 := Scalar.muli v12 c1_i32_4
  let v14 : BitVec 32 := Scalar.addi c0_i32 v13
  let v11 : BitVec 32 := Scalar.addi c0_i32 v10
  let c1_i32_6 : BitVec 32 := 1#32
  ⟨v14, v11, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v9 : BitVec 32 := Scalar.addi arg2 c1_i32
  let v10 : BitVec 32 := Scalar.subi v9 c0_i32
  let c1_i32_4 : BitVec 32 := 1#32
  let v12 : BitVec 32 := Scalar.divsi v10 c1_i32_4
  let v13 : BitVec 32 := Scalar.muli v12 c1_i32_4
  let v14 : BitVec 32 := Scalar.addi c0_i32 v13
  let c1_i32_6 : BitVec 32 := 1#32
  let arg10 : BitVec 32 := Scf.iv v14 c1_i32_6 k0_t2
  let c256_i32 : BitVec 32 := 256#32
  let v42 : BitVec 32 := Scalar.muli arg10 c256_i32
  v42
def k0_off3 (i : grid0.Coords) (k0_t2 : Fin (k0_t2_loop i).trips) : Fin 2 → Nat :=
  let c0_i32 : BitVec 32 := 0#32
  let arg2 : BitVec 32 := BitVec.ofNat 32 (i 2).val
  let c1_i32 : BitVec 32 := 1#32
  let v9 : BitVec 32 := Scalar.addi arg2 c1_i32
  let v10 : BitVec 32 := Scalar.subi v9 c0_i32
  let c1_i32_4 : BitVec 32 := 1#32
  let v12 : BitVec 32 := Scalar.divsi v10 c1_i32_4
  let v13 : BitVec 32 := Scalar.muli v12 c1_i32_4
  let v14 : BitVec 32 := Scalar.addi c0_i32 v13
  let c1_i32_6 : BitVec 32 := 1#32
  let arg10 : BitVec 32 := Scf.iv v14 c1_i32_6 k0_t2
  let c256_i32 : BitVec 32 := 256#32
  let v42 : BitVec 32 := Scalar.muli arg10 c256_i32
  let v43 : BitVec 32 := v42
  let v44 : Index := Scalar.indexCast v43
  let c0_15 : Index := 0#32
  ![v44.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel5Ideal.lean ====
variable {F : FTy → Type} [FloatOps F] [Named F]
def κ : String → Option EReal := fun
  | "neg" => some ⊥
  | _ => none
-- ==== Reference5Ideal.lean ====
abbrev S1 : Shape := ⟨1, ![1]⟩
abbrev S16384x1024 : Shape := ⟨2, ![16384, 1024]⟩
abbrev S256 : Shape := ⟨1, ![256]⟩
abbrev S4 : Shape := ⟨1, ![4]⟩
abbrev S8x2048x4x2x128 : Shape := ⟨5, ![8, 2048, 4, 2, 128]⟩
abbrev S8x2048x4x256 : Shape := ⟨4, ![8, 2048, 4, 256]⟩
abbrev S2048 : Shape := ⟨1, ![2048]⟩
abbrev S8x4x2x2048x2048 : Shape := ⟨5, ![8, 4, 2, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x4x1x1x1 : Shape := ⟨5, ![1, 4, 1, 1, 1]⟩
abbrev S1x1x1x2048x2048 : Shape := ⟨5, ![1, 1, 1, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x256x2048 : Shape := ⟨4, ![8, 4, 256, 2048]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩

abbrev nBuf : Space → Nat
  | .hbm => 85
  | .vmem => 0
  | .smem => 0
  | _ => 0

abbrev bufTy : (tb : Table) → Fin (tcTables nBuf tb) → BufTy
  | .hbm, ⟨0, _⟩ => ⟨S1, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S256, .f32⟩
  | .hbm, ⟨5, _⟩ => ⟨S4, .f32⟩
  | .hbm, ⟨6, _⟩ => ⟨S16384x1024, .f32⟩
  | .hbm, ⟨7, _⟩ => ⟨S8x2048x4x2x128, .f32⟩
  | .hbm, ⟨8, _⟩ => ⟨S16384x1024, .f32⟩
  | .hbm, ⟨9, _⟩ => ⟨S8x2048x4x2x128, .f32⟩
  | .hbm, ⟨10, _⟩ => ⟨S16384x1024, .f32⟩
  | .hbm, ⟨11, _⟩ => ⟨S8x2048x4x256, .f32⟩
  | .hbm, ⟨12, _⟩ => ⟨S2048, .i32⟩
  | .hbm, ⟨13, _⟩ => ⟨S8x4x2x2048x2048, .f32⟩
  | .hbm, ⟨14, _⟩ => ⟨S_, .f32⟩
  | .hbm, ⟨15, _⟩ => ⟨S8x4x2x2048x2048, .f32⟩
  | .hbm, ⟨16, _⟩ => ⟨S8x4x2x2048x2048, .f32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .f32⟩
  | .hbm, ⟨23, _⟩ => ⟨S1x4x1x1x1, .f32⟩
  | .hbm, ⟨24, _⟩ => ⟨S1x1x1x2048x2048, .f32⟩
  | .hbm, ⟨25, _⟩ => ⟨S1x4x1x2048x2048, .f32⟩
  | .hbm, ⟨26, _⟩ => ⟨S1x4x1x2048x2048, .f32⟩
  | .hbm, ⟨27, _⟩ => ⟨S1x4x1x2048x2048, .f32⟩
  | .hbm, ⟨28, _⟩ => ⟨S8x4x2x2048x2048, .f32⟩
  | .hbm, ⟨29, _⟩ => ⟨S8x4x2x2048x2048, .f32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x4x2x2048x2048, .i1⟩
  | .hbm, ⟨38, _⟩ => ⟨S8x4x2x2048x2048, .f32⟩
  | .hbm, ⟨39, _⟩ => ⟨S8x4x2x2048x2048, .f32⟩
  | .hbm, ⟨40, _⟩ => ⟨S_, .f32⟩
  | .hbm, ⟨41, _⟩ => ⟨S8x4x2x2048, .f32⟩
  | .hbm, ⟨42, _⟩ => ⟨S_, .f32⟩
  | .hbm, ⟨43, _⟩ => ⟨S8x4x2x2048, .f32⟩
  | .hbm, ⟨44, _⟩ => ⟨S8x4x2x2048, .f32⟩
  | .hbm, ⟨45, _⟩ => ⟨S8x4x2x2048x1, .f32⟩
  | .hbm, ⟨46, _⟩ => ⟨S8x4x2x2048x2048, .f32⟩
  | .hbm, ⟨47, _⟩ => ⟨S8x4x2x2048x2048, .f32⟩
  | .hbm, ⟨48, _⟩ => ⟨S8x4x2x2048x2048, .f32⟩
  | .hbm, ⟨49, _⟩ => ⟨S_, .f32⟩
  | .hbm, ⟨50, _⟩ => ⟨S8x4x2x2048, .f32⟩
  | .hbm, ⟨51, _⟩ => ⟨S8x4x2x2048x1, .f32⟩
  | .hbm, ⟨52, _⟩ => ⟨S8x4x2x2048x2048, .f32⟩
  | .hbm, ⟨53, _⟩ => ⟨S8x4x2x2048x2048, .f32⟩
  | .hbm, ⟨54, _⟩ => ⟨S8x4x1x2048x2048, .f32⟩
  | .hbm, ⟨55, _⟩ => ⟨S8x4x2048x2048, .f32⟩
  | .hbm, ⟨56, _⟩ => ⟨S_, .f32⟩
  | .hbm, ⟨57, _⟩ => ⟨S8x4x1x2048x2048, .f32⟩
  | .hbm, ⟨58, _⟩ => ⟨S8x4x2048x2048, .f32⟩
  | .hbm, ⟨59, _⟩ => ⟨S8x4x2048x2048, .f32⟩
  | .hbm, ⟨60, _⟩ => ⟨S8x4x2048x2048, .f32⟩
  | .hbm, ⟨61, _⟩ => ⟨S8x4x2048x2048, .f32⟩
  | .hbm, ⟨62, _⟩ => ⟨S8x4x256x2048, .f32⟩
  | .hbm, ⟨63, _⟩ => ⟨S8x2048x4x256, .f32⟩
  | .hbm, ⟨64, _⟩ => ⟨S8x2048x4x256, .f32⟩
  | .hbm, ⟨65, _⟩ => ⟨S_, .f32⟩
  | .hbm, ⟨66, _⟩ => ⟨S8x2048x4, .f32⟩
  | .hbm, ⟨67, _⟩ => ⟨S8x2048x4x1, .f32⟩
  | .hbm, ⟨68, _⟩ => ⟨S_, .f32⟩
  | .hbm, ⟨69, _⟩ => ⟨S8x2048x4x1, .f32⟩
  | .hbm, ⟨70, _⟩ => ⟨S8x2048x4x1, .f32⟩
  | .hbm, ⟨71, _⟩ => ⟨S_, .f32⟩
  | .hbm, ⟨72, _⟩ => ⟨S8x2048x4x1, .f32⟩
  | .hbm, ⟨73, _⟩ => ⟨S8x2048x4x1, .f32⟩
  | .hbm, ⟨74, _⟩ => ⟨S8x2048x4x1, .f32⟩
  | .hbm, ⟨75, _⟩ => ⟨S8x2048x4x256, .f32⟩
  | .hbm, ⟨76, _⟩ => ⟨S8x2048x4x256, .f32⟩
  | .hbm, ⟨77, _⟩ => ⟨S1x1x1x256, .f32⟩
  | .hbm, ⟨78, _⟩ => ⟨S8x2048x4x256, .f32⟩
  | .hbm, ⟨79, _⟩ => ⟨S8x2048x4x256, .f32⟩
  | .hbm, ⟨80, _⟩ => ⟨S_, .f32⟩
  | .hbm, ⟨81, _⟩ => ⟨S8x2048x4x256, .f32⟩
  | .hbm, ⟨82, _⟩ => ⟨S8x2048x4x256, .f32⟩
  | .hbm, ⟨83, _⟩ => ⟨S16384x1024, .f32⟩
  | .hbm, ⟨84, _⟩ => ⟨S16384x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel6.lean ====
abbrev S128x1024 : Shape := ⟨2, ![128, 1024]⟩
abbrev S128x4096 : Shape := ⟨2, ![128, 4096]⟩
abbrev S32x4x2048 : Shape := ⟨3, ![32, 4, 2048]⟩
abbrev S1024x2048 : Shape := ⟨2, ![1024, 2048]⟩
abbrev S2048x2048 : Shape := ⟨2, ![2048, 2048]⟩
abbrev S128x2048 : Shape := ⟨2, ![128, 2048]⟩
abbrev S1024x1024 : Shape := ⟨2, ![1024, 1024]⟩
abbrev S2048x1024 : Shape := ⟨2, ![2048, 1024]⟩

abbrev nBuf : Space → Nat
  | .hbm => 13
  | .vmem => 19
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x4096, .bf16⟩
  | .hbm, ⟨3, _⟩ => ⟨S32x4x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S128x2048, .f32⟩
  | .hbm, ⟨8, _⟩ => ⟨S1024x2048, .bf16⟩
  | .hbm, ⟨9, _⟩ => ⟨S1024x2048, .bf16⟩
  | .hbm, ⟨10, _⟩ => ⟨S2048x2048, .bf16⟩
  | .hbm, ⟨11, _⟩ => ⟨S128x2048, .bf16⟩
  | .hbm, ⟨12, _⟩ => ⟨S128x2048, .f32⟩
  | .local _ .vmem, ⟨0, _⟩ => ⟨S128x1024, .bf16⟩
  | .local _ .vmem, ⟨1, _⟩ => ⟨S128x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x2048, .bf16⟩
  | .local _ .vmem, ⟨13, _⟩ => ⟨S2048x1024, .bf16⟩
  | .local _ .vmem, ⟨14, _⟩ => ⟨S2048x1024, .bf16⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference6Ideal.lean ====
abbrev S128x1024 : Shape := ⟨2, ![128, 1024]⟩
abbrev S128x4096 : Shape := ⟨2, ![128, 4096]⟩
abbrev S32x4x2048 : Shape := ⟨3, ![32, 4, 2048]⟩
abbrev S1024x2048 : Shape := ⟨2, ![1024, 2048]⟩
abbrev S2048x2048 : Shape := ⟨2, ![2048, 2048]⟩
abbrev S32x4x1024 : Shape := ⟨3, ![32, 4, 1024]⟩
abbrev S32x4x4096 : Shape := ⟨3, ![32, 4, 4096]⟩
abbrev S128x2048 : Shape := ⟨2, ![128, 2048]⟩

abbrev nBuf : Space → Nat
  | .hbm => 23
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x4096, .bf16⟩
  | .hbm, ⟨3, _⟩ => ⟨S32x4x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S128x1024, .f32⟩
  | .hbm, ⟨8, _⟩ => ⟨S32x4x1024, .f32⟩
  | .hbm, ⟨9, _⟩ => ⟨S128x1024, .f32⟩
  | .hbm, ⟨10, _⟩ => ⟨S32x4x1024, .f32⟩
  | .hbm, ⟨11, _⟩ => ⟨S128x4096, .f32⟩
  | .hbm, ⟨12, _⟩ => ⟨S32x4x4096, .f32⟩
  | .hbm, ⟨13, _⟩ => ⟨S32x4x2048, .f32⟩
  | .hbm, ⟨14, _⟩ => ⟨S32x4x2048, .f32⟩
  | .hbm, ⟨15, _⟩ => ⟨S32x4x2048, .f32⟩
  | .hbm, ⟨16, _⟩ => ⟨S32x4x2048, .f32⟩
  | .hbm, ⟨17, _⟩ => ⟨S32x4x2048, .f32⟩
  | .hbm, ⟨18, _⟩ => ⟨S32x4x2048, .f32⟩
  | .hbm, ⟨19, _⟩ => ⟨S32x4x2048, .f32⟩
  | .hbm, ⟨20, _⟩ => ⟨S32x4x2048, .f32⟩
  | .hbm, ⟨21, _⟩ => ⟨S32x4x2048, .f32⟩
  | .hbm, ⟨22, _⟩ => ⟨S128x2048, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S128 : Shape := ⟨1, ![128]⟩
abbrev S1x128 : Shape := ⟨2, ![1, 128]⟩
abbrev S1x1 : Shape := ⟨2, ![1, 1]⟩
abbrev S1 : Shape := ⟨1, ![1]⟩

abbrev nBuf : Space → Nat
  | .hbm => 10
  | .vmem => 5
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x1, .f32⟩
  | .hbm, ⟨9, _⟩ => ⟨S1, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x1, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference7Ideal.lean ====
abbrev S128 : Shape := ⟨1, ![128]⟩
abbrev S_ : Shape := ⟨0, ![]⟩
abbrev S1 : Shape := ⟨1, ![1]⟩

abbrev nBuf : Space → Nat
  | .hbm => 16
  | .vmem => 0
  | .smem => 0
  | _ => 0

abbrev bufTy : (tb : Table) → Fin (tcTables nBuf tb) → BufTy
  | .hbm, ⟨0, _⟩ => ⟨S128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Sb.Trip.lean ====
/-
  One trip of the kernel's loop and the block a grid point leaves.
-/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]

/-- The row number of every entry of a 256 by 256 tile. -/
abbrev rowIx : IVec S256x256 32 := iota .tc S256x256 32 [0] iota_S256x256_d0_w32

/-- The column number of every entry of a 256 by 256 tile. -/
abbrev colIx : IVec S256x256 32 := iota .tc S256x256 32 [1] iota_S256x256_d1_w32

/-- The 256 rows of a sequence block that trip `n` reads. -/
abbrev rowsAt (x : Vec F S2048x128 .bf16) (i : grid0.Coords) (n : Fin (k0_t1_loop i).trips) : Vec F S256x128 .bf16 :=
  View.ld x (Rect.unit (s := S2048x128) (k0_off1 i n) S256x128.size (k0_off1_inb i n))

/-- What trip `n` makes of the carried accumulator and carried log-remainder. -/
def tripVal (i : grid0.Coords) (q : Vec F S256x128 .bf16) (k v : Vec F S2048x128 .bf16)
    (n : Fin (k0_t1_loop i).trips) (acc : FVec F S256x128 .f32 × FVec F S256x1 .f32) :
    FVec F S256x128 .f32 × FVec F S256x1 .f32 :=
  (k0_pay4 acc.1 (rowsAt v i n)
      (k0_pay13 i (BitVec.ofNat 32 (i 2).val) q rowIx colIx (k0_pay1 (F := F)) 0#32 1#32 n acc.2 (rowsAt k i n))
      (constant S256x128 .f32 0x00000000#32),
    k0_pay5 acc.2 (k0_pay12 i (BitVec.ofNat 32 (i 2).val) q rowIx colIx 0#32 1#32 n (rowsAt k i n)))

/-- A trip's step, as the loop's run states it, is `tripVal`. -/
theorem tripR_eq (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (q : Vec F S256x128 .bf16) (k v : Vec F S2048x128 .bf16) (n : Fin (k0_t1_loop i).trips)
    (acc : FVec F S256x128 .f32 × FVec F S256x1 .f32) :
    tripR_k0_t1 𝒱 c bd i arg3 harg3 arg4 harg4 arg5 harg5 arg6 harg6 (BitVec.ofNat 32 (i 2).val) q rowIx colIx
      (harg4.unread k) (harg5.unread v) n acc = tripVal i q k v n acc := by
  unfold tripR_k0_t1 trip_k0_t1
  frame_out
  rfl

/-- The carried pair before trip `n`: zero at first, then trip after trip. -/
def carried (i : grid0.Coords) (q : Vec F S256x128 .bf16) (k v : Vec F S2048x128 .bf16) :
    ℕ → FVec F S256x128 .f32 × FVec F S256x1 .f32
  | 0 => (k0_pay2, k0_pay3)
  | n + 1 => if h : n < (k0_t1_loop i).trips then tripVal i q k v ⟨n, h⟩ (carried i q k v n) else carried i q k v n

/-- The first loop of a point whose third coordinate is `a` makes `a + 1` trips. -/
theorem trips_first : ∀ a : Fin 8, Scf.trips 0#32 (Scalar.addi 0#32 (Scalar.muli (Scalar.divsi (Scalar.subi
    (Scalar.addi (BitVec.ofNat 32 a.val) 1#32) 0#32) 1#32) 1#32)) 1#32 = a.val + 1 := by decide +kernel

/-- The second loop makes no trip. -/
theorem trips_second : ∀ a : Fin 8, Scf.trips (Scalar.addi 0#32 (Scalar.muli (Scalar.divsi (Scalar.subi
    (Scalar.addi (BitVec.ofNat 32 a.val) 1#32) 0#32) 1#32) 1#32)) (Scalar.addi 0#32 (Scalar.subi
    (Scalar.addi (BitVec.ofNat 32 a.val) 1#32) 0#32)) 1#32 = 0 := by decide +kernel

/-- The loop's own recursion is `carried`, up to the number of trips. -/
theorem st_eq (𝒱 : Variants) (c : Dev nD) (bd : Option 𝒱.V) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (q : Vec F S256x128 .bf16) (k v : Vec F S2048x128 .bf16) : ∀ n, n ≤ (k0_t1_loop i).trips →
    st_k0_t1 𝒱 c bd i arg3 harg3 arg4 harg4 arg5 harg5 arg6 harg6 (BitVec.ofNat 32 (i 2).val) q rowIx colIx
      (harg4.unread k) (harg5.unread v) (k0_pay2, k0_pay3) n = carried i q k v n
  | 0, _ => st_k0_t1_zero ..
  | n + 1, h => by
    have hs := st_k0_t1_succ 𝒱 c bd i arg3 harg3 arg4 harg4 arg5 harg5 arg6 harg6 (BitVec.ofNat 32 (i 2).val) q
      rowIx colIx (harg4.unread k) (harg5.unread v) (k0_pay2, k0_pay3) ⟨n, h⟩
    rw [tripR_eq] at hs
    rw [show n + 1 = (⟨n, h⟩ : Fin (k0_t1_loop i).trips).val + 1 from rfl, hs]
    rw [show (⟨n, h⟩ : Fin (k0_t1_loop i).trips).val = n from rfl,
      st_eq 𝒱 c bd i arg3 harg3 arg4 harg4 arg5 harg5 arg6 harg6 q k v n (Nat.le_of_succ_le h)]
    conv_rhs => unfold carried
    rw [dif_pos (show n < (k0_t1_loop i).trips from h)]

/-- The block that a grid point with coordinates `i` leaves: the accumulator after the last trip. -/
theorem out_eq (c : Dev nD) (i : grid0.Coords) (arg3 : Memref sig .tc .vmem S256x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole)
    (q : Vec F S256x128 .bf16) (k v : Vec F S2048x128 .bf16) :
    out0_A_3 c i arg3 harg3 arg4 harg4 arg5 harg5 arg6 harg6 q k v
      = k0_pay8 (carried i q k v ((i 2).val + 1)).1 := by
  unfold out0_A_3
  frame_out
  rw [trips_second (i 2), trips_first (i 2), st_k0_t2_zero]
  rw [st_eq _ _ _ _ _ _ _ _ _ _ _ _ _ _ _ _ (trips_first (i 2)).ge]

end Cert.KernelIdeal.Value

end
-- ==== Proof.Sb.Rows.lean ====
/-
  Stick-breaking weights of one query row, as a statement about real scores: the value that the tiles accumulate from
  the last tile back to the first is the weighted sum over all keys.
-/
module

public import Idealize.ShloMosaic.PureOps.Ideal
public import Mathlib.Algebra.BigOperators.Intervals
public import Mathlib.Analysis.SpecialFunctions.Log.Basic

@[expose] public section

noncomputable section

open Idealize.ShloMosaic Finset

namespace Cert.Sb

/-- `log (1 + exp z)` on the reals, in the form that does not overflow. -/
def softR (z : ℝ) : ℝ := max z 0 + Real.log (1 + Real.exp (-|z|))

/-- The same expression on the extended reals. -/
def soft (z : EReal) : EReal := max z 0 + Ideal.log1p (Ideal.exp (0 - max z (-z)))

/-- The maximum of two reals, as an extended real. -/
theorem coe_max (x y : ℝ) : ((max x y : ℝ) : EReal) = max (x : EReal) (y : EReal) :=
  EReal.coe_strictMono.monotone.map_max

/-- The larger of a real and its negative is its absolute value. -/
theorem max_neg_coe (z : ℝ) : max (z : EReal) (-(z : EReal)) = ((|z| : ℝ) : EReal) := by
  rw [← EReal.coe_neg, ← coe_max]; rfl

/-- `log1p` of a real above -1. -/
theorem log1p_coe {x : ℝ} (h : 0 < 1 + x) : Ideal.log1p (x : EReal) = ((Real.log (1 + x) : ℝ) : EReal) := by
  have e : (1 : EReal) + (x : EReal) = ((1 + x : ℝ) : EReal) := by push_cast; rfl
  rw [Ideal.log1p, e]
  exact (if_neg (not_le.2 h))

/-- The exponential of a real. -/
theorem exp_coe (x : ℝ) : Ideal.exp (x : EReal) = ((Real.exp x : ℝ) : EReal) := rfl

/-- At a real argument the extended expression is the real one. -/
theorem soft_coe (z : ℝ) : soft (z : EReal) = ((softR z : ℝ) : EReal) := by
  unfold soft softR
  rw [max_neg_coe, zero_sub, ← EReal.coe_neg, exp_coe, log1p_coe (by positivity), ← EReal.coe_zero, ← coe_max,
    ← EReal.coe_add]

/-- A score less its softplus is minus the softplus of its negative. -/
theorem sub_soft (z : ℝ) : z - softR z = - softR (-z) := by
  unfold softR
  rw [abs_neg]
  rcases le_total z 0 with h | h
  · rw [max_eq_right h, max_eq_left (by linarith)]; ring
  · rw [max_eq_left h, max_eq_right (by linarith)]; ring

/-- The log-remainder that key `s` leaves to the earlier keys of the query at position `p`. -/
def logRem (z : ℕ → ℝ) (p s : ℕ) : ℝ := if s < p then - softR (z s) else 0

/-- The weight of key `s` for the query at position `p`, among `N` keys. -/
def weight (N : ℕ) (z : ℕ → ℝ) (p s : ℕ) : ℝ :=
  if s < p then Real.exp (- softR (- z s) + ∑ t ∈ Ico (s + 1) N, logRem z p t) else 0

/-- From the query on nothing is added to the logarithms of what remains, so the sum may stop there. -/
theorem sum_logRem_tail (z : ℕ → ℝ) {p a M N : ℕ} (hp : p ≤ M) (haM : a ≤ M) (hMN : M ≤ N) :
    ∑ t ∈ Ico a N, logRem z p t = ∑ t ∈ Ico a M, logRem z p t := by
  rw [← sum_Ico_consecutive _ haM hMN, add_eq_left]
  refine sum_eq_zero fun t ht => ?_
  rw [logRem, if_neg]
  have := (mem_Ico.1 ht).1
  omega

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- A sum over 256 places is a sum over an interval. -/
theorem sum_tile {M : Type*} [AddCommMonoid M] (f : ℕ → M) (B W : ℕ) :
    ∑ x : Fin W, f (B + x.val) = ∑ t ∈ Ico B (B + W), f t := by
  rw [Finset.sum_Ico_eq_sum_range, Nat.add_sub_cancel_left, ← Fin.sum_univ_eq_sum_range (fun i => f (B + i))]

/-- The later places of a tile only. -/
theorem sum_tile_after {M : Type*} [AddCommMonoid M] (f : ℕ → M) (B W : ℕ) (x : ℕ) (hx : x < W) :
    ∑ y : Fin W, (if x < y.val then f (B + y.val) else 0) = ∑ t ∈ Ico (B + x + 1) (B + W), f t := by
  have h := sum_tile (fun t => if B + x < t then f t else 0) B W
  simp only [Nat.add_lt_add_iff_left] at h
  rw [h, ← sum_Ico_consecutive _ (show B ≤ B + x + 1 by omega) (show B + x + 1 ≤ B + W by omega),
    sum_eq_zero (s := Ico B (B + x + 1)), zero_add]
  · refine sum_congr rfl fun t ht => if_pos ?_
    have := (mem_Ico.1 ht).1
    omega
  · intro t ht
    refine if_neg ?_
    have := (mem_Ico.1 ht).2
    omega

end Cert.Sb

end
-- ==== Proof.Sb.Tile.lean ====
/-
  One trip of the kernel's loop over the extended reals, entry by entry.
-/
module

public import proofs.«01_k».proof.Proof.Sb.Trip
public import proofs.«01_k».proof.Proof.Sb.Rows
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen

/-- A trip reads tile `a - n` of the sequence block, where `a` is the point's third coordinate. -/
theorem off_eq : ∀ (i : grid0.Coords) (n : Fin (k0_t1_loop i).trips),
    k0_off1 i n = ![((i 2).val - n.val) * 256, 0] := by decide +kernel

/-- A tile's loop makes one trip per tile up to its own. -/
theorem trips_eq (i : grid0.Coords) : (k0_t1_loop i).trips = (i 2).val + 1 := trips_first (i 2)

/-- An entry of the rows a trip reads. -/
theorem rowsAt_apply (x : FVec Ideal S2048x128 .bf16) (i : grid0.Coords) (n : Fin (k0_t1_loop i).trips) (r : Fin 256)
    (d : Fin 128) (h : ((i 2).val - n.val) * 256 + r.val < 2048) :
    rowsAt (F := Ideal) x i n (ix2 r d) = x (ix2 ⟨((i 2).val - n.val) * 256 + r.val, h⟩ d) := by
  have e := off_eq i n
  unfold rowsAt
  pointwise
  simp only [e, Matrix.cons_val_zero, Matrix.cons_val_one, zero_add]

/-- The bit that keeps key `c` of tile `a - n` for query row `r` of tile `a`. -/
theorem keep_bit (a : Fin 8) (n : ℕ) (hn : n ≤ a.val) (r c : Fin 256) :
    IntOp.cmpi .slt (IntOp.addi (BitVec.ofNat 32 c.val)
        (Scalar.muli (Scalar.subi (BitVec.ofNat 32 a.val) (Scf.iv 0#32 1#32 n)) 256#32))
      (IntOp.addi (BitVec.ofNat 32 r.val) (Scalar.muli (BitVec.ofNat 32 a.val) 256#32))
      = BitVec.ofBool (decide ((a.val - n) * 256 + c.val < a.val * 256 + r.val)) := by
  have e : ∀ (a : Fin 8) (n : Fin 8), n.val ≤ a.val →
      Scalar.muli (Scalar.subi (BitVec.ofNat 32 a.val) (Scf.iv 0#32 1#32 n.val)) 256#32
        = BitVec.ofNat 32 ((a.val - n.val) * 256) := by decide
  have e' : ∀ a : Fin 8, Scalar.muli (BitVec.ofNat 32 a.val) 256#32 = BitVec.ofNat 32 (a.val * 256) := by decide
  rw [e a ⟨n, by omega⟩ hn, e']
  have add : ∀ x y : ℕ, IntOp.addi (BitVec.ofNat 32 x) (BitVec.ofNat 32 y) = BitVec.ofNat 32 (x + y) := by
    intro x y; simp [IntOp.addi, BitVec.ofNat_add]
  rw [add, add]
  simp (disch := omega) only [hlo_ix]
  rw [Nat.add_comm c.val, Nat.add_comm r.val]

/-- The score of query row `r` against row `c` of the tile read. -/
def tileScore (q : FVec Ideal S256x128 .bf16) (k : FVec Ideal S256x128 .bf16) (r c : Fin 256) : EReal :=
  (∑ x : Fin 128, q (ix2 r x) * k (ix2 c x)) * Ideal.ofBits .f32 0x3DB504F3#32

/-- What a trip adds to an entry of the weighted sum. -/
theorem acc_trip (i : grid0.Coords) (q : FVec Ideal S256x128 .bf16) (k v : FVec Ideal S2048x128 .bf16)
    (n : Fin (k0_t1_loop i).trips) (acc : FVec Ideal S256x128 .f32 × FVec Ideal S256x1 .f32) (r : Fin 256) (d : Fin 128) :
    (tripVal i q k v n acc).1 (ix2 r d) = acc.1 (ix2 r d) + ∑ c : Fin 256,
      if ((i 2).val - n.val) * 256 + c.val < (i 2).val * 256 + r.val then
        Ideal.exp (tileScore q (rowsAt (F := Ideal) k i n) r c - Cert.Sb.soft (tileScore q (rowsAt (F := Ideal) k i n) r c)
          + (∑ e : Fin 256, (if c.val < e.val then
              if ((i 2).val - n.val) * 256 + e.val < (i 2).val * 256 + r.val then
                - Cert.Sb.soft (tileScore q (rowsAt (F := Ideal) k i n) r e) else 0 else 0)
            + ∑ e : Fin 256, (if c.val < e.val then
              (if ((i 2).val - n.val) * 256 + e.val < (i 2).val * 256 + r.val then
                - Cert.Sb.soft (tileScore q (rowsAt (F := Ideal) k i n) r e) else 0)
              - (if ((i 2).val - n.val) * 256 + e.val < (i 2).val * 256 + r.val then
                - Cert.Sb.soft (tileScore q (rowsAt (F := Ideal) k i n) r e) else 0) else 0)
            + acc.2 (ix2 r 0))) * rowsAt (F := Ideal) v i n (ix2 c d)
      else 0 := by
  have hn : n.val ≤ (i 2).val := by have h := n.isLt; have e := trips_eq i; omega
  unfold tripVal
  dsimp only
  pointwise [k0_pay4, k0_pay13, k0_pay12, k0_pay11, k0_pay10, k0_pay9, k0_pay1]
  simp only [keep_bit (i 2) n.val hn]
  simp (disch := omega) only [hlo_ix, WordCmp.select_ofBool, decide_eq_true_eq, zero_sub]
  simp only [Cert.Sb.soft, tileScore, zero_sub]
  rfl

/-- What a trip adds to the carried row sums. -/
theorem carry_trip (i : grid0.Coords) (q : FVec Ideal S256x128 .bf16) (k v : FVec Ideal S2048x128 .bf16)
    (n : Fin (k0_t1_loop i).trips) (acc : FVec Ideal S256x128 .f32 × FVec Ideal S256x1 .f32) (r : Fin 256) :
    (tripVal i q k v n acc).2 (ix2 r 0) = acc.2 (ix2 r 0) + ∑ c : Fin 256,
      if ((i 2).val - n.val) * 256 + c.val < (i 2).val * 256 + r.val then
        - Cert.Sb.soft (tileScore q (rowsAt (F := Ideal) k i n) r c) else 0 := by
  have hn : n.val ≤ (i 2).val := by have h := n.isLt; have e := trips_eq i; omega
  unfold tripVal
  dsimp only
  pointwise [k0_pay5, k0_pay12, k0_pay11, k0_pay10, k0_pay9, k0_pay1]
  simp only [keep_bit (i 2) n.val hn]
  simp (disch := omega) only [hlo_ix, decide_eq_true_eq, zero_sub]
  simp only [Cert.Sb.soft, tileScore, zero_sub]
  rfl

end Cert.KernelIdeal.Value

end
-- ==== Proof.Sb.Sweep.lean ====
/-
  The kernel's sweep over the tiles of keys, from the query's own tile back to the first one: what the accumulator and
  the carried log-remainder hold after each trip, where the scores of the query are real.
-/
module

public import proofs.«01_k».proof.Proof.Sb.Tile

@[expose] public section

set_option maxRecDepth 16384

noncomputable section

open Idealize.ShloMosaic Idealize.ShloMosaic.TcCoe Idealize.SL.Sem

namespace Cert.Sb

open Finset

/-- A masked log-remainder of a real score. -/
theorem rem_coe (f : ℕ → ℝ) (p t : ℕ) :
    (if t < p then - soft ((f t : ℝ) : EReal) else 0) = ((logRem f p t : ℝ) : EReal) := by
  unfold logRem
  split_ifs
  · rw [soft_coe, EReal.coe_neg]
  · rfl

/-- One tile's contribution to the accumulator: the keys `B` to `B + 256`, the later ones having left `C`. -/
theorem tile_acc (f : ℕ → ℝ) (V : ℕ → EReal) (p B M : ℕ) (hp : p ≤ M) (hB : B + 256 ≤ M) (hM : M ≤ 2048) (z W : Fin 256 → EReal)
    (C : EReal) (hz : ∀ e : Fin 256, z e = ((f (B + e.val) : ℝ) : EReal)) (hW : ∀ e : Fin 256, W e = V (B + e.val))
    (hC : C = ((∑ t ∈ Ico (B + 256) M, logRem f p t : ℝ) : EReal)) :
    (∑ c : Fin 256, if B + c.val < p then
        Ideal.exp (z c - soft (z c)
          + (∑ e : Fin 256, (if c.val < e.val then if B + e.val < p then - soft (z e) else 0 else 0)
            + ∑ e : Fin 256, (if c.val < e.val then
              (if B + e.val < p then - soft (z e) else 0) - (if B + e.val < p then - soft (z e) else 0) else 0)
            + C)) * W c
      else 0) = ∑ t ∈ Ico B (B + 256), ((weight 2048 f p t : ℝ) : EReal) * V t := by
  rw [← sum_tile]
  refine sum_congr rfl fun c _ => ?_
  by_cases hc : B + c.val < p
  · rw [if_pos hc, hW]
    congr 1
    simp only [hz, rem_coe]
    have h0 : ∀ e : Fin 256, ((logRem f p (B + e.val) : ℝ) : EReal) - ((logRem f p (B + e.val) : ℝ) : EReal) = 0 := by
      intro e; rw [← EReal.coe_sub, sub_self, EReal.coe_zero]
    simp only [h0, ite_self, sum_const_zero, add_zero]
    rw [sum_tile_after (fun t => ((logRem f p t : ℝ) : EReal)) B 256 c.val c.isLt, ← coe_sum, hC, soft_coe, ← EReal.coe_sub,
      ← EReal.coe_add, ← EReal.coe_add, exp_coe, sum_Ico_consecutive _ (by omega) hB, sub_soft,
      ← sum_logRem_tail f hp (by omega) hM]
    unfold weight
    rw [if_pos hc]
  · rw [if_neg hc]
    unfold weight
    rw [if_neg hc, EReal.coe_zero, zero_mul]

/-- One tile's contribution to the carried log-remainder. -/
theorem tile_carry (f : ℕ → ℝ) (p B M : ℕ) (hB : B + 256 ≤ M) (z : Fin 256 → EReal)
    (C : EReal) (hz : ∀ e : Fin 256, z e = ((f (B + e.val) : ℝ) : EReal))
    (hC : C = ((∑ t ∈ Ico (B + 256) M, logRem f p t : ℝ) : EReal)) :
    (C + ∑ c : Fin 256, if B + c.val < p then - soft (z c) else 0) = ((∑ t ∈ Ico B M, logRem f p t : ℝ) : EReal) := by
  simp only [hz, rem_coe]
  rw [sum_tile (fun t => ((logRem f p t : ℝ) : EReal)) B 256, ← coe_sum, hC, ← EReal.coe_add, add_comm,
    sum_Ico_consecutive _ (by omega) hB]

end Cert.Sb

namespace Cert.KernelIdeal.Value

open Cert.KernelIdeal Cert.KernelIdeal.Gen Finset

/-- Row `t` of a sequence block, column `d`; zero past the last row. -/
def rowVal (x : FVec Ideal S2048x128 .bf16) (d : Fin 128) (t : ℕ) : EReal :=
  if h : t < 2048 then x (ix2 ⟨t, h⟩ d) else 0

/-- After `n` trips the carried log-remainder is that of the keys of the last `n` tiles up to the query's own, and the
    accumulator is their values, weighted. -/
theorem sweep (i : grid0.Coords) (q : FVec Ideal S256x128 .bf16) (k v : FVec Ideal S2048x128 .bf16) (r : Fin 256) (f : ℕ → ℝ)
    (hf : ∀ t : Fin 2048, (∑ x : Fin 128, q (ix2 r x) * k (ix2 t x)) * Ideal.ofBits .f32 0x3DB504F3#32 = ((f t.val : ℝ) : EReal)) :
    ∀ n, n ≤ (i 2).val + 1 →
      (carried (F := Ideal) i q k v n).2 (ix2 r 0)
        = ((∑ t ∈ Ico (((i 2).val + 1 - n) * 256) (((i 2).val + 1) * 256), Cert.Sb.logRem f ((i 2).val * 256 + r.val) t : ℝ) : EReal)
      ∧ ∀ d : Fin 128, (carried (F := Ideal) i q k v n).1 (ix2 r d)
        = ∑ t ∈ Ico (((i 2).val + 1 - n) * 256) (((i 2).val + 1) * 256),
            ((Cert.Sb.weight 2048 f ((i 2).val * 256 + r.val) t : ℝ) : EReal) * rowVal v d t := by
  have ha : (i 2).val < 8 := (i 2).isLt
  intro n
  induction n with
  | zero =>
    intro _
    rw [Nat.sub_zero, Ico_self, sum_empty]
    refine ⟨?_, fun d => ?_⟩
    · show k0_pay3 (F := Ideal) (ix2 r 0) = _
      pointwise [k0_pay3]
      rfl
    · rw [sum_empty]
      show k0_pay2 (F := Ideal) (ix2 r d) = _
      pointwise [k0_pay2]
  | succ n ih =>
    intro hn
    obtain ⟨ih2, ih1⟩ := ih (by omega)
    have ht : n < (k0_t1_loop i).trips := by rw [trips_eq]; omega
    have e : carried (F := Ideal) i q k v (n + 1) = tripVal i q k v ⟨n, ht⟩ (carried i q k v n) := by
      conv_lhs => unfold carried
      rw [dif_pos ht]
    have hB : ((i 2).val + 1 - n) * 256 = ((i 2).val - n) * 256 + 256 := by omega
    have hB' : ((i 2).val + 1 - (n + 1)) * 256 = ((i 2).val - n) * 256 := by omega
    have hz : ∀ c : Fin 256, tileScore q (rowsAt (F := Ideal) k i ⟨n, ht⟩) r c = ((f (((i 2).val - n) * 256 + c.val) : ℝ) : EReal) := by
      intro c
      have hc : ((i 2).val - n) * 256 + c.val < 2048 := by omega
      rw [← hf ⟨_, hc⟩]
      unfold tileScore
      congr 1
      refine sum_congr rfl fun x _ => ?_
      rw [rowsAt_apply k i ⟨n, ht⟩ c x hc]
    rw [hB] at ih2
    rw [e, hB']
    refine ⟨?_, fun d => ?_⟩
    · rw [carry_trip]
      exact Cert.Sb.tile_carry f _ _ _ (by omega) _ _ hz ih2
    · rw [acc_trip, ih1 d, hB]
      rw [Cert.Sb.tile_acc f (rowVal v d) _ _ (((i 2).val + 1) * 256) (by omega) (by omega) (by omega) _ _ _ hz ?_ ih2]
      · rw [add_comm, sum_Ico_consecutive _ (by omega) (by omega)]
      · intro c
        have hc : ((i 2).val - n) * 256 + c.val < 2048 := by omega
        rw [rowsAt_apply v i ⟨n, ht⟩ c d hc, rowVal, dif_pos hc]

end Cert.KernelIdeal.Value

end
-- ==== Proof.Sb.Finite.lean ====
/-
  What the precondition says: every query and every key is a real number, so every score is one.
-/
module

public import proofs.«01_k».proof.Defs
public import proofs.«01_k».proof.Proof.Gen.Pre_finite
public import proofs.«01_k».proof.Proof.Sb.Rows
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Sb

/-- An extended real whose absolute value is below `+∞` is a real number. -/
theorem real_of_abs_lt {x : EReal} (h : max x (-x) < ⊤) : ∃ r : ℝ, x = (r : EReal) := by
  induction x using EReal.rec with
  | bot => simp at h
  | coe r => exact ⟨r, rfl⟩
  | top => simp at h

/-- The bit pattern of `+∞`. -/
theorem inf_bits : Ideal.ofBits .f32 0x7F800000#32 = ⊤ := by
  simp [Ideal.ofBits, Ideal.ieee]

/-- The scale of the scores is a real number. -/
theorem scale_real : ∃ r : ℝ, Ideal.ofBits .f32 0x3DB504F3#32 = (r : EReal) := by
  have h : Ideal.ofBits .f32 0x3DB504F3#32 = ((11863283 : ℝ) : EReal) * (((2 ^ 27)⁻¹ : ℝ) : EReal) := by
    simp [Ideal.ofBits, Ideal.ieee]
  exact ⟨_, h.trans (EReal.coe_mul _ _).symm⟩

end Cert.Sb

namespace Cert.Pre_finite

open Cert.Pre_finite.Gen

/-- Two bits whose conjunction is one are one. -/
theorem andi_eq_one {a b : BitVec 1} : IntOp.andi a b = 1#1 ↔ a = 1#1 ∧ b = 1#1 := by
  revert a b
  decide

/-- The bit computed for an entry says that the entry is a real number. -/
theorem real_of_bit (x : FVec Ideal S16384x1024 .bf16) (i : S16384x1024.Idx)
    (h : cmpf .olt (Host.absf (extf .f32 x Facts.bitsLt_bf16_f32 : FVec Ideal S16384x1024 .f32))
      (broadcastInDim S16384x1024 ![] Facts.bcast_S_S16384x1024 (constant S_ .f32 0x7F800000#32)) i = 1#1) :
    ∃ r : ℝ, x i = (r : EReal) := by
  refine Cert.Sb.real_of_abs_lt ?_
  have e : cmpf .olt (Host.absf (extf .f32 x Facts.bitsLt_bf16_f32 : FVec Ideal S16384x1024 .f32))
      (broadcastInDim S16384x1024 ![] Facts.bcast_S_S16384x1024 (constant S_ .f32 0x7F800000#32)) i
      = BitVec.ofBool (decide (max (x i) (-(x i)) < Ideal.ofBits .f32 0x7F800000#32)) := by
    rfl
  rw [e, Cert.Sb.inf_bits] at h
  by_contra hc
  rw [decide_eq_false hc] at h
  exact absurd h (by decide)

/-- Where the precondition holds of three arrays, the entries of the first two are real numbers. -/
theorem real_of_fn (x y v : FVec Ideal S16384x1024 .bf16) (h : fn (F := Ideal) x y v = fun _ => 1#1) :
    (∀ i, ∃ r : ℝ, x i = (r : EReal)) ∧ (∀ i, ∃ r : ℝ, y i = (r : EReal)) := by
  have h0 := congrFun h (Shape.Idx.first Facts.h_S_)
  unfold fn at h0
  dsimp only at h0
  obtain ⟨hx, hy⟩ := andi_eq_one.1 h0
  exact ⟨fun i => real_of_bit x i (Host.reduce_andi_all _ _ _ _ _ hx i),
    fun i => real_of_bit y i (Host.reduce_andi_all _ _ _ _ _ hy i)⟩

end Cert.Pre_finite

end
-- ==== Proof.Sb.Reference.lean ====
/-
  The reference's result, named part by part.
-/
module

public import proofs.«01_k».proof.Proof.Gen.ReferenceIdeal.Run
public import proofs.«01_k».proof.Proof.Sb.Rows
public import proofs.«01_k».proof.Proof.Sb.Finite
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- A zero for every score. -/
abbrev zeros : FVec Ideal S8x8x2048x2048 .f32 :=
  broadcastInDim S8x8x2048x2048 ![] bcast_S_S8x8x2048x2048 (constant S_ .f32 0x00000000#32)

/-- The scores of every query against every key, per batch and head. -/
def scores (q k : FVec Ideal S16384x1024 .bf16) : FVec Ideal S8x8x2048x2048 .f32 :=
  mulf (Host.dotGeneral dot_S8x2048x8x128_S8x2048x8x128_S8x8x2048x2048_3_3_1_1_02_02 none
      (shapeCast S8x2048x8x128 (extf .f32 q bitsLt_bf16_f32 : FVec Ideal S16384x1024 .f32) shapeCasts_S16384x1024_S8x2048x8x128)
      (shapeCast S8x2048x8x128 (extf .f32 k bitsLt_bf16_f32 : FVec Ideal S16384x1024 .f32) shapeCasts_S16384x1024_S8x2048x8x128))
    (broadcastInDim S8x8x2048x2048 ![] bcast_S_S8x8x2048x2048 (constant S_ .f32 0x3DB504F3#32))

/-- The logarithm of one plus the exponential, as the host computes it. -/
def hostSoft (x : FVec Ideal S8x8x2048x2048 .f32) : FVec Ideal S8x8x2048x2048 .f32 :=
  select (cmpf .une (subf x zeros) (subf x zeros)) (addf x zeros)
    (addf (maximumf x zeros) (Host.log1p (Host.exp (Host.negf (Host.absf (subf x zeros))))))

/-- The logarithm of the logistic function. -/
def logSig (x : FVec Ideal S8x8x2048x2048 .f32) : FVec Ideal S8x8x2048x2048 .f32 :=
  Host.negf (hostSoft (Host.negf x))

/-- Key before query. -/
def before : IVec S8x8x2048x2048 1 :=
  broadcastInDim S8x8x2048x2048 ![2, 3] bcast_S2048x2048_S8x8x2048x2048_2_3 (cmpi .slt
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- The log-remainders, zero where the key is not before the query. -/
def remainders (z : FVec Ideal S8x8x2048x2048 .f32) : FVec Ideal S8x8x2048x2048 .f32 :=
  select before (logSig (Host.negf z)) zeros

/-- The reverse running sum of the log-remainders along the keys. -/
def suffixSums (x : FVec Ideal S8x8x2048x2048 .f32) : FVec Ideal S8x8x2048x2048 .f32 :=
  Host.reduceWindowAdd ![1, 1, 1, 2048] ![1, 1, 1, 1] ![0, 0, 0, 0] ![0, 0, 0, 2047] x
    (broadcastInDim S_ ![] bcast_S_S_ (constant S_ .f32 0x00000000#32))
    reduceWindows_S8x8x2048x2048_S8x8x2048x2048_w1s1p0_0_w1s1p0_0_w1s1p0_0_w2048s1p0_2047 h_S_

/-- The attention weights. -/
def weights (z : FVec Ideal S8x8x2048x2048 .f32) : FVec Ideal S8x8x2048x2048 .f32 :=
  select before (Host.exp (addf (logSig z) (subf (suffixSums (remainders z)) (remainders z)))) zeros

/-- The weighted sum of the values, laid out as the result. -/
def attend (v : FVec Ideal S16384x1024 .bf16) (w : FVec Ideal S8x8x2048x2048 .f32) : FVec Ideal S16384x1024 .bf16 :=
  truncf .bf16 (shapeCast S16384x1024 (transpose S8x2048x8x128 [0, 3, 1, 2]
    (Host.dotGeneral dot_S8x2048x8x128_S8x8x2048x2048_S8x8x128x2048_1_3_3_2_02_01 none
      (shapeCast S8x2048x8x128 (extf .f32 v bitsLt_bf16_f32 : FVec Ideal S16384x1024 .f32) shapeCasts_S16384x1024_S8x2048x8x128) w)
    transposes_S8x8x128x2048_S8x2048x8x128_0_3_1_2) shapeCasts_S8x2048x8x128_S16384x1024 : FVec Ideal S16384x1024 .f32) bitsLt_bf16_f32

/-- The reference's result is the values attended by the weights of the scores. -/
theorem res_eq (m : (ℓ : Loc nD τ sig) → Buf (Elt Ideal) ℓ) (c : Dev nD) :
    res_out0 m c = attend (m ((c.tc : Thread nD τ).loc main_arg2))
      (weights (scores (m ((c.tc : Thread nD τ).loc main_arg0)) (m ((c.tc : Thread nD τ).loc main_arg1)))) := by
  unfold res_out0 res_main_v27
  rfl

/-- At an entry, the host's expression is the one of the real statements. -/
theorem hostSoft_apply (x : FVec Ideal S8x8x2048x2048 .f32) (b h : Fin 8) (p s : Fin 2048) :
    hostSoft x (ix4 b h p s) = Cert.Sb.soft (x (ix4 b h p s)) := by
  pointwise [hostSoft]
  rw [if_neg (not_not.2 rfl)]
  unfold Cert.Sb.soft
  rw [zero_sub]
  rfl

/-- An entry of the logarithm of the sigmoid: minus the softplus of the negative. -/
theorem logSig_apply (x : FVec Ideal S8x8x2048x2048 .f32) (b h : Fin 8) (p s : Fin 2048) :
    logSig x (ix4 b h p s) = - Cert.Sb.soft (- x (ix4 b h p s)) := by
  show - hostSoft (Host.negf x) (ix4 b h p s) = _
  rw [hostSoft_apply]
  rfl

/-- The mask at a pair of positions: whether the key comes before the query. -/
theorem before_apply (b h : Fin 8) (p s : Fin 2048) :
    before (ix4 b h p s) = BitVec.ofBool (decide (s.val < p.val)) := by
  pointwise [before]
  simp (disch := omega) only [hlo_ix]

/-- An entry of the scores: the product of the query row and the key row, scaled. -/
theorem scores_apply (q k : FVec Ideal S16384x1024 .bf16) (b h : Fin 8) (p s : Fin 2048) :
    scores q k (ix4 b h p s) =
      (∑ x : Fin 128, q (ix2 ⟨b.val * 2048 + p.val, by omega⟩ ⟨h.val * 128 + x.val, by omega⟩)
        * k (ix2 ⟨b.val * 2048 + s.val, by omega⟩ ⟨h.val * 128 + x.val, by omega⟩)) * Ideal.ofBits .f32 0x3DB504F3#32 := by
  pointwise [scores]

/-- The result's entry in row `R` and column `C`: head `C / 128` of batch `R / 2048`, position `R % 2048`. -/
theorem attend_apply (v : FVec Ideal S16384x1024 .bf16) (w : FVec Ideal S8x8x2048x2048 .f32) (R : Fin 16384) (C : Fin 1024) :
    attend v w (ix2 R C) = ∑ s : Fin 2048, v (ix2 ⟨R.val / 2048 * 2048 + s.val, by omega⟩ C)
      * w (ix4 ⟨R.val / 2048, by omega⟩ ⟨C.val / 128, by omega⟩ ⟨R.val % 2048, by omega⟩ s) := by
  pointwise [attend]

/-- A fold of additions is the start plus the sum. -/
theorem foldl_add {M : Type} [AddCommMonoid M] {n : ℕ} (g : Fin n → M) (v : M) :
    (List.finRange n).foldl (fun r k => r + g k) v = v + ∑ k : Fin n, g k := by
  have h : ∀ (l : List (Fin n)) (r : M), l.foldl (fun r k => r + g k) r = r + (l.map g).sum := by
    intro l
    induction l with
    | nil => intro r; simp
    | cons a l ih => intro r; rw [List.foldl_cons, ih, List.map_cons, List.sum_cons, add_assoc]
  rw [h, Fin.sum_univ_def]

/-- The window that begins at key `s` and runs past the last key, as a sum over its places. -/
theorem suffixSums_apply (x : FVec Ideal S8x8x2048x2048 .f32) (b h : Fin 8) (p s : Fin 2048) :
    suffixSums x (ix4 b h p s)
      = ∑ w : Fin 2048, if hw : s.val + w.val < 2048 then x (ix4 b h p ⟨s.val + w.val, hw⟩) else 0 := by
  have hi : ∀ j, (broadcastInDim S_ ![] bcast_S_S_ (constant S_ .f32 0x00000000#32) : FVec Ideal S_ .f32) j = 0 := by
    intro j; pointwise
  unfold suffixSums Host.reduceWindowAdd
  rw [Ideal.hostReduceWindowAdd_def, hi]
  unfold Ideal.hostReduceWindowAdd Host.reduceWindow
  dsimp only
  rw [foldl_add, zero_add]
  refine (Equiv.sum_comp (Shape.rowMajor (⟨4, ![1, 1, 1, 2048]⟩ : Shape)) _).symm.trans ?_
  simp only [Equiv.symm_apply_apply]
  rw [Idealize.ShloMosaic.sum_idx4]
  simp only [Fin.sum_univ_one]
  refine Finset.sum_congr rfl fun w _ => ?_
  by_cases hw : s.val + w.val < 2048
  · rw [dif_pos hw, dif_pos]
    · apply congrArg
      funext a
      apply Fin.ext
      fin_cases a <;> simp [ix4]
    · intro a
      fin_cases a <;> simp [ix4] <;> omega
  · rw [dif_neg hw, dif_neg]
    intro H
    have H3 := (H 3).2
    simp [ix4] at H3
    omega

/-- The log-remainder of key `s` for the query at position `p`. -/
theorem remainders_apply (z : FVec Ideal S8x8x2048x2048 .f32) (b h : Fin 8) (p : Fin 2048) (f : ℕ → ℝ)
    (hf : ∀ s : Fin 2048, z (ix4 b h p s) = ((f s.val : ℝ) : EReal)) (s : Fin 2048) :
    remainders z (ix4 b h p s) = ((Cert.Sb.logRem f p.val s.val : ℝ) : EReal) := by
  show Scalar.select (before (ix4 b h p s)) (logSig (Host.negf z) (ix4 b h p s)) (zeros (ix4 b h p s)) = _
  have h0 : zeros (ix4 b h p s) = (0 : EReal) := by pointwise
  have hn : Host.negf z (ix4 b h p s) = -((f s.val : ℝ) : EReal) := by rw [← hf]; rfl
  rw [before_apply, WordCmp.select_ofBool, logSig_apply, hn, neg_neg, Cert.Sb.soft_coe, h0]
  unfold Cert.Sb.logRem
  by_cases hs : s.val < p.val <;> simp [hs]

/-- What the keys from `s` on leave together. -/
theorem suffixSums_coe (z : FVec Ideal S8x8x2048x2048 .f32) (b h : Fin 8) (p : Fin 2048) (f : ℕ → ℝ)
    (hf : ∀ s : Fin 2048, z (ix4 b h p s) = ((f s.val : ℝ) : EReal)) (s : Fin 2048) :
    suffixSums z (ix4 b h p s) = ((∑ t ∈ Finset.Ico s.val 2048, f t : ℝ) : EReal) := by
  rw [suffixSums_apply]
  have e := Cert.Sb.sum_tile (fun t => if t < 2048 then ((f t : ℝ) : EReal) else 0) s.val 2048
  rw [← Finset.sum_Ico_consecutive _ (show s.val ≤ 2048 by omega) (show 2048 ≤ s.val + 2048 by omega),
    Finset.sum_eq_zero (s := Finset.Ico 2048 _) (fun t ht => if_neg (by have := (Finset.mem_Ico.1 ht).1; omega)), add_zero] at e
  rw [Cert.Sb.coe_sum]
  refine Eq.trans (Finset.sum_congr rfl fun w _ => ?_) (e.trans (Finset.sum_congr rfl fun t ht => if_pos (Finset.mem_Ico.1 ht).2))
  by_cases hw : s.val + w.val < 2048
  · rw [dif_pos hw, if_pos hw, hf]
  · rw [dif_neg hw, if_neg hw]

/-- Where the scores of a query are real, its weights are the real ones. -/
theorem weights_apply (z : FVec Ideal S8x8x2048x2048 .f32) (b h : Fin 8) (p : Fin 2048) (f : ℕ → ℝ)
    (hf : ∀ s : Fin 2048, z (ix4 b h p s) = ((f s.val : ℝ) : EReal)) (s : Fin 2048) :
    weights z (ix4 b h p s) = ((Cert.Sb.weight 2048 f p.val s.val : ℝ) : EReal) := by
  show Scalar.select (before (ix4 b h p s)) (Ideal.exp (logSig z (ix4 b h p s)
    + (suffixSums (remainders z) (ix4 b h p s) - remainders z (ix4 b h p s)))) (zeros (ix4 b h p s)) = _
  have h0 : zeros (ix4 b h p s) = (0 : EReal) := by pointwise
  rw [before_apply, WordCmp.select_ofBool, logSig_apply, h0, suffixSums_coe _ b h p (Cert.Sb.logRem f p.val)
    (remainders_apply z b h p f hf), remainders_apply z b h p f hf, hf, ← EReal.coe_neg, Cert.Sb.soft_coe, ← EReal.coe_neg,
    ← EReal.coe_sub, ← EReal.coe_add, Cert.Sb.exp_coe, Finset.sum_eq_sum_Ico_succ_bot s.isLt, add_sub_cancel_left]
  unfold Cert.Sb.weight
  by_cases hs : s.val < p.val <;> simp [hs]

/-- Scores of real queries and keys are real. -/
theorem scores_real (q k : FVec Ideal S16384x1024 .bf16) (hq : ∀ i, ∃ r : ℝ, q i = (r : EReal)) (hk : ∀ i, ∃ r : ℝ, k i = (r : EReal))
    (b h : Fin 8) (p : Fin 2048) : ∃ f : ℕ → ℝ, ∀ s : Fin 2048, scores q k (ix4 b h p s) = ((f s.val : ℝ) : EReal) := by
  choose qr hqr using hq
  choose kr hkr using hk
  obtain ⟨c, hc⟩ := Cert.Sb.scale_real
  have h : ∀ s : Fin 2048, ∃ z : ℝ, scores q k (ix4 b h p s) = (z : EReal) := by
    intro s
    rw [scores_apply, hc]
    simp only [hqr, hkr, ← EReal.coe_mul, ← Cert.Sb.coe_sum]
    exact ⟨_, rfl⟩
  choose z hz using h
  refine ⟨fun t => if ht : t < 2048 then z ⟨t, ht⟩ else 0, fun s => ?_⟩
  show _ = (((if ht : s.val < 2048 then z ⟨s.val, ht⟩ else 0 : ℝ)) : EReal)
  rw [hz, dif_pos s.isLt]

end Cert.ReferenceIdeal.Value

end
-- ==== Proof.Sb.Final.lean ====
/-
  The kernel's whole result, from the blocks its grid points leave.
-/
module

public import proofs.«01_k».proof.Proof.Sb.Sweep
public import proofs.«01_k».proof.Proof.Sb.Reference
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Finset

variable (m : (ℓ : Loc nD τ sig) → Buf (Elt Ideal) ℓ)

/-- Which block of queries a grid point works on. -/
theorem idx_q : ∀ t : Fin grid0.N, win0_0.index t = ![t.val / 64 * 8 + t.val % 8, t.val / 8 % 8] := by decide +kernel
/-- Which block of keys a grid point works on. -/
theorem idx_k : ∀ t : Fin grid0.N, win0_1.index t = ![t.val / 64, t.val / 8 % 8] := by decide +kernel
/-- Which block of values a grid point works on. -/
theorem idx_v : ∀ t : Fin grid0.N, win0_2.index t = ![t.val / 64, t.val / 8 % 8] := by decide +kernel
/-- Which block of the result a grid point writes. -/
theorem idx_o : ∀ t : Fin grid0.N, win0_3.index t = ![t.val / 64 * 8 + t.val % 8, t.val / 8 % 8] := by decide +kernel
/-- A grid point's tile of queries within its sequence. -/
theorem tile_of : ∀ t : Fin grid0.N, ((grid0.coords t) 2).val = t.val % 8 := by decide +kernel

/-- The block of queries that grid point `t` reads. -/
theorem q_block (c : Dev nD) (t : Fin cfg0.N) (r : Fin 256) (x : Fin 128)
    (h : (t.val / 64 * 8 + t.val % 8) * 256 + r.val < 16384) (h' : t.val / 8 % 8 * 128 + x.val < 1024) :
    iblk (F := Ideal) m c 0 t (ix2 r x) = m ((c.tc : Thread nD τ).loc main_arg0)
      (ix2 ⟨(t.val / 64 * 8 + t.val % 8) * 256 + r.val, h⟩ ⟨t.val / 8 % 8 * 128 + x.val, h'⟩) := by
  blk_simp [iblk]
  refine congrArg (m ((c.tc : Thread nD τ).loc main_arg0)) ?_
  blk_ext [idx_q]

/-- The block of keys that grid point `t` reads: the whole sequence, one head. -/
theorem k_block (c : Dev nD) (t : Fin cfg0.N) (s : Fin 2048) (x : Fin 128)
    (h : t.val / 64 * 2048 + s.val < 16384) (h' : t.val / 8 % 8 * 128 + x.val < 1024) :
    iblk (F := Ideal) m c 1 t (ix2 s x) = m ((c.tc : Thread nD τ).loc main_arg1)
      (ix2 ⟨t.val / 64 * 2048 + s.val, h⟩ ⟨t.val / 8 % 8 * 128 + x.val, h'⟩) := by
  blk_simp [iblk]
  refine congrArg (m ((c.tc : Thread nD τ).loc main_arg1)) ?_
  blk_ext [idx_k]

/-- The block of values that grid point `t` reads: the whole sequence, one head. -/
theorem v_block (c : Dev nD) (t : Fin cfg0.N) (s : Fin 2048) (x : Fin 128)
    (h : t.val / 64 * 2048 + s.val < 16384) (h' : t.val / 8 % 8 * 128 + x.val < 1024) :
    iblk (F := Ideal) m c 2 t (ix2 s x) = m ((c.tc : Thread nD τ).loc main_arg2)
      (ix2 ⟨t.val / 64 * 2048 + s.val, h⟩ ⟨t.val / 8 % 8 * 128 + x.val, h'⟩) := by
  blk_simp [iblk]
  refine congrArg (m ((c.tc : Thread nD τ).loc main_arg2)) ?_
  blk_ext [idx_v]

/-- The result array is the reference's, where the queries and keys are real. -/
theorem final (c : Dev nD) (hq : ∀ i, ∃ r : ℝ, m ((c.tc : Thread nD τ).loc main_arg0) i = (r : EReal))
    (hk : ∀ i, ∃ r : ℝ, m ((c.tc : Thread nD τ).loc main_arg1) i = (r : EReal)) :
    (dats (F := Ideal) m 0 c).arrAt 3 cfg0.N
      = Cert.ReferenceIdeal.Value.attend (m ((c.tc : Thread nD τ).loc main_arg2))
        (Cert.ReferenceIdeal.Value.weights (Cert.ReferenceIdeal.Value.scores
          (m ((c.tc : Thread nD τ).loc main_arg0)) (m ((c.tc : Thread nD τ).loc main_arg1)))) := by
  refine (dats m 0 c).arrAt_eq_of_covers 3 _ (by decide +kernel) fun t hf y => ?_
  blk_simp
  rw [after0_3]
  unfold outsAt0
  rw [out_eq]
  idx_vars y
  have ht : t.val < 512 := lt_of_lt_of_eq t.isLt N_0
  have hb : t.val / 64 < 8 := by omega
  have hemb : ((View.whole main_v0).slice (win0_3.rect t)).emb (ix2 y0 y1)
      = ix2 ⟨(t.val / 64 * 8 + t.val % 8) * 256 + y0.val, by omega⟩ ⟨t.val / 8 % 8 * 128 + y1.val, by omega⟩ := by
    blk_ext [idx_o]
  rw [hemb, Cert.ReferenceIdeal.Value.attend_apply]
  have eb : ((t.val / 64 * 8 + t.val % 8) * 256 + y0.val) / 2048 = t.val / 64 := by omega
  have ep : ((t.val / 64 * 8 + t.val % 8) * 256 + y0.val) % 2048 = t.val % 8 * 256 + y0.val := by omega
  have eh : (t.val / 8 % 8 * 128 + y1.val) / 128 = t.val / 8 % 8 := by omega
  simp only [eb, ep, eh]
  obtain ⟨f, hf'⟩ := Cert.ReferenceIdeal.Value.scores_real _ _ hq hk ⟨t.val / 64, hb⟩ ⟨t.val / 8 % 8, by omega⟩
    ⟨t.val % 8 * 256 + y0.val, by omega⟩
  have hs := (sweep (grid0.coords t) (iblk (F := Ideal) m c 0 t) (iblk (F := Ideal) m c 1 t) (iblk (F := Ideal) m c 2 t) y0 f
    (fun s => by
      rw [← hf', Cert.ReferenceIdeal.Value.scores_apply]
      congr 1
      refine sum_congr rfl fun x _ => ?_
      rw [q_block m c t y0 x (by omega) (by omega), k_block m c t s x (by omega) (by omega)]
      congr 3
      apply Fin.ext
      show _ = t.val / 64 * 2048 + (t.val % 8 * 256 + y0.val)
      show (t.val / 64 * 8 + t.val % 8) * 256 + y0.val = _
      omega) _ le_rfl).2 y1
  refine Eq.trans (b := (carried (F := Ideal) (grid0.coords t) (iblk m c 0 t) (iblk m c 1 t) (iblk m c 2 t) ((grid0.coords t 2).val + 1)).1 (ix2 y0 y1)) ?_ (hs.trans ?_)
  · pointwise [k0_pay8]
  · rw [Nat.sub_self, zero_mul, tile_of t]
    have hz : ∑ s ∈ Ico ((t.val % 8 + 1) * 256) 2048,
        ((Cert.Sb.weight 2048 f (t.val % 8 * 256 + y0.val) s : ℝ) : EReal) * rowVal (iblk (F := Ideal) m c 2 t) y1 s = 0 := by
      refine sum_eq_zero fun s hs => ?_
      have := (mem_Ico.1 hs).1
      rw [Cert.Sb.weight, if_neg (by omega), EReal.coe_zero, zero_mul]
    rw [← add_zero (∑ s ∈ Ico 0 _, _), ← hz, sum_Ico_consecutive _ (by omega) (by omega)]
    have e := Cert.Sb.sum_tile (fun s => ((Cert.Sb.weight 2048 f (t.val % 8 * 256 + y0.val) s : ℝ) : EReal)
      * rowVal (iblk (F := Ideal) m c 2 t) y1 s) 0 2048
    simp only [Nat.zero_add] at e
    refine e.symm.trans (sum_congr rfl fun s _ => ?_)
    rw [Cert.ReferenceIdeal.Value.weights_apply _ _ _ _ f hf', rowVal, dif_pos s.isLt,
      v_block m c t s y1 (by omega) (by omega), mul_comm]

end Cert.KernelIdeal.Value

end
-- ==== Proof.Pj.Run2.lean ====
/-
  The run of the prompt projections: whatever memory it is launched from, it ends with every array of the chip at the contents
  that its last step leaves.
-/
module

public import proofs.«01_k».proof.Proof.Gen.Kernel2Ideal.Frame

@[expose] public section

set_option maxRecDepth 16384

noncomputable section

namespace Cert.Kernel2Ideal.Value

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing faulting, with each array at the contents the last step leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

end Cert.Kernel2Ideal.Value

end
-- ==== Proof.Pj.Spec.lean ====
/-
  The numbers the input projections compute, row by row.
-/
module

public import Idealize.ShloMosaic.PureOps.Ideal

@[expose] public section

set_option maxRecDepth 16384

noncomputable section

open Idealize.ShloMosaic Idealize.ShloMosaic.TcCoe Idealize.SL.Sem

namespace Cert.Pj

/-- The constant the norms add below the root. -/
abbrev eps : EReal := Ideal.ofBits .f32 897988541#32

/-- An entry of a row divided by the root of its mean square, times the gain; `cnt` is the row's length. -/
def normed {n : ℕ} (cnt : EReal) (x g : Fin n → EReal) (k : Fin n) : EReal :=
  x k * Ideal.rsqrt (Ideal.div (∑ j, x j * x j) cnt + eps) * g k

/-- The norm over the model's width. -/
abbrev wide (x g : Fin 2048 → EReal) : Fin 2048 → EReal := normed (Ideal.ofBits .f32 1157627904#32) x g

/-- The norm over a head's width. -/
abbrev narrow (x g : Fin 128 → EReal) : Fin 128 → EReal := normed (Ideal.ofBits .f32 1124073472#32) x g

/-- Column `e` of a row's projection. -/
def proj (x g : Fin 2048 → EReal) (w : Fin 2048 → Fin 10240 → EReal) (e : Fin 10240) : EReal :=
  ∑ k, wide x g k * w k e

/-- Column `e` of the 1024 columns that begin at `o` and are normed head by head. -/
def headed (x g : Fin 2048 → EReal) (w : Fin 2048 → Fin 10240 → EReal) (gain : Fin 128 → EReal) (o : ℕ) (ho : o + 1024 ≤ 10240)
    (e : Fin 1024) : EReal :=
  narrow (fun d => proj x g w ⟨o + (e.val / 128 * 128 + d.val), by omega⟩) gain ⟨e.val % 128, by omega⟩

end Cert.Pj

end
-- ==== Proof.Pj.Blocks2.lean ====
/-
  What one block of each call of the prompt's projections computes, entry by entry.
-/
module

public import proofs.«01_k».proof.Proof.Gen.Kernel2Ideal.Skeleton
public import proofs.«01_k».proof.Proof.Pj.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Pj

/-- The norm's block: every row normed over its width. -/
theorem rms_apply (x : Vec Ideal S512x2048 .f32) (g : Vec Ideal S1x2048 .f32) (r : Fin 512) (k : Fin 2048) :
    k0_pay1 (F := Ideal) x g (ix2 r k) = wide (fun j => x (ix2 r j)) (fun j => g (ix2 0 j)) k := by
  pointwise [k0_pay1]
  rfl

/-- An entry of the product of a block of rows with a block of columns. -/
abbrev rowDot (x : Vec Ideal S512x2048 .bf16) (w : Vec Ideal S2048x1024 .bf16) (r : Fin 512) (k : Fin 1024) : EReal :=
  ∑ j : Fin 2048, (x (ix2 r j) : EReal) * w (ix2 j k)

/-- The columns of the product normed in groups of a head's width. -/
def rowHeads (x : Vec Ideal S512x2048 .bf16) (w : Vec Ideal S2048x1024 .bf16) (g : Vec Ideal S1x128 .f32) (r : Fin 512) (k : Fin 1024) : EReal :=
  narrow (fun d => rowDot x w r ⟨k.val / 128 * 128 + d.val, by omega⟩) (fun d => g (ix2 0 d)) ⟨k.val % 128, by omega⟩

/-- The projection's block, the stick-breaking queries: rows times columns. -/
theorem dot1_1 (x : Vec Ideal S512x2048 .bf16) (w : Vec Ideal S2048x1024 .bf16) (r : Fin 512) (k : Fin 1024) :
    k1_pay1 (F := Ideal) x w (ix2 r k) = rowDot x w r k := by
  pointwise [k1_pay1]

/-- The projection's block, the stick-breaking keys: rows times columns. -/
theorem dot2_1 (x : Vec Ideal S512x2048 .bf16) (w : Vec Ideal S2048x1024 .bf16) (r : Fin 512) (k : Fin 1024) :
    k2_pay1 (F := Ideal) x w (ix2 r k) = rowDot x w r k := by
  pointwise [k2_pay1]

/-- The projection's block, the stick-breaking keys rounded: rows times columns. -/
theorem dot2_2 (x : Vec Ideal S512x2048 .bf16) (w : Vec Ideal S2048x1024 .bf16) (r : Fin 512) (k : Fin 1024) :
    k2_pay2 (F := Ideal) x w (ix2 r k) = rowDot x w r k := by
  pointwise [k2_pay2, k2_pay1]

/-- The projection's block, the stick-breaking values: rows times columns. -/
theorem dot3_1 (x : Vec Ideal S512x2048 .bf16) (w : Vec Ideal S2048x1024 .bf16) (r : Fin 512) (k : Fin 1024) :
    k3_pay1 (F := Ideal) x w (ix2 r k) = rowDot x w r k := by
  pointwise [k3_pay1]

/-- The projection's block, the stick-breaking values rounded: rows times columns. -/
theorem dot3_2 (x : Vec Ideal S512x2048 .bf16) (w : Vec Ideal S2048x1024 .bf16) (r : Fin 512) (k : Fin 1024) :
    k3_pay2 (F := Ideal) x w (ix2 r k) = rowDot x w r k := by
  pointwise [k3_pay2, k3_pay1]

/-- The projection's block, the differential values: rows times columns. -/
theorem dot6_1 (x : Vec Ideal S512x2048 .bf16) (w : Vec Ideal S2048x1024 .bf16) (r : Fin 512) (k : Fin 1024) :
    k6_pay1 (F := Ideal) x w (ix2 r k) = rowDot x w r k := by
  pointwise [k6_pay1]

/-- The projection's block, the differential values rounded: rows times columns. -/
theorem dot6_2 (x : Vec Ideal S512x2048 .bf16) (w : Vec Ideal S2048x1024 .bf16) (r : Fin 512) (k : Fin 1024) :
    k6_pay2 (F := Ideal) x w (ix2 r k) = rowDot x w r k := by
  pointwise [k6_pay2, k6_pay1]

/-- The gates' block: the logistic function of rows times columns. -/
theorem gates_apply (x : Vec Ideal S512x2048 .bf16) (w : Vec Ideal S2048x1024 .bf16) (r : Fin 512) (k : Fin 1024) :
    k7_pay1 (F := Ideal) x w (ix2 r k) = Ideal.logistic (rowDot x w r k) := by
  pointwise [k7_pay1]

/-- The product before the queries' norm. -/
theorem acc4 (x : Vec Ideal S512x2048 .bf16) (w : Vec Ideal S2048x1024 .bf16) (r : Fin 512) (k : Fin 1024) :
    k4_pay2 (F := Ideal) x w (ix2 r k) = rowDot x w r k := by
  pointwise [k4_pay2]

/-- The queries' gain. -/
theorem gain4 (g : Vec Ideal S1x128 .f32) (d : Fin 128) : k4_pay3 (F := Ideal) g (ix2 0 d) = g (ix2 0 d) := by
  pointwise [k4_pay3]

/-- Head 0 of the queries. -/
theorem seg4_0 (x : Vec Ideal S512x2048 .bf16) (w : Vec Ideal S2048x1024 .bf16) (g : Vec Ideal S1x128 .f32) (r : Fin 512) (d : Fin 128) :
    k4_pay4 (F := Ideal) x w g (ix2 r d) = narrow (fun d => (k4_pay2 x w) (ix2 r ⟨0 + d.val, by omega⟩)) (fun d => (k4_pay3 g) (ix2 0 d)) d := by
  pointwise [k4_pay4]
  rfl

/-- Head 1 of the queries. -/
theorem seg4_1 (x : Vec Ideal S512x2048 .bf16) (w : Vec Ideal S2048x1024 .bf16) (g : Vec Ideal S1x128 .f32) (r : Fin 512) (d : Fin 128) :
    k4_pay5 (F := Ideal) x w g (ix2 r d) = narrow (fun d => (k4_pay2 x w) (ix2 r ⟨128 + d.val, by omega⟩)) (fun d => (k4_pay3 g) (ix2 0 d)) d := by
  pointwise [k4_pay5]
  rfl

/-- Head 2 of the queries. -/
theorem seg4_2 (x : Vec Ideal S512x2048 .bf16) (w : Vec Ideal S2048x1024 .bf16) (g : Vec Ideal S1x128 .f32) (r : Fin 512) (d : Fin 128) :
    k4_pay8 (F := Ideal) (k4_pay3 g) (k4_pay6 x w) (k4_pay7 x w) (ix2 r d) = narrow (fun d => (k4_pay2 x w) (ix2 r ⟨256 + d.val, by omega⟩)) (fun d => (k4_pay3 g) (ix2 0 d)) d := by
  pointwise [k4_pay8, k4_pay7, k4_pay6]
  rfl

/-- Head 3 of the queries. -/
theorem seg4_3 (A : FVec Ideal S512x1024 .f32) (G : FVec Ideal S1x128 .f32) (r : Fin 512) (d : Fin 128) :
    k4_pay9 (F := Ideal) A G (ix2 r d) = narrow (fun d => A (ix2 r ⟨384 + d.val, by omega⟩)) (fun d => G (ix2 0 d)) d := by
  pointwise [k4_pay9]
  rfl

/-- Head 4 of the queries. -/
theorem seg4_4 (A : FVec Ideal S512x1024 .f32) (G : FVec Ideal S1x128 .f32) (r : Fin 512) (d : Fin 128) :
    k4_pay10 (F := Ideal) A G (ix2 r d) = narrow (fun d => A (ix2 r ⟨512 + d.val, by omega⟩)) (fun d => G (ix2 0 d)) d := by
  pointwise [k4_pay10]
  rfl

/-- Head 5 of the queries. -/
theorem seg4_5 (A : FVec Ideal S512x1024 .f32) (G : FVec Ideal S1x128 .f32) (r : Fin 512) (d : Fin 128) :
    k4_pay11 (F := Ideal) A G (ix2 r d) = narrow (fun d => A (ix2 r ⟨640 + d.val, by omega⟩)) (fun d => G (ix2 0 d)) d := by
  pointwise [k4_pay11]
  rfl

/-- The differential queries' block: the product normed head by head. -/
theorem heads4 (x : Vec Ideal S512x2048 .bf16) (w : Vec Ideal S2048x1024 .bf16) (g : Vec Ideal S1x128 .f32) (r : Fin 512) (k : Fin 1024) :
    k4_pay1 (F := Ideal) (k4_pay2 x w) (k4_pay3 g) (k4_pay4 x w g) (k4_pay5 x w g) (k4_pay8 (k4_pay3 g) (k4_pay6 x w) (k4_pay7 x w)) (k4_pay9 (k4_pay2 x w) (k4_pay3 g)) (k4_pay10 (k4_pay2 x w) (k4_pay3 g)) (k4_pay11 (k4_pay2 x w) (k4_pay3 g)) (k4_pay12 (k4_pay2 x w)) (k4_pay13 (k4_pay2 x w)) (ix2 r k) = rowHeads x w g r k := by
  pointwise [k4_pay1, k4_pay12, k4_pay13]
  have hk := k.isLt
  have hj : k.val / 128 = 0 ∨ k.val / 128 = 1 ∨ k.val / 128 = 2 ∨ k.val / 128 = 3 ∨ k.val / 128 = 4 ∨ k.val / 128 = 5
    ∨ k.val / 128 = 6 ∨ k.val / 128 = 7 := by omega
  rcases hj with e | e | e | e | e | e | e | e
  · rw [dif_pos (by omega)]
    rw [seg4_0]
    simp only [acc4, gain4]
    unfold rowHeads
    simp only [e]
    have f : k.val % 128 = k.val - 0 := by omega
    simp only [f, Nat.sub_sub]
    rfl
  · rw [dif_neg (by omega)]; rw [dif_pos (by omega)]
    rw [seg4_1]
    simp only [acc4, gain4]
    unfold rowHeads
    simp only [e]
    have f : k.val % 128 = k.val - 128 := by omega
    simp only [f, Nat.sub_sub]
  · rw [dif_neg (by omega)]; rw [dif_neg (by omega)]; rw [dif_pos (by omega)]
    rw [seg4_2]
    simp only [acc4, gain4]
    unfold rowHeads
    simp only [e]
    have f : k.val % 128 = k.val - 256 := by omega
    simp only [f, Nat.sub_sub]
  · rw [dif_neg (by omega)]; rw [dif_neg (by omega)]; rw [dif_neg (by omega)]; rw [dif_pos (by omega)]
    rw [seg4_3]
    simp only [acc4, gain4]
    unfold rowHeads
    simp only [e]
    have f : k.val % 128 = k.val - 384 := by omega
    simp only [f, Nat.sub_sub]
  · rw [dif_neg (by omega)]; rw [dif_neg (by omega)]; rw [dif_neg (by omega)]; rw [dif_neg (by omega)]; rw [dif_pos (by omega)]
    rw [seg4_4]
    simp only [acc4, gain4]
    unfold rowHeads
    simp only [e]
    have f : k.val % 128 = k.val - 512 := by omega
    simp only [f, Nat.sub_sub]
  · rw [dif_neg (by omega)]; rw [dif_neg (by omega)]; rw [dif_neg (by omega)]; rw [dif_neg (by omega)]; rw [dif_neg (by omega)]; rw [dif_pos (by omega)]
    rw [seg4_5]
    simp only [acc4, gain4]
    unfold rowHeads
    simp only [e]
    have f : k.val % 128 = k.val - 640 := by omega
    simp only [f, Nat.sub_sub]
  · rw [dif_neg (by omega)]; rw [dif_neg (by omega)]; rw [dif_neg (by omega)]; rw [dif_neg (by omega)]; rw [dif_neg (by omega)]; rw [dif_neg (by omega)]; rw [dif_pos (by omega)]
    simp only [acc4, gain4]
    unfold rowHeads
    simp only [e]
    have f : k.val % 128 = k.val - 768 := by omega
    simp only [f, Nat.sub_sub]
    rfl
  · rw [dif_neg (by omega)]; rw [dif_neg (by omega)]; rw [dif_neg (by omega)]; rw [dif_neg (by omega)]; rw [dif_neg (by omega)]; rw [dif_neg (by omega)]; rw [dif_neg (by omega)]; skip
    simp only [acc4, gain4]
    unfold rowHeads
    simp only [e]
    have f : k.val % 128 = k.val - 896 := by omega
    simp only [f, Nat.sub_sub]
    rfl

/-- The product before the keys' norm. -/
theorem acc5 (x : Vec Ideal S512x2048 .bf16) (w : Vec Ideal S2048x1024 .bf16) (r : Fin 512) (k : Fin 1024) :
    k5_pay3 (F := Ideal) x w (ix2 r k) = rowDot x w r k := by
  pointwise [k5_pay3]

/-- The keys' gain. -/
theorem gain5 (g : Vec Ideal S1x128 .f32) (d : Fin 128) : k5_pay4 (F := Ideal) g (ix2 0 d) = g (ix2 0 d) := by
  pointwise [k5_pay4]

/-- Head 0 of the keys. -/
theorem seg5_0 (x : Vec Ideal S512x2048 .bf16) (w : Vec Ideal S2048x1024 .bf16) (g : Vec Ideal S1x128 .f32) (r : Fin 512) (d : Fin 128) :
    k5_pay5 (F := Ideal) x w g (ix2 r d) = narrow (fun d => (k5_pay3 x w) (ix2 r ⟨0 + d.val, by omega⟩)) (fun d => (k5_pay4 g) (ix2 0 d)) d := by
  pointwise [k5_pay5]
  rfl

/-- Head 1 of the keys. -/
theorem seg5_1 (x : Vec Ideal S512x2048 .bf16) (w : Vec Ideal S2048x1024 .bf16) (g : Vec Ideal S1x128 .f32) (r : Fin 512) (d : Fin 128) :
    k5_pay6 (F := Ideal) x w g (ix2 r d) = narrow (fun d => (k5_pay3 x w) (ix2 r ⟨128 + d.val, by omega⟩)) (fun d => (k5_pay4 g) (ix2 0 d)) d := by
  pointwise [k5_pay6]
  rfl

/-- Head 2 of the keys. -/
theorem seg5_2 (x : Vec Ideal S512x2048 .bf16) (w : Vec Ideal S2048x1024 .bf16) (g : Vec Ideal S1x128 .f32) (r : Fin 512) (d : Fin 128) :
    k5_pay9 (F := Ideal) (k5_pay4 g) (k5_pay7 x w) (k5_pay8 x w) (ix2 r d) = narrow (fun d => (k5_pay3 x w) (ix2 r ⟨256 + d.val, by omega⟩)) (fun d => (k5_pay4 g) (ix2 0 d)) d := by
  pointwise [k5_pay9, k5_pay8, k5_pay7]
  rfl

/-- Head 3 of the keys. -/
theorem seg5_3 (A : FVec Ideal S512x1024 .f32) (G : FVec Ideal S1x128 .f32) (r : Fin 512) (d : Fin 128) :
    k5_pay10 (F := Ideal) A G (ix2 r d) = narrow (fun d => A (ix2 r ⟨384 + d.val, by omega⟩)) (fun d => G (ix2 0 d)) d := by
  pointwise [k5_pay10]
  rfl

/-- Head 4 of the keys. -/
theorem seg5_4 (A : FVec Ideal S512x1024 .f32) (G : FVec Ideal S1x128 .f32) (r : Fin 512) (d : Fin 128) :
    k5_pay11 (F := Ideal) A G (ix2 r d) = narrow (fun d => A (ix2 r ⟨512 + d.val, by omega⟩)) (fun d => G (ix2 0 d)) d := by
  pointwise [k5_pay11]
  rfl

/-- Head 5 of the keys. -/
theorem seg5_5 (A : FVec Ideal S512x1024 .f32) (G : FVec Ideal S1x128 .f32) (r : Fin 512) (d : Fin 128) :
    k5_pay12 (F := Ideal) A G (ix2 r d) = narrow (fun d => A (ix2 r ⟨640 + d.val, by omega⟩)) (fun d => G (ix2 0 d)) d := by
  pointwise [k5_pay12]
  rfl

/-- The differential keys' block: the product normed head by head. -/
theorem heads5 (x : Vec Ideal S512x2048 .bf16) (w : Vec Ideal S2048x1024 .bf16) (g : Vec Ideal S1x128 .f32) (r : Fin 512) (k : Fin 1024) :
    k5_pay1 (F := Ideal) (k5_pay3 x w) (k5_pay4 g) (k5_pay5 x w g) (k5_pay6 x w g) (k5_pay9 (k5_pay4 g) (k5_pay7 x w) (k5_pay8 x w)) (k5_pay10 (k5_pay3 x w) (k5_pay4 g)) (k5_pay11 (k5_pay3 x w) (k5_pay4 g)) (k5_pay12 (k5_pay3 x w) (k5_pay4 g)) (k5_pay13 (k5_pay3 x w)) (k5_pay14 (k5_pay3 x w)) (ix2 r k) = rowHeads x w g r k := by
  pointwise [k5_pay1, k5_pay13, k5_pay14]
  have hk := k.isLt
  have hj : k.val / 128 = 0 ∨ k.val / 128 = 1 ∨ k.val / 128 = 2 ∨ k.val / 128 = 3 ∨ k.val / 128 = 4 ∨ k.val / 128 = 5
    ∨ k.val / 128 = 6 ∨ k.val / 128 = 7 := by omega
  rcases hj with e | e | e | e | e | e | e | e
  · rw [dif_pos (by omega)]
    rw [seg5_0]
    simp only [acc5, gain5]
    unfold rowHeads
    simp only [e]
    have f : k.val % 128 = k.val - 0 := by omega
    simp only [f, Nat.sub_sub]
    rfl
  · rw [dif_neg (by omega)]; rw [dif_pos (by omega)]
    rw [seg5_1]
    simp only [acc5, gain5]
    unfold rowHeads
    simp only [e]
    have f : k.val % 128 = k.val - 128 := by omega
    simp only [f, Nat.sub_sub]
  · rw [dif_neg (by omega)]; rw [dif_neg (by omega)]; rw [dif_pos (by omega)]
    rw [seg5_2]
    simp only [acc5, gain5]
    unfold rowHeads
    simp only [e]
    have f : k.val % 128 = k.val - 256 := by omega
    simp only [f, Nat.sub_sub]
  · rw [dif_neg (by omega)]; rw [dif_neg (by omega)]; rw [dif_neg (by omega)]; rw [dif_pos (by omega)]
    rw [seg5_3]
    simp only [acc5, gain5]
    unfold rowHeads
    simp only [e]
    have f : k.val % 128 = k.val - 384 := by omega
    simp only [f, Nat.sub_sub]
  · rw [dif_neg (by omega)]; rw [dif_neg (by omega)]; rw [dif_neg (by omega)]; rw [dif_neg (by omega)]; rw [dif_pos (by omega)]
    rw [seg5_4]
    simp only [acc5, gain5]
    unfold rowHeads
    simp only [e]
    have f : k.val % 128 = k.val - 512 := by omega
    simp only [f, Nat.sub_sub]
  · rw [dif_neg (by omega)]; rw [dif_neg (by omega)]; rw [dif_neg (by omega)]; rw [dif_neg (by omega)]; rw [dif_neg (by omega)]; rw [dif_pos (by omega)]
    rw [seg5_5]
    simp only [acc5, gain5]
    unfold rowHeads
    simp only [e]
    have f : k.val % 128 = k.val - 640 := by omega
    simp only [f, Nat.sub_sub]
  · rw [dif_neg (by omega)]; rw [dif_neg (by omega)]; rw [dif_neg (by omega)]; rw [dif_neg (by omega)]; rw [dif_neg (by omega)]; rw [dif_neg (by omega)]; rw [dif_pos (by omega)]
    simp only [acc5, gain5]
    unfold rowHeads
    simp only [e]
    have f : k.val % 128 = k.val - 768 := by omega
    simp only [f, Nat.sub_sub]
    rfl
  · rw [dif_neg (by omega)]; rw [dif_neg (by omega)]; rw [dif_neg (by omega)]; rw [dif_neg (by omega)]; rw [dif_neg (by omega)]; rw [dif_neg (by omega)]; rw [dif_neg (by omega)]; skip
    simp only [acc5, gain5]
    unfold rowHeads
    simp only [e]
    have f : k.val % 128 = k.val - 896 := by omega
    simp only [f, Nat.sub_sub]
    rfl

/-- The same, rounded. -/
theorem heads5_rounded (x : Vec Ideal S512x2048 .bf16) (w : Vec Ideal S2048x1024 .bf16) (g : Vec Ideal S1x128 .f32) (r : Fin 512) (k : Fin 1024) :
    k5_pay2 (F := Ideal) (k5_pay3 x w) (k5_pay4 g) (k5_pay5 x w g) (k5_pay6 x w g) (k5_pay9 (k5_pay4 g) (k5_pay7 x w) (k5_pay8 x w)) (k5_pay10 (k5_pay3 x w) (k5_pay4 g)) (k5_pay11 (k5_pay3 x w) (k5_pay4 g)) (k5_pay12 (k5_pay3 x w) (k5_pay4 g)) (k5_pay13 (k5_pay3 x w)) (k5_pay14 (k5_pay3 x w)) (ix2 r k) = rowHeads x w g r k :=
  heads5 x w g r k

end Cert.Kernel2Ideal.Value

end
-- ==== Proof.Pj.Arrays2.lean ====
/-
  What each call of the prompt's projections leaves in its result arrays, entry by entry.
-/
module

public import proofs.«01_k».proof.Proof.Gen.Kernel2Ideal.Frame
public import proofs.«01_k».proof.Proof.Pj.Blocks2
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Pj Finset

variable (V : (c : Dev nD) → (b : Ref sig .tc) → Buf (Elt Ideal) ((c.tc : Thread nD τ).loc b))

/-- An entry of the rows' product with the 1024 columns. -/
def dotArr (h : FVec Ideal S16384x2048 .bf16) (w : FVec Ideal S2048x1024 .bf16) (R : Fin 16384) (C : Fin 1024) : EReal :=
  ∑ j : Fin 2048, (h (ix2 R j) : EReal) * w (ix2 j C)

/-- The same with the heads normed. -/
def headArr (h : FVec Ideal S16384x2048 .bf16) (w : FVec Ideal S2048x1024 .bf16) (g : FVec Ideal S1x128 .f32) (R : Fin 16384) (C : Fin 1024) : EReal :=
  narrow (fun d => dotArr h w R ⟨C.val / 128 * 128 + d.val, by omega⟩) (fun d => g (ix2 0 d)) ⟨C.val % 128, by omega⟩

/-- An entry of the gates. -/
def gateArr (h : FVec Ideal S16384x2048 .bf16) (w : FVec Ideal S2048x4096 .bf16) (R : Fin 16384) (C : Fin 4096) : EReal :=
  Ideal.logistic (∑ j : Fin 2048, (h (ix2 R j) : EReal) * w (ix2 j C))

/-! ## The norm -/

/-- Which block window 0 of call 0 shows at a grid point. -/
theorem idx0_0 : ∀ t : Fin grid0.N, win0_0.index t = ![t.val, 0] := by decide +kernel
/-- Which block window 1 of call 0 shows at a grid point. -/
theorem idx0_1 : ∀ t : Fin grid0.N, win0_1.index t = ![0, 0] := by decide +kernel
/-- Which block window 2 of call 0 shows at a grid point. -/
theorem idx0_2 : ∀ t : Fin grid0.N, win0_2.index t = ![t.val, 0] := by decide +kernel

/-- The block that grid point `t` reads through window 0. -/
theorem blk0_0 (c : Dev nD) (t : Fin cfg0.N) (a : Fin 512) (b : Fin 2048) (h : t.val * 512 + a.val < 16384) :
    iblk0 (F := Ideal) V c 0 t (ix2 a b) = V c main_v8 (ix2 ⟨t.val * 512 + a.val, h⟩ b) := by
  blk_simp [iblk0]
  refine congrArg (V c main_v8) ?_
  blk_ext [idx0_0]

/-- The block that grid point `t` reads through window 1. -/
theorem blk0_1 (c : Dev nD) (t : Fin cfg0.N) (a : Fin 1) (b : Fin 2048) :
    iblk0 (F := Ideal) V c 1 t (ix2 a b) = V c main_v9 (ix2 a b) := by
  blk_simp [iblk0]
  refine congrArg (V c main_v9) ?_
  blk_ext [idx0_1]

/-- The normed rows. -/
theorem arr0_2 (c : Dev nD) : (dat0 (F := Ideal) V c).arrAt 2 cfg0.N
    = fun y : S16384x2048.Idx => wide (fun j => V c main_v8 (ix2 (y 0) j)) (fun j => V c main_v9 (ix2 0 j)) (y 1) := by
  refine (dat0 (F := Ideal) V c).arrAt_eq_of_covers 2 _ (by decide +kernel) fun t hf y => ?_
  blk_simp
  rw [after0_2]
  unfold out0_2
  frame_out
  idx_vars y
  have ht : t.val < 32 := lt_of_lt_of_eq t.isLt N_0
  have hemb : ((View.whole main_v10).slice (win0_2.rect t)).emb (ix2 y0 y1) = ix2 ⟨t.val * 512 + y0.val, by omega⟩ y1 := by
    blk_ext [idx0_2]
  rw [hemb, rms_apply]
  show wide _ _ _ = wide (fun j => V c main_v8 (ix2 ⟨t.val * 512 + y0.val, by omega⟩ j)) (fun j => V c main_v9 (ix2 0 j)) y1
  congr 1
  · funext j
    rw [blk0_0 V c t y0 j (by omega)]
  · funext j
    rw [blk0_1 V c t 0 j]

/-! ## The stick-breaking queries -/

/-- Which block window 0 of call 1 shows at a grid point. -/
theorem idx1_0 : ∀ t : Fin grid1.N, win1_0.index t = ![t.val, 0] := by decide +kernel
/-- Which block window 1 of call 1 shows at a grid point. -/
theorem idx1_1 : ∀ t : Fin grid1.N, win1_1.index t = ![0, 0] := by decide +kernel
/-- Which block window 3 of call 1 shows at a grid point. -/
theorem idx1_3 : ∀ t : Fin grid1.N, win1_3.index t = ![t.val, 0] := by decide +kernel

/-- The block that grid point `t` reads through window 0. -/
theorem blk1_0 (c : Dev nD) (t : Fin cfg1.N) (a : Fin 512) (b : Fin 2048) (h : t.val * 512 + a.val < 16384) :
    iblk1 (F := Ideal) V c 0 t (ix2 a b) = V c main_v10 (ix2 ⟨t.val * 512 + a.val, h⟩ b) := by
  blk_simp [iblk1]
  refine congrArg (V c main_v10) ?_
  blk_ext [idx1_0]

/-- The block that grid point `t` reads through window 1. -/
theorem blk1_1 (c : Dev nD) (t : Fin cfg1.N) (a : Fin 2048) (b : Fin 1024) :
    iblk1 (F := Ideal) V c 1 t (ix2 a b) = V c main_v1 (ix2 a b) := by
  blk_simp [iblk1]
  refine congrArg (V c main_v1) ?_
  blk_ext [idx1_1]

/-- The array of the stick-breaking queries. -/
theorem arr1_3 (c : Dev nD) : (dat1 (F := Ideal) V c).arrAt 3 cfg1.N
    = fun y : S16384x1024.Idx => dotArr (V c main_v10) (V c main_v1) (y 0) (y 1) := by
  refine (dat1 (F := Ideal) V c).arrAt_eq_of_covers 3 _ (by decide +kernel) fun t hf y => ?_
  blk_simp
  rw [after1_3]
  unfold out1_3
  frame_out
  idx_vars y
  have ht : t.val < 32 := lt_of_lt_of_eq t.isLt N_1
  have hemb : ((View.whole main_v13).slice (win1_3.rect t)).emb (ix2 y0 y1) = ix2 ⟨t.val * 512 + y0.val, by omega⟩ y1 := by
    blk_ext [idx1_3]
  rw [hemb, dot1_1]
  show _ = dotArr (V c main_v10) (V c main_v1) ⟨t.val * 512 + y0.val, by omega⟩ y1
  refine sum_congr rfl fun j _ => ?_
  rw [blk1_0 V c t y0 j (by omega), blk1_1 V c t j _]

/-! ## The stick-breaking keys -/

/-- Which block window 0 of call 2 shows at a grid point. -/
theorem idx2_0 : ∀ t : Fin grid2.N, win2_0.index t = ![t.val, 0] := by decide +kernel
/-- Which block window 1 of call 2 shows at a grid point. -/
theorem idx2_1 : ∀ t : Fin grid2.N, win2_1.index t = ![0, 0] := by decide +kernel
/-- Which block window 3 of call 2 shows at a grid point. -/
theorem idx2_3 : ∀ t : Fin grid2.N, win2_3.index t = ![t.val, 0] := by decide +kernel
/-- Which block window 4 of call 2 shows at a grid point. -/
theorem idx2_4 : ∀ t : Fin grid2.N, win2_4.index t = ![t.val, 0] := by decide +kernel

/-- The block that grid point `t` reads through window 0. -/
theorem blk2_0 (c : Dev nD) (t : Fin cfg2.N) (a : Fin 512) (b : Fin 2048) (h : t.val * 512 + a.val < 16384) :
    iblk2 (F := Ideal) V c 0 t (ix2 a b) = V c main_v10 (ix2 ⟨t.val * 512 + a.val, h⟩ b) := by
  blk_simp [iblk2]
  refine congrArg (V c main_v10) ?_
  blk_ext [idx2_0]

/-- The block that grid point `t` reads through window 1. -/
theorem blk2_1 (c : Dev nD) (t : Fin cfg2.N) (a : Fin 2048) (b : Fin 1024) :
    iblk2 (F := Ideal) V c 1 t (ix2 a b) = V c main_v2 (ix2 a b) := by
  blk_simp [iblk2]
  refine congrArg (V c main_v2) ?_
  blk_ext [idx2_1]

/-- The array of the stick-breaking keys. -/
theorem arr2_3 (c : Dev nD) : (dat2 (F := Ideal) V c).arrAt 3 cfg2.N
    = fun y : S16384x1024.Idx => dotArr (V c main_v10) (V c main_v2) (y 0) (y 1) := by
  refine (dat2 (F := Ideal) V c).arrAt_eq_of_covers 3 _ (by decide +kernel) fun t hf y => ?_
  blk_simp
  rw [after2_3]
  unfold out2_3
  frame_out
  idx_vars y
  have ht : t.val < 32 := lt_of_lt_of_eq t.isLt N_2
  have hemb : ((View.whole main_v16_0).slice (win2_3.rect t)).emb (ix2 y0 y1) = ix2 ⟨t.val * 512 + y0.val, by omega⟩ y1 := by
    blk_ext [idx2_3]
  rw [hemb, dot2_1]
  show _ = dotArr (V c main_v10) (V c main_v2) ⟨t.val * 512 + y0.val, by omega⟩ y1
  refine sum_congr rfl fun j _ => ?_
  rw [blk2_0 V c t y0 j (by omega), blk2_1 V c t j _]

/-- The array of the stick-breaking keys rounded. -/
theorem arr2_4 (c : Dev nD) : (dat2 (F := Ideal) V c).arrAt 4 cfg2.N
    = fun y : S16384x1024.Idx => dotArr (V c main_v10) (V c main_v2) (y 0) (y 1) := by
  refine (dat2 (F := Ideal) V c).arrAt_eq_of_covers 4 _ (by decide +kernel) fun t hf y => ?_
  blk_simp
  rw [after2_4]
  unfold out2_4
  frame_out
  idx_vars y
  have ht : t.val < 32 := lt_of_lt_of_eq t.isLt N_2
  have hemb : ((View.whole main_v16_1).slice (win2_4.rect t)).emb (ix2 y0 y1) = ix2 ⟨t.val * 512 + y0.val, by omega⟩ y1 := by
    blk_ext [idx2_4]
  rw [hemb, dot2_2]
  show _ = dotArr (V c main_v10) (V c main_v2) ⟨t.val * 512 + y0.val, by omega⟩ y1
  refine sum_congr rfl fun j _ => ?_
  rw [blk2_0 V c t y0 j (by omega), blk2_1 V c t j _]

/-! ## The stick-breaking values -/

/-- Which block window 0 of call 3 shows at a grid point. -/
theorem idx3_0 : ∀ t : Fin grid3.N, win3_0.index t = ![t.val, 0] := by decide +kernel
/-- Which block window 1 of call 3 shows at a grid point. -/
theorem idx3_1 : ∀ t : Fin grid3.N, win3_1.index t = ![0, 0] := by decide +kernel
/-- Which block window 3 of call 3 shows at a grid point. -/
theorem idx3_3 : ∀ t : Fin grid3.N, win3_3.index t = ![t.val, 0] := by decide +kernel
/-- Which block window 4 of call 3 shows at a grid point. -/
theorem idx3_4 : ∀ t : Fin grid3.N, win3_4.index t = ![t.val, 0] := by decide +kernel

/-- The block that grid point `t` reads through window 0. -/
theorem blk3_0 (c : Dev nD) (t : Fin cfg3.N) (a : Fin 512) (b : Fin 2048) (h : t.val * 512 + a.val < 16384) :
    iblk3 (F := Ideal) V c 0 t (ix2 a b) = V c main_v10 (ix2 ⟨t.val * 512 + a.val, h⟩ b) := by
  blk_simp [iblk3]
  refine congrArg (V c main_v10) ?_
  blk_ext [idx3_0]

/-- The block that grid point `t` reads through window 1. -/
theorem blk3_1 (c : Dev nD) (t : Fin cfg3.N) (a : Fin 2048) (b : Fin 1024) :
    iblk3 (F := Ideal) V c 1 t (ix2 a b) = V c main_v3 (ix2 a b) := by
  blk_simp [iblk3]
  refine congrArg (V c main_v3) ?_
  blk_ext [idx3_1]

/-- The array of the stick-breaking values. -/
theorem arr3_3 (c : Dev nD) : (dat3 (F := Ideal) V c).arrAt 3 cfg3.N
    = fun y : S16384x1024.Idx => dotArr (V c main_v10) (V c main_v3) (y 0) (y 1) := by
  refine (dat3 (F := Ideal) V c).arrAt_eq_of_covers 3 _ (by decide +kernel) fun t hf y => ?_
  blk_simp
  rw [after3_3]
  unfold out3_3
  frame_out
  idx_vars y
  have ht : t.val < 32 := lt_of_lt_of_eq t.isLt N_3
  have hemb : ((View.whole main_v19_0).slice (win3_3.rect t)).emb (ix2 y0 y1) = ix2 ⟨t.val * 512 + y0.val, by omega⟩ y1 := by
    blk_ext [idx3_3]
  rw [hemb, dot3_1]
  show _ = dotArr (V c main_v10) (V c main_v3) ⟨t.val * 512 + y0.val, by omega⟩ y1
  refine sum_congr rfl fun j _ => ?_
  rw [blk3_0 V c t y0 j (by omega), blk3_1 V c t j _]

/-- The array of the stick-breaking values rounded. -/
theorem arr3_4 (c : Dev nD) : (dat3 (F := Ideal) V c).arrAt 4 cfg3.N
    = fun y : S16384x1024.Idx => dotArr (V c main_v10) (V c main_v3) (y 0) (y 1) := by
  refine (dat3 (F := Ideal) V c).arrAt_eq_of_covers 4 _ (by decide +kernel) fun t hf y => ?_
  blk_simp
  rw [after3_4]
  unfold out3_4
  frame_out
  idx_vars y
  have ht : t.val < 32 := lt_of_lt_of_eq t.isLt N_3
  have hemb : ((View.whole main_v19_1).slice (win3_4.rect t)).emb (ix2 y0 y1) = ix2 ⟨t.val * 512 + y0.val, by omega⟩ y1 := by
    blk_ext [idx3_4]
  rw [hemb, dot3_2]
  show _ = dotArr (V c main_v10) (V c main_v3) ⟨t.val * 512 + y0.val, by omega⟩ y1
  refine sum_congr rfl fun j _ => ?_
  rw [blk3_0 V c t y0 j (by omega), blk3_1 V c t j _]

/-! ## The differential queries -/

/-- Which block window 0 of call 4 shows at a grid point. -/
theorem idx4_0 : ∀ t : Fin grid4.N, win4_0.index t = ![t.val, 0] := by decide +kernel
/-- Which block window 1 of call 4 shows at a grid point. -/
theorem idx4_1 : ∀ t : Fin grid4.N, win4_1.index t = ![0, 0] := by decide +kernel
/-- Which block window 2 of call 4 shows at a grid point. -/
theorem idx4_2 : ∀ t : Fin grid4.N, win4_2.index t = ![0, 0] := by decide +kernel
/-- Which block window 3 of call 4 shows at a grid point. -/
theorem idx4_3 : ∀ t : Fin grid4.N, win4_3.index t = ![t.val, 0] := by decide +kernel

/-- The block that grid point `t` reads through window 0. -/
theorem blk4_0 (c : Dev nD) (t : Fin cfg4.N) (a : Fin 512) (b : Fin 2048) (h : t.val * 512 + a.val < 16384) :
    iblk4 (F := Ideal) V c 0 t (ix2 a b) = V c main_v10 (ix2 ⟨t.val * 512 + a.val, h⟩ b) := by
  blk_simp [iblk4]
  refine congrArg (V c main_v10) ?_
  blk_ext [idx4_0]

/-- The block that grid point `t` reads through window 1. -/
theorem blk4_1 (c : Dev nD) (t : Fin cfg4.N) (a : Fin 2048) (b : Fin 1024) :
    iblk4 (F := Ideal) V c 1 t (ix2 a b) = V c main_v4 (ix2 a b) := by
  blk_simp [iblk4]
  refine congrArg (V c main_v4) ?_
  blk_ext [idx4_1]

/-- The block that grid point `t` reads through window 2. -/
theorem blk4_2 (c : Dev nD) (t : Fin cfg4.N) (a : Fin 1) (b : Fin 128) :
    iblk4 (F := Ideal) V c 2 t (ix2 a b) = V c main_v20 (ix2 a b) := by
  blk_simp [iblk4]
  refine congrArg (V c main_v20) ?_
  blk_ext [idx4_2]

/-- The array of the differential queries. -/
theorem arr4_3 (c : Dev nD) : (dat4 (F := Ideal) V c).arrAt 3 cfg4.N
    = fun y : S16384x1024.Idx => headArr (V c main_v10) (V c main_v4) (V c main_v20) (y 0) (y 1) := by
  refine (dat4 (F := Ideal) V c).arrAt_eq_of_covers 3 _ (by decide +kernel) fun t hf y => ?_
  blk_simp
  rw [after4_3]
  unfold_out out4_3
  frame_out
  idx_vars y
  have ht : t.val < 32 := lt_of_lt_of_eq t.isLt N_4
  have hemb : ((View.whole main_v21).slice (win4_3.rect t)).emb (ix2 y0 y1) = ix2 ⟨t.val * 512 + y0.val, by omega⟩ y1 := by
    blk_ext [idx4_3]
  rw [hemb, heads4]
  show _ = headArr (V c main_v10) (V c main_v4) (V c main_v20) ⟨t.val * 512 + y0.val, by omega⟩ y1
  unfold rowHeads headArr
  congr 1
  · funext d
    refine sum_congr rfl fun j _ => ?_
    rw [blk4_0 V c t y0 j (by omega), blk4_1 V c t j _]
  · funext d
    rw [blk4_2 V c t 0 d]

/-! ## The differential keys -/

/-- Which block window 0 of call 5 shows at a grid point. -/
theorem idx5_0 : ∀ t : Fin grid5.N, win5_0.index t = ![t.val, 0] := by decide +kernel
/-- Which block window 1 of call 5 shows at a grid point. -/
theorem idx5_1 : ∀ t : Fin grid5.N, win5_1.index t = ![0, 0] := by decide +kernel
/-- Which block window 2 of call 5 shows at a grid point. -/
theorem idx5_2 : ∀ t : Fin grid5.N, win5_2.index t = ![0, 0] := by decide +kernel
/-- Which block window 3 of call 5 shows at a grid point. -/
theorem idx5_3 : ∀ t : Fin grid5.N, win5_3.index t = ![t.val, 0] := by decide +kernel
/-- Which block window 4 of call 5 shows at a grid point. -/
theorem idx5_4 : ∀ t : Fin grid5.N, win5_4.index t = ![t.val, 0] := by decide +kernel

/-- The block that grid point `t` reads through window 0. -/
theorem blk5_0 (c : Dev nD) (t : Fin cfg5.N) (a : Fin 512) (b : Fin 2048) (h : t.val * 512 + a.val < 16384) :
    iblk5 (F := Ideal) V c 0 t (ix2 a b) = V c main_v10 (ix2 ⟨t.val * 512 + a.val, h⟩ b) := by
  blk_simp [iblk5]
  refine congrArg (V c main_v10) ?_
  blk_ext [idx5_0]

/-- The block that grid point `t` reads through window 1. -/
theorem blk5_1 (c : Dev nD) (t : Fin cfg5.N) (a : Fin 2048) (b : Fin 1024) :
    iblk5 (F := Ideal) V c 1 t (ix2 a b) = V c main_v5 (ix2 a b) := by
  blk_simp [iblk5]
  refine congrArg (V c main_v5) ?_
  blk_ext [idx5_1]

/-- The block that grid point `t` reads through window 2. -/
theorem blk5_2 (c : Dev nD) (t : Fin cfg5.N) (a : Fin 1) (b : Fin 128) :
    iblk5 (F := Ideal) V c 2 t (ix2 a b) = V c main_v22 (ix2 a b) := by
  blk_simp [iblk5]
  refine congrArg (V c main_v22) ?_
  blk_ext [idx5_2]

/-- The array of the differential keys. -/
theorem arr5_3 (c : Dev nD) : (dat5 (F := Ideal) V c).arrAt 3 cfg5.N
    = fun y : S16384x1024.Idx => headArr (V c main_v10) (V c main_v5) (V c main_v22) (y 0) (y 1) := by
  refine (dat5 (F := Ideal) V c).arrAt_eq_of_covers 3 _ (by decide +kernel) fun t hf y => ?_
  blk_simp
  rw [after5_3]
  unfold_out out5_3
  frame_out
  idx_vars y
  have ht : t.val < 32 := lt_of_lt_of_eq t.isLt N_5
  have hemb : ((View.whole main_v23_0).slice (win5_3.rect t)).emb (ix2 y0 y1) = ix2 ⟨t.val * 512 + y0.val, by omega⟩ y1 := by
    blk_ext [idx5_3]
  rw [hemb, heads5]
  show _ = headArr (V c main_v10) (V c main_v5) (V c main_v22) ⟨t.val * 512 + y0.val, by omega⟩ y1
  unfold rowHeads headArr
  congr 1
  · funext d
    refine sum_congr rfl fun j _ => ?_
    rw [blk5_0 V c t y0 j (by omega), blk5_1 V c t j _]
  · funext d
    rw [blk5_2 V c t 0 d]

/-- The array of the differential keys rounded. -/
theorem arr5_4 (c : Dev nD) : (dat5 (F := Ideal) V c).arrAt 4 cfg5.N
    = fun y : S16384x1024.Idx => headArr (V c main_v10) (V c main_v5) (V c main_v22) (y 0) (y 1) := by
  refine (dat5 (F := Ideal) V c).arrAt_eq_of_covers 4 _ (by decide +kernel) fun t hf y => ?_
  blk_simp
  rw [after5_4]
  unfold_out out5_4
  frame_out
  idx_vars y
  have ht : t.val < 32 := lt_of_lt_of_eq t.isLt N_5
  have hemb : ((View.whole main_v23_1).slice (win5_4.rect t)).emb (ix2 y0 y1) = ix2 ⟨t.val * 512 + y0.val, by omega⟩ y1 := by
    blk_ext [idx5_4]
  rw [hemb, heads5_rounded]
  show _ = headArr (V c main_v10) (V c main_v5) (V c main_v22) ⟨t.val * 512 + y0.val, by omega⟩ y1
  unfold rowHeads headArr
  congr 1
  · funext d
    refine sum_congr rfl fun j _ => ?_
    rw [blk5_0 V c t y0 j (by omega), blk5_1 V c t j _]
  · funext d
    rw [blk5_2 V c t 0 d]

/-! ## The differential values -/

/-- Which block window 0 of call 6 shows at a grid point. -/
theorem idx6_0 : ∀ t : Fin grid6.N, win6_0.index t = ![t.val, 0] := by decide +kernel
/-- Which block window 1 of call 6 shows at a grid point. -/
theorem idx6_1 : ∀ t : Fin grid6.N, win6_1.index t = ![0, 0] := by decide +kernel
/-- Which block window 3 of call 6 shows at a grid point. -/
theorem idx6_3 : ∀ t : Fin grid6.N, win6_3.index t = ![t.val, 0] := by decide +kernel
/-- Which block window 4 of call 6 shows at a grid point. -/
theorem idx6_4 : ∀ t : Fin grid6.N, win6_4.index t = ![t.val, 0] := by decide +kernel

/-- The block that grid point `t` reads through window 0. -/
theorem blk6_0 (c : Dev nD) (t : Fin cfg6.N) (a : Fin 512) (b : Fin 2048) (h : t.val * 512 + a.val < 16384) :
    iblk6 (F := Ideal) V c 0 t (ix2 a b) = V c main_v10 (ix2 ⟨t.val * 512 + a.val, h⟩ b) := by
  blk_simp [iblk6]
  refine congrArg (V c main_v10) ?_
  blk_ext [idx6_0]

/-- The block that grid point `t` reads through window 1. -/
theorem blk6_1 (c : Dev nD) (t : Fin cfg6.N) (a : Fin 2048) (b : Fin 1024) :
    iblk6 (F := Ideal) V c 1 t (ix2 a b) = V c main_v6 (ix2 a b) := by
  blk_simp [iblk6]
  refine congrArg (V c main_v6) ?_
  blk_ext [idx6_1]

/-- The array of the differential values. -/
theorem arr6_3 (c : Dev nD) : (dat6 (F := Ideal) V c).arrAt 3 cfg6.N
    = fun y : S16384x1024.Idx => dotArr (V c main_v10) (V c main_v6) (y 0) (y 1) := by
  refine (dat6 (F := Ideal) V c).arrAt_eq_of_covers 3 _ (by decide +kernel) fun t hf y => ?_
  blk_simp
  rw [after6_3]
  unfold out6_3
  frame_out
  idx_vars y
  have ht : t.val < 32 := lt_of_lt_of_eq t.isLt N_6
  have hemb : ((View.whole main_v26_0).slice (win6_3.rect t)).emb (ix2 y0 y1) = ix2 ⟨t.val * 512 + y0.val, by omega⟩ y1 := by
    blk_ext [idx6_3]
  rw [hemb, dot6_1]
  show _ = dotArr (V c main_v10) (V c main_v6) ⟨t.val * 512 + y0.val, by omega⟩ y1
  refine sum_congr rfl fun j _ => ?_
  rw [blk6_0 V c t y0 j (by omega), blk6_1 V c t j _]

/-- The array of the differential values rounded. -/
theorem arr6_4 (c : Dev nD) : (dat6 (F := Ideal) V c).arrAt 4 cfg6.N
    = fun y : S16384x1024.Idx => dotArr (V c main_v10) (V c main_v6) (y 0) (y 1) := by
  refine (dat6 (F := Ideal) V c).arrAt_eq_of_covers 4 _ (by decide +kernel) fun t hf y => ?_
  blk_simp
  rw [after6_4]
  unfold out6_4
  frame_out
  idx_vars y
  have ht : t.val < 32 := lt_of_lt_of_eq t.isLt N_6
  have hemb : ((View.whole main_v26_1).slice (win6_4.rect t)).emb (ix2 y0 y1) = ix2 ⟨t.val * 512 + y0.val, by omega⟩ y1 := by
    blk_ext [idx6_4]
  rw [hemb, dot6_2]
  show _ = dotArr (V c main_v10) (V c main_v6) ⟨t.val * 512 + y0.val, by omega⟩ y1
  refine sum_congr rfl fun j _ => ?_
  rw [blk6_0 V c t y0 j (by omega), blk6_1 V c t j _]

/-! ## The gates -/

/-- Which block window 0 of call 7 shows at a grid point. -/
theorem idx7_0 : ∀ t : Fin grid7.N, win7_0.index t = ![t.val / 4, 0] := by decide +kernel
/-- Which block window 1 of call 7 shows at a grid point. -/
theorem idx7_1 : ∀ t : Fin grid7.N, win7_1.index t = ![0, t.val % 4] := by decide +kernel
/-- Which block window 3 of call 7 shows at a grid point. -/
theorem idx7_3 : ∀ t : Fin grid7.N, win7_3.index t = ![t.val / 4, t.val % 4] := by decide +kernel

/-- The block that grid point `t` reads through window 0. -/
theorem blk7_0 (c : Dev nD) (t : Fin cfg7.N) (a : Fin 512) (b : Fin 2048) (h : t.val / 4 * 512 + a.val < 16384) :
    iblk7 (F := Ideal) V c 0 t (ix2 a b) = V c main_v10 (ix2 ⟨t.val / 4 * 512 + a.val, h⟩ b) := by
  blk_simp [iblk7]
  refine congrArg (V c main_v10) ?_
  blk_ext [idx7_0]

/-- The block that grid point `t` reads through window 1. -/
theorem blk7_1 (c : Dev nD) (t : Fin cfg7.N) (a : Fin 2048) (b : Fin 1024) (h : t.val % 4 * 1024 + b.val < 4096) :
    iblk7 (F := Ideal) V c 1 t (ix2 a b) = V c main_v7 (ix2 a ⟨t.val % 4 * 1024 + b.val, h⟩) := by
  blk_simp [iblk7]
  refine congrArg (V c main_v7) ?_
  blk_ext [idx7_1]

/-- The array of the gates. -/
theorem arr7_3 (c : Dev nD) : (dat7 (F := Ideal) V c).arrAt 3 cfg7.N
    = fun y : S16384x4096.Idx => gateArr (V c main_v10) (V c main_v7) (y 0) (y 1) := by
  refine (dat7 (F := Ideal) V c).arrAt_eq_of_covers 3 _ (by decide +kernel) fun t hf y => ?_
  blk_simp
  rw [after7_3]
  unfold out7_3
  frame_out
  idx_vars y
  have ht : t.val < 128 := lt_of_lt_of_eq t.isLt N_7
  have hemb : ((View.whole main_v29).slice (win7_3.rect t)).emb (ix2 y0 y1)
      = ix2 ⟨t.val / 4 * 512 + y0.val, by omega⟩ ⟨t.val % 4 * 1024 + y1.val, by omega⟩ := by
    blk_ext [idx7_3]
  rw [hemb, gates_apply]
  show _ = gateArr (V c main_v10) (V c main_v7) ⟨t.val / 4 * 512 + y0.val, by omega⟩ ⟨t.val % 4 * 1024 + y1.val, by omega⟩
  refine congrArg Ideal.logistic (sum_congr rfl fun j _ => ?_)
  rw [blk7_0 V c t y0 j (by omega), blk7_1 V c t j y1 (by omega)]

end Cert.Kernel2Ideal.Value

end
-- ==== Proof.Pj.Entry2.lean ====
/-
  What the calls of the prompt's projections are handed: the input as rows, the weights' columns, the gains and the normed
  rows, each in terms of the program's arguments.
-/
module

public import proofs.«01_k».proof.Proof.Pj.Arrays2
public import Idealize.ShloMosaic.Lib.StableHlo.ReadAt

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Pj Finset

variable (m : (ℓ : Loc nD τ sig) → Buf (Elt Ideal) ℓ) (ρ : Dev nD → PrngReg)

/-- The input as rows. -/
theorem x_at (c : Dev nD) (R : Fin 16384) (j : Fin 2048) : V1 m ρ c main_v8 (ix2 R j)
    = m ((c.tc : Thread nD τ).loc main_arg0) (ix3 (⟨R.val / 2048, by omega⟩ : Fin 8) (⟨R.val % 2048, by omega⟩ : Fin 2048) j) := by
  show StableHlo.after hostOps0 (W0 m ρ c) (Proc.devRef .tc main_v8) (ix2 R j) = _
  after_reads_at

/-- The gain of the norm as a row. -/
theorem g_at (c : Dev nD) (j : Fin 2048) : V1 m ρ c main_v9 (ix2 0 j) = m ((c.tc : Thread nD τ).loc main_arg1) (ix1 j) := by
  show StableHlo.after hostOps0 (W0 m ρ c) (Proc.devRef .tc main_v9) (ix2 0 j) = _
  after_reads_at

/-- The columns of the stick-breaking queries. -/
theorem w1_at (c : Dev nD) (k : Fin 2048) (e : Fin 1024) : V1 m ρ c main_v1 (ix2 k e)
    = m ((c.tc : Thread nD τ).loc main_arg2) (ix2 k (⟨0 + e.val, by omega⟩ : Fin 10240)) := by
  show StableHlo.after hostOps0 (W0 m ρ c) (Proc.devRef .tc main_v1) (ix2 k e) = _
  after_reads_at

/-- The columns of the stick-breaking keys. -/
theorem w2_at (c : Dev nD) (k : Fin 2048) (e : Fin 1024) : V1 m ρ c main_v2 (ix2 k e)
    = m ((c.tc : Thread nD τ).loc main_arg2) (ix2 k (⟨1024 + e.val, by omega⟩ : Fin 10240)) := by
  show StableHlo.after hostOps0 (W0 m ρ c) (Proc.devRef .tc main_v2) (ix2 k e) = _
  after_reads_at

/-- The columns of the stick-breaking values. -/
theorem w3_at (c : Dev nD) (k : Fin 2048) (e : Fin 1024) : V1 m ρ c main_v3 (ix2 k e)
    = m ((c.tc : Thread nD τ).loc main_arg2) (ix2 k (⟨2048 + e.val, by omega⟩ : Fin 10240)) := by
  show StableHlo.after hostOps0 (W0 m ρ c) (Proc.devRef .tc main_v3) (ix2 k e) = _
  after_reads_at

/-- The columns of the differential queries. -/
theorem w4_at (c : Dev nD) (k : Fin 2048) (e : Fin 1024) : V1 m ρ c main_v4 (ix2 k e)
    = m ((c.tc : Thread nD τ).loc main_arg2) (ix2 k (⟨3072 + e.val, by omega⟩ : Fin 10240)) := by
  show StableHlo.after hostOps0 (W0 m ρ c) (Proc.devRef .tc main_v4) (ix2 k e) = _
  after_reads_at

/-- The columns of the differential keys. -/
theorem w5_at (c : Dev nD) (k : Fin 2048) (e : Fin 1024) : V1 m ρ c main_v5 (ix2 k e)
    = m ((c.tc : Thread nD τ).loc main_arg2) (ix2 k (⟨4096 + e.val, by omega⟩ : Fin 10240)) := by
  show StableHlo.after hostOps0 (W0 m ρ c) (Proc.devRef .tc main_v5) (ix2 k e) = _
  after_reads_at

/-- The columns of the differential values. -/
theorem w6_at (c : Dev nD) (k : Fin 2048) (e : Fin 1024) : V1 m ρ c main_v6 (ix2 k e)
    = m ((c.tc : Thread nD τ).loc main_arg2) (ix2 k (⟨5120 + e.val, by omega⟩ : Fin 10240)) := by
  show StableHlo.after hostOps0 (W0 m ρ c) (Proc.devRef .tc main_v6) (ix2 k e) = _
  after_reads_at

/-- The columns of the gates. -/
theorem w7_at (c : Dev nD) (k : Fin 2048) (e : Fin 4096) : V1 m ρ c main_v7 (ix2 k e)
    = m ((c.tc : Thread nD τ).loc main_arg2) (ix2 k (⟨6144 + e.val, by omega⟩ : Fin 10240)) := by
  show StableHlo.after hostOps0 (W0 m ρ c) (Proc.devRef .tc main_v7) (ix2 k e) = _
  after_reads_at

/-- The normed rows as the call of the stick-breaking queries finds them. -/
theorem h1 (c : Dev nD) : V3 m ρ c main_v10 = (dat0 (F := Ideal) (V1 m ρ) c).arrAt 2 cfg0.N :=
  ((W3_of m ρ c main_v10 (by decide))).trans (W2_arr m ρ c 2)

/-- The columns of the stick-breaking queries as its call finds them. -/
theorem w1 (c : Dev nD) : V3 m ρ c main_v1 = V1 m ρ c main_v1 :=
  (W3_of m ρ c main_v1 (by decide)).trans ((W2_of m ρ c main_v1 (by decide)))

/-- The normed rows as the call of the stick-breaking keys finds them. -/
theorem h2 (c : Dev nD) : V5 m ρ c main_v10 = (dat0 (F := Ideal) (V1 m ρ) c).arrAt 2 cfg0.N :=
  ((W5_of m ρ c main_v10 (by decide)).trans ((W4_of m ρ c main_v10 (by decide)).trans ((W3_of m ρ c main_v10 (by decide))))).trans (W2_arr m ρ c 2)

/-- The columns of the stick-breaking keys as its call finds them. -/
theorem w2 (c : Dev nD) : V5 m ρ c main_v2 = V1 m ρ c main_v2 :=
  (W5_of m ρ c main_v2 (by decide)).trans ((W4_of m ρ c main_v2 (by decide)).trans ((W3_of m ρ c main_v2 (by decide)).trans ((W2_of m ρ c main_v2 (by decide)))))

/-- The normed rows as the call of the stick-breaking values finds them. -/
theorem h3 (c : Dev nD) : V7 m ρ c main_v10 = (dat0 (F := Ideal) (V1 m ρ) c).arrAt 2 cfg0.N :=
  ((W7_of m ρ c main_v10 (by decide)).trans ((W6_of m ρ c main_v10 (by decide)).trans ((W5_of m ρ c main_v10 (by decide)).trans ((W4_of m ρ c main_v10 (by decide)).trans ((W3_of m ρ c main_v10 (by decide))))))).trans (W2_arr m ρ c 2)

/-- The columns of the stick-breaking values as its call finds them. -/
theorem w3 (c : Dev nD) : V7 m ρ c main_v3 = V1 m ρ c main_v3 :=
  (W7_of m ρ c main_v3 (by decide)).trans ((W6_of m ρ c main_v3 (by decide)).trans ((W5_of m ρ c main_v3 (by decide)).trans ((W4_of m ρ c main_v3 (by decide)).trans ((W3_of m ρ c main_v3 (by decide)).trans ((W2_of m ρ c main_v3 (by decide)))))))

/-- The normed rows as the call of the differential queries finds them. -/
theorem h4 (c : Dev nD) : V9 m ρ c main_v10 = (dat0 (F := Ideal) (V1 m ρ) c).arrAt 2 cfg0.N :=
  ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))).trans (W2_arr m ρ c 2)

/-- The columns of the differential queries as its call finds them. -/
theorem w4 (c : Dev nD) : V9 m ρ c main_v4 = V1 m ρ c main_v4 :=
  (W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans ((W2_of m ρ c main_v4 (by decide)))))))))

/-- The normed rows as the call of the differential keys finds them. -/
theorem h5 (c : Dev nD) : V11 m ρ c main_v10 = (dat0 (F := Ideal) (V1 m ρ) c).arrAt 2 cfg0.N :=
  ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))))).trans (W2_arr m ρ c 2)

/-- The columns of the differential keys as its call finds them. -/
theorem w5 (c : Dev nD) : V11 m ρ c main_v5 = V1 m ρ c main_v5 :=
  (W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans ((W2_of m ρ c main_v5 (by decide)))))))))))

/-- The normed rows as the call of the differential values finds them. -/
theorem h6 (c : Dev nD) : V13 m ρ c main_v10 = (dat0 (F := Ideal) (V1 m ρ) c).arrAt 2 cfg0.N :=
  ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))))))).trans (W2_arr m ρ c 2)

/-- The columns of the differential values as its call finds them. -/
theorem w6 (c : Dev nD) : V13 m ρ c main_v6 = V1 m ρ c main_v6 :=
  (W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans ((W2_of m ρ c main_v6 (by decide)))))))))))))

/-- The normed rows as the call of the gates finds them. -/
theorem h7 (c : Dev nD) : V15 m ρ c main_v10 = (dat0 (F := Ideal) (V1 m ρ) c).arrAt 2 cfg0.N :=
  ((W15_of m ρ c main_v10 (by decide)).trans ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))))))))).trans (W2_arr m ρ c 2)

/-- The columns of the gates as its call finds them. -/
theorem w7 (c : Dev nD) : V15 m ρ c main_v7 = V1 m ρ c main_v7 :=
  (W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans ((W4_of m ρ c main_v7 (by decide)).trans ((W3_of m ρ c main_v7 (by decide)).trans ((W2_of m ρ c main_v7 (by decide)))))))))))))))

/-- The gain of the differential queries as a row. -/
theorem gainRow4 (c : Dev nD) (d : Fin 128) : V9 m ρ c main_v20 (ix2 0 d) = m ((c.tc : Thread nD τ).loc main_arg3) (ix1 d) := by
  rw [← W8_args m ρ c main_arg3 (by decide)]
  show StableHlo.after hostOps4 (W8 m ρ c) (Proc.devRef .tc main_v20) (ix2 0 d) = _
  after_reads_at

/-- The gain of the differential keys as a row. -/
theorem gainRow5 (c : Dev nD) (d : Fin 128) : V11 m ρ c main_v22 (ix2 0 d) = m ((c.tc : Thread nD τ).loc main_arg4) (ix1 d) := by
  rw [← W10_args m ρ c main_arg4 (by decide)]
  show StableHlo.after hostOps5 (W10 m ρ c) (Proc.devRef .tc main_v22) (ix2 0 d) = _
  after_reads_at

/-- An entry of the normed rows. -/
theorem h_at (c : Dev nD) (R : Fin 16384) (j : Fin 2048) : (dat0 (F := Ideal) (V1 m ρ) c).arrAt 2 cfg0.N (ix2 R j)
    = wide (fun j => m ((c.tc : Thread nD τ).loc main_arg0) (ix3 (⟨R.val / 2048, by omega⟩ : Fin 8) (⟨R.val % 2048, by omega⟩ : Fin 2048) j))
      (fun j => m ((c.tc : Thread nD τ).loc main_arg1) (ix1 j)) j := by
  rw [arr0_2]
  show wide (fun j => V1 m ρ c main_v8 (ix2 R j)) (fun j => V1 m ρ c main_v9 (ix2 0 j)) j = _
  congr 1
  · funext j
    rw [x_at]
  · funext j
    rw [g_at]

/-- A row of the arguments' projection. -/
abbrev prow (c : Dev nD) (R : Fin 16384) (e : Fin 10240) : EReal :=
  proj (fun j => m ((c.tc : Thread nD τ).loc main_arg0) (ix3 (⟨R.val / 2048, by omega⟩ : Fin 8) (⟨R.val % 2048, by omega⟩ : Fin 2048) j))
    (fun j => m ((c.tc : Thread nD τ).loc main_arg1) (ix1 j)) (fun k e => m ((c.tc : Thread nD τ).loc main_arg2) (ix2 k e)) e

/-- An entry of the stick-breaking queries. -/
theorem dots1 (c : Dev nD) (R : Fin 16384) (C : Fin 1024) : dotArr (V3 m ρ c main_v10) (V3 m ρ c main_v1) R C = prow m c R ⟨0 + C.val, by omega⟩ := by
  refine sum_congr rfl fun j _ => ?_
  rw [h1, w1, h_at, w1_at]

/-- An entry of the stick-breaking keys. -/
theorem dots2 (c : Dev nD) (R : Fin 16384) (C : Fin 1024) : dotArr (V5 m ρ c main_v10) (V5 m ρ c main_v2) R C = prow m c R ⟨1024 + C.val, by omega⟩ := by
  refine sum_congr rfl fun j _ => ?_
  rw [h2, w2, h_at, w2_at]

/-- An entry of the stick-breaking values. -/
theorem dots3 (c : Dev nD) (R : Fin 16384) (C : Fin 1024) : dotArr (V7 m ρ c main_v10) (V7 m ρ c main_v3) R C = prow m c R ⟨2048 + C.val, by omega⟩ := by
  refine sum_congr rfl fun j _ => ?_
  rw [h3, w3, h_at, w3_at]

/-- An entry of the differential queries before their norm. -/
theorem dots4 (c : Dev nD) (R : Fin 16384) (C : Fin 1024) : dotArr (V9 m ρ c main_v10) (V9 m ρ c main_v4) R C = prow m c R ⟨3072 + C.val, by omega⟩ := by
  refine sum_congr rfl fun j _ => ?_
  rw [h4, w4, h_at, w4_at]

/-- An entry of the differential keys before their norm. -/
theorem dots5 (c : Dev nD) (R : Fin 16384) (C : Fin 1024) : dotArr (V11 m ρ c main_v10) (V11 m ρ c main_v5) R C = prow m c R ⟨4096 + C.val, by omega⟩ := by
  refine sum_congr rfl fun j _ => ?_
  rw [h5, w5, h_at, w5_at]

/-- An entry of the differential values. -/
theorem dots6 (c : Dev nD) (R : Fin 16384) (C : Fin 1024) : dotArr (V13 m ρ c main_v10) (V13 m ρ c main_v6) R C = prow m c R ⟨5120 + C.val, by omega⟩ := by
  refine sum_congr rfl fun j _ => ?_
  rw [h6, w6, h_at, w6_at]

/-- An entry of the gates. -/
theorem dots7 (c : Dev nD) (R : Fin 16384) (C : Fin 4096) : gateArr (V15 m ρ c main_v10) (V15 m ρ c main_v7) R C = Ideal.logistic (prow m c R ⟨6144 + C.val, by omega⟩) := by
  refine congrArg Ideal.logistic (sum_congr rfl fun j _ => ?_)
  rw [h7, w7, h_at, w7_at]

/-- An entry of the differential queries. -/
theorem normed4 (c : Dev nD) (R : Fin 16384) (C : Fin 1024) : headArr (V9 m ρ c main_v10) (V9 m ρ c main_v4) (V9 m ρ c main_v20) R C
    = narrow (fun d => prow m c R ⟨3072 + (C.val / 128 * 128 + d.val), by omega⟩) (fun d => m ((c.tc : Thread nD τ).loc main_arg3) (ix1 d))
      ⟨C.val % 128, by omega⟩ := by
  unfold headArr
  congr 1
  · funext d
    rw [dots4]
  · funext d
    rw [gainRow4]

/-- An entry of the differential keys. -/
theorem normed5 (c : Dev nD) (R : Fin 16384) (C : Fin 1024) : headArr (V11 m ρ c main_v10) (V11 m ρ c main_v5) (V11 m ρ c main_v22) R C
    = narrow (fun d => prow m c R ⟨4096 + (C.val / 128 * 128 + d.val), by omega⟩) (fun d => m ((c.tc : Thread nD τ).loc main_arg4) (ix1 d))
      ⟨C.val % 128, by omega⟩ := by
  unfold headArr
  congr 1
  · funext d
    rw [dots5]
  · funext d
    rw [gainRow5]

end Cert.Kernel2Ideal.Value

end
-- ==== Proof.Pj.Reference2.lean ====
/-
  The reference of the prompt's projections, named part by part and read at an entry.
-/
module

public import proofs.«01_k».proof.Proof.Gen.Reference2Ideal.Run
public import proofs.«01_k».proof.Proof.Pj.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Pj

/-- The input normed row by row. -/
def normIn (x : FVec Ideal S8x2048x2048 .f32) (g : FVec Ideal S2048 .f32) : FVec Ideal S8x2048x2048 .f32 :=
  mulf (mulf x (broadcastInDim S8x2048x2048 ![0, 1, 2] bcast_S8x2048x1_S8x2048x2048_0_1_2 (Host.rsqrt (addf (Host.divf
      (broadcastInDim S8x2048x1 ![0, 1] bcast_S8x2048_S8x2048x1_0_1 (Host.reduceAdd (mulf x x) (constant S_ .f32 0x00000000#32) reducesTo_S8x2048x2048_S8x2048_d2 h_S_))
      (broadcastInDim S8x2048x1 ![] bcast_S_S8x2048x1 (constant S_ .f32 0x45000000#32)))
      (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

/-- The projection of the normed input. -/
def projIn (x : FVec Ideal S8x2048x2048 .f32) (g : FVec Ideal S2048 .f32) (w : FVec Ideal S2048x10240 .f32) : FVec Ideal S8x2048x10240 .f32 :=
  Host.dotGeneral dot_S8x2048x2048_S2048x10240_S8x2048x10240_2_0_01_1_n_n none (normIn x g) w

/-- The stick-breaking queries. -/
def rSq (p : FVec Ideal S8x2048x10240 .f32) : FVec Ideal S8x2048x1024 .f32 := (extractStridedSlice S8x2048x1024 ![0, 0, 0] p slices_S8x2048x10240_S8x2048x1024_0_0_0)

/-- The stick-breaking keys. -/
def rSk (p : FVec Ideal S8x2048x10240 .f32) : FVec Ideal S8x2048x8x128 .f32 := shapeCast S8x2048x8x128 (extractStridedSlice S8x2048x1024 ![0, 0, 1024] p slices_S8x2048x10240_S8x2048x1024_0_0_1024) shapeCasts_S8x2048x1024_S8x2048x8x128

/-- The stick-breaking values. -/
def rSv (p : FVec Ideal S8x2048x10240 .f32) : FVec Ideal S8x2048x8x128 .f32 := shapeCast S8x2048x8x128 (extractStridedSlice S8x2048x1024 ![0, 0, 2048] p slices_S8x2048x10240_S8x2048x1024_0_0_2048) shapeCasts_S8x2048x1024_S8x2048x8x128

/-- Every head normed over its width. -/
def headNorm (q : FVec Ideal S8x2048x4x2x128 .f32) (gain : FVec Ideal S128 .f32) : FVec Ideal S8x2048x4x2x128 .f32 :=
  mulf (mulf q (broadcastInDim S8x2048x4x2x128 ![0, 1, 2, 3, 4] bcast_S8x2048x4x2x1_S8x2048x4x2x128_0_1_2_3_4 (Host.rsqrt (addf (Host.divf
      (broadcastInDim S8x2048x4x2x1 ![0, 1, 2, 3] bcast_S8x2048x4x2_S8x2048x4x2x1_0_1_2_3 (Host.reduceAdd (mulf q q) (constant S_ .f32 0x00000000#32) reducesTo_S8x2048x4x2x128_S8x2048x4x2_d4 h_S_))
      (broadcastInDim S8x2048x4x2x1 ![] bcast_S_S8x2048x4x2x1 (constant S_ .f32 0x43000000#32)))
      (broadcastInDim S8x2048x4x2x1 ![] bcast_S_S8x2048x4x2x1 (constant S_ .f32 0x358637BD#32))))))
    (broadcastInDim S8x2048x4x2x128 ![0, 1, 2, 3, 4] bcast_S1x1x1x1x128_S8x2048x4x2x128_0_1_2_3_4 (broadcastInDim S1x1x1x1x128 ![4] bcast_S128_S1x1x1x1x128_4 gain))

/-- The differential queries. -/
def rDq (p : FVec Ideal S8x2048x10240 .f32) (gain : FVec Ideal S128 .f32) : FVec Ideal S8x2048x4x2x128 .f32 :=
  headNorm (shapeCast S8x2048x4x2x128 (extractStridedSlice S8x2048x1024 ![0, 0, 3072] p slices_S8x2048x10240_S8x2048x1024_0_0_3072) shapeCasts_S8x2048x1024_S8x2048x4x2x128) gain

/-- The differential keys. -/
def rDk (p : FVec Ideal S8x2048x10240 .f32) (gain : FVec Ideal S128 .f32) : FVec Ideal S8x2048x4x2x128 .f32 :=
  headNorm (shapeCast S8x2048x4x2x128 (extractStridedSlice S8x2048x1024 ![0, 0, 4096] p slices_S8x2048x10240_S8x2048x1024_0_0_4096) shapeCasts_S8x2048x1024_S8x2048x4x2x128) gain

/-- The differential values. -/
def rDv (p : FVec Ideal S8x2048x10240 .f32) : FVec Ideal S8x2048x4x256 .f32 := shapeCast S8x2048x4x256 (extractStridedSlice S8x2048x1024 ![0, 0, 5120] p slices_S8x2048x10240_S8x2048x1024_0_0_5120) shapeCasts_S8x2048x1024_S8x2048x4x256

/-- The two gates side by side. -/
def rGates (p : FVec Ideal S8x2048x10240 .f32) : FVec Ideal S8x2048x4096 .f32 :=
  concatenate S8x2048x4096 2 [⟨S8x2048x2048, (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 6144] p slices_S8x2048x10240_S8x2048x2048_0_0_6144)))) : FVec Ideal S8x2048x2048 .f32)⟩, ⟨S8x2048x2048, (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 8192] p slices_S8x2048x10240_S8x2048x2048_0_0_8192)))) : FVec Ideal S8x2048x2048 .f32)⟩] concatenates_S8x2048x2048_S8x2048x2048_S8x2048x4096_d2

/-- An entry of the projection: the normed row times the column. -/
theorem projIn_apply (x : FVec Ideal S8x2048x2048 .f32) (g : FVec Ideal S2048 .f32) (w : FVec Ideal S2048x10240 .f32) (b : Fin 8) (t : Fin 2048) (e : Fin 10240) :
    projIn x g w (ix3 b t e) = proj (fun j => x (ix3 b t j)) (fun j => g (ix1 j)) (fun k e => w (ix2 k e)) e := by
  pointwise [projIn, normIn]
  rfl

/-- An entry of the normed heads. -/
theorem headNorm_apply (q : FVec Ideal S8x2048x4x2x128 .f32) (gain : FVec Ideal S128 .f32) (b : Fin 8) (t : Fin 2048) (h : Fin 4) (i : Fin 2) (d : Fin 128) :
    headNorm q gain (ix5 b t h i d) = narrow (fun d => q (ix5 b t h i d)) (fun d => gain (ix1 d)) d := by
  pointwise [headNorm]
  rfl

/-- An entry of the stick-breaking queries. -/
theorem rSq_apply (p : FVec Ideal S8x2048x10240 .f32) (b : Fin 8) (t : Fin 2048) (e : Fin 1024) :
    rSq p (ix3 b t e) = p (ix3 b t ⟨e.val, by omega⟩) := by
  pointwise [rSq]

/-- An entry of the stick-breaking keys. -/
theorem rSk_apply (p : FVec Ideal S8x2048x10240 .f32) (b : Fin 8) (t : Fin 2048) (h : Fin 8) (d : Fin 128) :
    rSk p (ix4 b t h d) = p (ix3 b t ⟨1024 + (h.val * 128 + d.val), by omega⟩) := by
  pointwise [rSk]

/-- An entry of the stick-breaking values. -/
theorem rSv_apply (p : FVec Ideal S8x2048x10240 .f32) (b : Fin 8) (t : Fin 2048) (h : Fin 8) (d : Fin 128) :
    rSv p (ix4 b t h d) = p (ix3 b t ⟨2048 + (h.val * 128 + d.val), by omega⟩) := by
  pointwise [rSv]

/-- An entry of the differential queries. -/
theorem rDq_apply (p : FVec Ideal S8x2048x10240 .f32) (gain : FVec Ideal S128 .f32) (b : Fin 8) (t : Fin 2048) (h : Fin 4) (i : Fin 2) (d : Fin 128) :
    rDq p gain (ix5 b t h i d) = narrow (fun d => p (ix3 b t ⟨3072 + (h.val * 256 + i.val * 128 + d.val), by omega⟩)) (fun d => gain (ix1 d)) d := by
  unfold rDq
  rw [headNorm_apply]
  congr 1
  funext d
  pointwise

/-- An entry of the differential keys. -/
theorem rDk_apply (p : FVec Ideal S8x2048x10240 .f32) (gain : FVec Ideal S128 .f32) (b : Fin 8) (t : Fin 2048) (h : Fin 4) (i : Fin 2) (d : Fin 128) :
    rDk p gain (ix5 b t h i d) = narrow (fun d => p (ix3 b t ⟨4096 + (h.val * 256 + i.val * 128 + d.val), by omega⟩)) (fun d => gain (ix1 d)) d := by
  unfold rDk
  rw [headNorm_apply]
  congr 1
  funext d
  pointwise

/-- An entry of the differential values. -/
theorem rDv_apply (p : FVec Ideal S8x2048x10240 .f32) (b : Fin 8) (t : Fin 2048) (h : Fin 4) (d : Fin 256) :
    rDv p (ix4 b t h d) = p (ix3 b t ⟨5120 + (h.val * 256 + d.val), by omega⟩) := by
  pointwise [rDv]

/-- An entry of the gates: the logistic function of the projection. -/
theorem rGates_apply (p : FVec Ideal S8x2048x10240 .f32) (b : Fin 8) (t : Fin 2048) (e : Fin 4096) :
    rGates p (ix3 b t e) = Ideal.logistic (p (ix3 b t ⟨6144 + e.val, by omega⟩)) := by
  pointwise [rGates]
  by_cases h : e.val < 2048
  · rw [dif_pos h]
    rfl
  · rw [dif_neg h]
    have e' : 8192 + (e.val - 2048) = 6144 + e.val := by omega
    simp only [e']
    rfl

end Cert.Reference2Ideal.Value

end
-- ==== Proof.Pj.Final2.lean ====
/-
  What the prompt's projections leave in their results: each is the reference's array, entry by entry.
-/
module

public import proofs.«01_k».proof.Proof.Pj.Entry2
public import proofs.«01_k».proof.Proof.Pj.Reference2

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Pj Finset

variable (m : (ℓ : Loc nD τ sig) → Buf (Elt Ideal) ℓ) (ρ : Dev nD → PrngReg)

/-- The reference's projection of this program's arguments. -/
abbrev rp (c : Dev nD) : FVec Ideal Cert.Reference2Ideal.S8x2048x10240 .f32 :=
  Cert.Reference2Ideal.Value.projIn (m ((c.tc : Thread nD τ).loc main_arg0)) (m ((c.tc : Thread nD τ).loc main_arg1)) (m ((c.tc : Thread nD τ).loc main_arg2))

/-- A row of the reference's projection. -/
theorem rp_row (c : Dev nD) (R : Fin 16384) (b : Fin 8) (t : Fin 2048) (hb : b.val = R.val / 2048) (ht : t.val = R.val % 2048) (e : Fin 10240) :
    rp m c (ix3 b t e) = prow m c R e := by
  have hb' : b = (⟨R.val / 2048, by omega⟩ : Fin 8) := Fin.ext hb
  have ht' : t = (⟨R.val % 2048, by omega⟩ : Fin 2048) := Fin.ext ht
  rw [hb', ht', rp, Cert.Reference2Ideal.Value.projIn_apply]

/-- What the last call leaves at an entry of the stick-breaking queries. -/
theorem end1_3 (c : Dev nD) (R : Fin 16384) (C : Fin 1024) : W16 m ρ c (Proc.devRef .tc main_v13) (ix2 R C)
    = prow m c R ⟨0 + C.val, by omega⟩ := by
  rw [show W16 m ρ c (Proc.devRef .tc main_v13) = (dat1 (F := Ideal) (V3 m ρ) c).arrAt 3 cfg1.N from
    ((W16_of m ρ c main_v13 (by decide)).trans ((W15_of m ρ c main_v13 (by decide)).trans ((W14_of m ρ c main_v13 (by decide)).trans ((W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans ((W6_of m ρ c main_v13 (by decide)).trans ((W5_of m ρ c main_v13 (by decide)))))))))))))).trans (W4_arr m ρ c 3), arr1_3]
  exact dots1 m ρ c R C

/-- What the last call leaves at an entry of the stick-breaking keys. -/
theorem end2_3 (c : Dev nD) (R : Fin 16384) (C : Fin 1024) : W16 m ρ c (Proc.devRef .tc main_v16_0) (ix2 R C)
    = prow m c R ⟨1024 + C.val, by omega⟩ := by
  rw [show W16 m ρ c (Proc.devRef .tc main_v16_0) = (dat2 (F := Ideal) (V5 m ρ) c).arrAt 3 cfg2.N from
    ((W16_of m ρ c main_v16_0 (by decide)).trans ((W15_of m ρ c main_v16_0 (by decide)).trans ((W14_of m ρ c main_v16_0 (by decide)).trans ((W13_of m ρ c main_v16_0 (by decide)).trans ((W12_of m ρ c main_v16_0 (by decide)).trans ((W11_of m ρ c main_v16_0 (by decide)).trans ((W10_of m ρ c main_v16_0 (by decide)).trans ((W9_of m ρ c main_v16_0 (by decide)).trans ((W8_of m ρ c main_v16_0 (by decide)).trans ((W7_of m ρ c main_v16_0 (by decide)))))))))))).trans (W6_arr m ρ c 3), arr2_3]
  exact dots2 m ρ c R C

/-- What the last call leaves at an entry of the stick-breaking keys rounded. -/
theorem end2_4 (c : Dev nD) (R : Fin 16384) (C : Fin 1024) : W16 m ρ c (Proc.devRef .tc main_v16_1) (ix2 R C)
    = prow m c R ⟨1024 + C.val, by omega⟩ := by
  rw [show W16 m ρ c (Proc.devRef .tc main_v16_1) = (dat2 (F := Ideal) (V5 m ρ) c).arrAt 4 cfg2.N from
    ((W16_of m ρ c main_v16_1 (by decide)).trans ((W15_of m ρ c main_v16_1 (by decide)).trans ((W14_of m ρ c main_v16_1 (by decide)).trans ((W13_of m ρ c main_v16_1 (by decide)).trans ((W12_of m ρ c main_v16_1 (by decide)).trans ((W11_of m ρ c main_v16_1 (by decide)).trans ((W10_of m ρ c main_v16_1 (by decide)).trans ((W9_of m ρ c main_v16_1 (by decide)).trans ((W8_of m ρ c main_v16_1 (by decide)).trans ((W7_of m ρ c main_v16_1 (by decide)))))))))))).trans (W6_arr m ρ c 4), arr2_4]
  exact dots2 m ρ c R C

/-- What the last call leaves at an entry of the stick-breaking values. -/
theorem end3_3 (c : Dev nD) (R : Fin 16384) (C : Fin 1024) : W16 m ρ c (Proc.devRef .tc main_v19_0) (ix2 R C)
    = prow m c R ⟨2048 + C.val, by omega⟩ := by
  rw [show W16 m ρ c (Proc.devRef .tc main_v19_0) = (dat3 (F := Ideal) (V7 m ρ) c).arrAt 3 cfg3.N from
    ((W16_of m ρ c main_v19_0 (by decide)).trans ((W15_of m ρ c main_v19_0 (by decide)).trans ((W14_of m ρ c main_v19_0 (by decide)).trans ((W13_of m ρ c main_v19_0 (by decide)).trans ((W12_of m ρ c main_v19_0 (by decide)).trans ((W11_of m ρ c main_v19_0 (by decide)).trans ((W10_of m ρ c main_v19_0 (by decide)).trans ((W9_of m ρ c main_v19_0 (by decide)))))))))).trans (W8_arr m ρ c 3), arr3_3]
  exact dots3 m ρ c R C

/-- What the last call leaves at an entry of the stick-breaking values rounded. -/
theorem end3_4 (c : Dev nD) (R : Fin 16384) (C : Fin 1024) : W16 m ρ c (Proc.devRef .tc main_v19_1) (ix2 R C)
    = prow m c R ⟨2048 + C.val, by omega⟩ := by
  rw [show W16 m ρ c (Proc.devRef .tc main_v19_1) = (dat3 (F := Ideal) (V7 m ρ) c).arrAt 4 cfg3.N from
    ((W16_of m ρ c main_v19_1 (by decide)).trans ((W15_of m ρ c main_v19_1 (by decide)).trans ((W14_of m ρ c main_v19_1 (by decide)).trans ((W13_of m ρ c main_v19_1 (by decide)).trans ((W12_of m ρ c main_v19_1 (by decide)).trans ((W11_of m ρ c main_v19_1 (by decide)).trans ((W10_of m ρ c main_v19_1 (by decide)).trans ((W9_of m ρ c main_v19_1 (by decide)))))))))).trans (W8_arr m ρ c 4), arr3_4]
  exact dots3 m ρ c R C

/-- What the last call leaves at an entry of the differential queries. -/
theorem end4_3 (c : Dev nD) (R : Fin 16384) (C : Fin 1024) : W16 m ρ c (Proc.devRef .tc main_v21) (ix2 R C)
    = narrow (fun d => prow m c R ⟨3072 + (C.val / 128 * 128 + d.val), by omega⟩) (fun d => m ((c.tc : Thread nD τ).loc main_arg3) (ix1 d)) ⟨C.val % 128, by omega⟩ := by
  rw [show W16 m ρ c (Proc.devRef .tc main_v21) = (dat4 (F := Ideal) (V9 m ρ) c).arrAt 3 cfg4.N from
    ((W16_of m ρ c main_v21 (by decide)).trans ((W15_of m ρ c main_v21 (by decide)).trans ((W14_of m ρ c main_v21 (by decide)).trans ((W13_of m ρ c main_v21 (by decide)).trans ((W12_of m ρ c main_v21 (by decide)).trans ((W11_of m ρ c main_v21 (by decide)))))))).trans (W10_arr m ρ c 3), arr4_3]
  exact normed4 m ρ c R C

/-- What the last call leaves at an entry of the differential keys. -/
theorem end5_3 (c : Dev nD) (R : Fin 16384) (C : Fin 1024) : W16 m ρ c (Proc.devRef .tc main_v23_0) (ix2 R C)
    = narrow (fun d => prow m c R ⟨4096 + (C.val / 128 * 128 + d.val), by omega⟩) (fun d => m ((c.tc : Thread nD τ).loc main_arg4) (ix1 d)) ⟨C.val % 128, by omega⟩ := by
  rw [show W16 m ρ c (Proc.devRef .tc main_v23_0) = (dat5 (F := Ideal) (V11 m ρ) c).arrAt 3 cfg5.N from
    ((W16_of m ρ c main_v23_0 (by decide)).trans ((W15_of m ρ c main_v23_0 (by decide)).trans ((W14_of m ρ c main_v23_0 (by decide)).trans ((W13_of m ρ c main_v23_0 (by decide)))))).trans (W12_arr m ρ c 3), arr5_3]
  exact normed5 m ρ c R C

/-- What the last call leaves at an entry of the differential keys rounded. -/
theorem end5_4 (c : Dev nD) (R : Fin 16384) (C : Fin 1024) : W16 m ρ c (Proc.devRef .tc main_v23_1) (ix2 R C)
    = narrow (fun d => prow m c R ⟨4096 + (C.val / 128 * 128 + d.val), by omega⟩) (fun d => m ((c.tc : Thread nD τ).loc main_arg4) (ix1 d)) ⟨C.val % 128, by omega⟩ := by
  rw [show W16 m ρ c (Proc.devRef .tc main_v23_1) = (dat5 (F := Ideal) (V11 m ρ) c).arrAt 4 cfg5.N from
    ((W16_of m ρ c main_v23_1 (by decide)).trans ((W15_of m ρ c main_v23_1 (by decide)).trans ((W14_of m ρ c main_v23_1 (by decide)).trans ((W13_of m ρ c main_v23_1 (by decide)))))).trans (W12_arr m ρ c 4), arr5_4]
  exact normed5 m ρ c R C

/-- What the last call leaves at an entry of the differential values. -/
theorem end6_3 (c : Dev nD) (R : Fin 16384) (C : Fin 1024) : W16 m ρ c (Proc.devRef .tc main_v26_0) (ix2 R C)
    = prow m c R ⟨5120 + C.val, by omega⟩ := by
  rw [show W16 m ρ c (Proc.devRef .tc main_v26_0) = (dat6 (F := Ideal) (V13 m ρ) c).arrAt 3 cfg6.N from
    ((W16_of m ρ c main_v26_0 (by decide)).trans ((W15_of m ρ c main_v26_0 (by decide)))).trans (W14_arr m ρ c 3), arr6_3]
  exact dots6 m ρ c R C

/-- What the last call leaves at an entry of the differential values rounded. -/
theorem end6_4 (c : Dev nD) (R : Fin 16384) (C : Fin 1024) : W16 m ρ c (Proc.devRef .tc main_v26_1) (ix2 R C)
    = prow m c R ⟨5120 + C.val, by omega⟩ := by
  rw [show W16 m ρ c (Proc.devRef .tc main_v26_1) = (dat6 (F := Ideal) (V13 m ρ) c).arrAt 4 cfg6.N from
    ((W16_of m ρ c main_v26_1 (by decide)).trans ((W15_of m ρ c main_v26_1 (by decide)))).trans (W14_arr m ρ c 4), arr6_4]
  exact dots6 m ρ c R C

/-- What the last call leaves at an entry of the gates. -/
theorem end7_3 (c : Dev nD) (R : Fin 16384) (C : Fin 4096) : W16 m ρ c (Proc.devRef .tc main_v29) (ix2 R C)
    = Ideal.logistic (prow m c R ⟨6144 + C.val, by omega⟩) := by
  rw [show W16 m ρ c (Proc.devRef .tc main_v29) = (dat7 (F := Ideal) (V15 m ρ) c).arrAt 3 cfg7.N from
    W16_arr m ρ c 3, arr7_3]
  exact dots7 m ρ c R C

/-- The cache of the stick-breaking keys is the reference's. -/
theorem cache2 (c : Dev nD) : W17 m ρ c (Proc.devRef .tc main_v30) = Cert.Reference2Ideal.Value.rSk (rp m c) := by
  funext y
  idx_vars y
  rw [show Cert.Reference2Ideal.Value.rSk (rp m c) _ = _ from Cert.Reference2Ideal.Value.rSk_apply (rp m c) y0 y1 y2 y3]
  show StableHlo.after hostOps8 (W16 m ρ c) (Proc.devRef .tc main_v30) _ = _
  after_reads_at
  rw [end2_3]
  exact (rp_row m c _ y0 y1 (by simp only []; omega) (by simp only []; omega) _).symm

/-- The cache of the stick-breaking values is the reference's. -/
theorem cache3 (c : Dev nD) : W17 m ρ c (Proc.devRef .tc main_v31) = Cert.Reference2Ideal.Value.rSv (rp m c) := by
  funext y
  idx_vars y
  rw [show Cert.Reference2Ideal.Value.rSv (rp m c) _ = _ from Cert.Reference2Ideal.Value.rSv_apply (rp m c) y0 y1 y2 y3]
  show StableHlo.after hostOps8 (W16 m ρ c) (Proc.devRef .tc main_v31) _ = _
  after_reads_at
  rw [end3_3]
  exact (rp_row m c _ y0 y1 (by simp only []; omega) (by simp only []; omega) _).symm

/-- The cache of the differential keys is the reference's. -/
theorem cache5 (c : Dev nD) : W17 m ρ c (Proc.devRef .tc main_v32) = Cert.Reference2Ideal.Value.rDk (rp m c) (m ((c.tc : Thread nD τ).loc main_arg4)) := by
  funext y
  idx_vars y
  rw [show Cert.Reference2Ideal.Value.rDk (rp m c) (m ((c.tc : Thread nD τ).loc main_arg4)) _ = _ from Cert.Reference2Ideal.Value.rDk_apply (rp m c) (m ((c.tc : Thread nD τ).loc main_arg4)) y0 y1 y2 y3 y4]
  show StableHlo.after hostOps8 (W16 m ρ c) (Proc.devRef .tc main_v32) _ = _
  after_reads_at
  rw [end5_3]
  unfold narrow
  have hd : (y2.val * 256 + y3.val * 128 + y4.val) % 128 = y4.val := by omega
  have hh : (y2.val * 256 + y3.val * 128 + y4.val) / 128 * 128 = y2.val * 256 + y3.val * 128 := by omega
  simp only [hd, hh]
  congr 1
  funext d
  exact (rp_row m c _ y0 y1 (by simp only []; omega) (by simp only []; omega) _).symm

/-- The cache of the differential values is the reference's. -/
theorem cache6 (c : Dev nD) : W17 m ρ c (Proc.devRef .tc main_v33) = Cert.Reference2Ideal.Value.rDv (rp m c) := by
  funext y
  idx_vars y
  rw [show Cert.Reference2Ideal.Value.rDv (rp m c) _ = _ from Cert.Reference2Ideal.Value.rDv_apply (rp m c) y0 y1 y2 y3]
  show StableHlo.after hostOps8 (W16 m ρ c) (Proc.devRef .tc main_v33) _ = _
  after_reads_at
  rw [end6_3]
  exact (rp_row m c _ y0 y1 (by simp only []; omega) (by simp only []; omega) _).symm

/-- The rows of the stick-breaking queries are the reference's. -/
theorem rows1 (c : Dev nD) : W17 m ρ c (Proc.devRef .tc main_v13)
    = truncf .bf16 (shapeCast S16384x1024 (Cert.Reference2Ideal.Value.rSq (rp m c)) Cert.Reference2Ideal.Gen.shapeCasts_S8x2048x1024_S16384x1024) Cert.Reference2Ideal.Gen.bitsLt_bf16_f32 := by
  funext y
  rw [W17_of m ρ c main_v13 (by decide)]
  idx_vars y
  rw [end1_3]
  pointwise
  rw [Cert.Reference2Ideal.Value.rSq_apply]
  rw [rp_row m c y0 _ _ (by simp only []) (by simp only [])]

/-- The rows of the stick-breaking keys are the reference's. -/
theorem rows2 (c : Dev nD) : W17 m ρ c (Proc.devRef .tc main_v16_1)
    = truncf .bf16 (shapeCast S16384x1024 (Cert.Reference2Ideal.Value.rSk (rp m c)) Cert.Reference2Ideal.Gen.shapeCasts_S8x2048x8x128_S16384x1024) Cert.Reference2Ideal.Gen.bitsLt_bf16_f32 := by
  funext y
  rw [W17_of m ρ c main_v16_1 (by decide)]
  idx_vars y
  rw [end2_4]
  pointwise
  rw [Cert.Reference2Ideal.Value.rSk_apply]
  rw [rp_row m c y0 _ _ (by simp only []) (by simp only [])]
  exact congrArg (prow m c y0) (Fin.ext (by dsimp only; omega))

/-- The rows of the stick-breaking values are the reference's. -/
theorem rows3 (c : Dev nD) : W17 m ρ c (Proc.devRef .tc main_v19_1)
    = truncf .bf16 (shapeCast S16384x1024 (Cert.Reference2Ideal.Value.rSv (rp m c)) Cert.Reference2Ideal.Gen.shapeCasts_S8x2048x8x128_S16384x1024) Cert.Reference2Ideal.Gen.bitsLt_bf16_f32 := by
  funext y
  rw [W17_of m ρ c main_v19_1 (by decide)]
  idx_vars y
  rw [end3_4]
  pointwise
  rw [Cert.Reference2Ideal.Value.rSv_apply]
  rw [rp_row m c y0 _ _ (by simp only []) (by simp only [])]
  exact congrArg (prow m c y0) (Fin.ext (by dsimp only; omega))

/-- The rows of the differential queries are the reference's. -/
theorem rows4 (c : Dev nD) : W17 m ρ c (Proc.devRef .tc main_v21)
    = truncf .bf16 (shapeCast S16384x1024 (Cert.Reference2Ideal.Value.rDq (rp m c) (m ((c.tc : Thread nD τ).loc main_arg3))) Cert.Reference2Ideal.Gen.shapeCasts_S8x2048x4x2x128_S16384x1024) Cert.Reference2Ideal.Gen.bitsLt_bf16_f32 := by
  funext y
  rw [W17_of m ρ c main_v21 (by decide)]
  idx_vars y
  rw [end4_3]
  pointwise
  rw [Cert.Reference2Ideal.Value.rDq_apply]
  congr 1
  funext d
  rw [rp_row m c y0 _ _ (by simp only []) (by simp only [])]
  exact congrArg (prow m c y0) (Fin.ext (by dsimp only; omega))

/-- The rows of the differential keys are the reference's. -/
theorem rows5 (c : Dev nD) : W17 m ρ c (Proc.devRef .tc main_v23_1)
    = truncf .bf16 (shapeCast S16384x1024 (Cert.Reference2Ideal.Value.rDk (rp m c) (m ((c.tc : Thread nD τ).loc main_arg4))) Cert.Reference2Ideal.Gen.shapeCasts_S8x2048x4x2x128_S16384x1024) Cert.Reference2Ideal.Gen.bitsLt_bf16_f32 := by
  funext y
  rw [W17_of m ρ c main_v23_1 (by decide)]
  idx_vars y
  rw [end5_4]
  pointwise
  rw [Cert.Reference2Ideal.Value.rDk_apply]
  congr 1
  funext d
  rw [rp_row m c y0 _ _ (by simp only []) (by simp only [])]
  exact congrArg (prow m c y0) (Fin.ext (by dsimp only; omega))

/-- The rows of the differential values are the reference's. -/
theorem rows6 (c : Dev nD) : W17 m ρ c (Proc.devRef .tc main_v26_1)
    = truncf .bf16 (shapeCast S16384x1024 (Cert.Reference2Ideal.Value.rDv (rp m c)) Cert.Reference2Ideal.Gen.shapeCasts_S8x2048x4x256_S16384x1024) Cert.Reference2Ideal.Gen.bitsLt_bf16_f32 := by
  funext y
  rw [W17_of m ρ c main_v26_1 (by decide)]
  idx_vars y
  rw [end6_4]
  pointwise
  rw [Cert.Reference2Ideal.Value.rDv_apply]
  rw [rp_row m c y0 _ _ (by simp only []) (by simp only [])]
  exact congrArg (prow m c y0) (Fin.ext (by dsimp only; omega))

/-- The rows of the gates are the reference's. -/
theorem rows7 (c : Dev nD) : W17 m ρ c (Proc.devRef .tc main_v29)
    = truncf .bf16 (shapeCast S16384x4096 (Cert.Reference2Ideal.Value.rGates (rp m c)) Cert.Reference2Ideal.Gen.shapeCasts_S8x2048x4096_S16384x4096) Cert.Reference2Ideal.Gen.bitsLt_bf16_f32 := by
  funext y
  rw [W17_of m ρ c main_v29 (by decide)]
  idx_vars y
  rw [end7_3]
  pointwise
  rw [Cert.Reference2Ideal.Value.rGates_apply]
  rw [rp_row m c y0 _ _ (by simp only []) (by simp only [])]

end Cert.Kernel2Ideal.Value

end
-- ==== Proof.Pj.Run3.lean ====
/-
  The run of the sample projections: whatever memory it is launched from, it ends with every array of the chip at the contents
  that its last step leaves.
-/
module

public import proofs.«01_k».proof.Proof.Gen.Kernel3Ideal.Frame

@[expose] public section

set_option maxRecDepth 16384

noncomputable section

namespace Cert.Kernel3Ideal.Value

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing faulting, with each array at the contents the last step leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

end Cert.Kernel3Ideal.Value

end
-- ==== Proof.Pj.Blocks3.lean ====
/-
  What one block of each call of the sample's projections computes, entry by entry.
-/
module

public import proofs.«01_k».proof.Proof.Gen.Kernel3Ideal.Skeleton
public import proofs.«01_k».proof.Proof.Pj.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Pj

/-- The norm's block: every row normed over its width. -/
theorem rms_apply (x : Vec Ideal S128x2048 .f32) (g : Vec Ideal S1x2048 .f32) (r : Fin 128) (k : Fin 2048) :
    k0_pay1 (F := Ideal) x g (ix2 r k) = wide (fun j => x (ix2 r j)) (fun j => g (ix2 0 j)) k := by
  pointwise [k0_pay1]
  rfl

/-- An entry of the product of a block of rows with a block of columns. -/
abbrev rowDot (x : Vec Ideal S128x2048 .bf16) (w : Vec Ideal S2048x1024 .bf16) (r : Fin 128) (k : Fin 1024) : EReal :=
  ∑ j : Fin 2048, (x (ix2 r j) : EReal) * w (ix2 j k)

/-- The columns of the product normed in groups of a head's width. -/
def rowHeads (x : Vec Ideal S128x2048 .bf16) (w : Vec Ideal S2048x1024 .bf16) (g : Vec Ideal S1x128 .f32) (r : Fin 128) (k : Fin 1024) : EReal :=
  narrow (fun d => rowDot x w r ⟨k.val / 128 * 128 + d.val, by omega⟩) (fun d => g (ix2 0 d)) ⟨k.val % 128, by omega⟩

/-- The projection's block, the stick-breaking queries: rows times columns. -/
theorem dot1_1 (x : Vec Ideal S128x2048 .bf16) (w : Vec Ideal S2048x1024 .bf16) (r : Fin 128) (k : Fin 1024) :
    k1_pay1 (F := Ideal) x w (ix2 r k) = rowDot x w r k := by
  pointwise [k1_pay1]

/-- The projection's block, the stick-breaking keys: rows times columns. -/
theorem dot2_1 (x : Vec Ideal S128x2048 .bf16) (w : Vec Ideal S2048x1024 .bf16) (r : Fin 128) (k : Fin 1024) :
    k2_pay1 (F := Ideal) x w (ix2 r k) = rowDot x w r k := by
  pointwise [k2_pay1]

/-- The projection's block, the stick-breaking values: rows times columns. -/
theorem dot3_1 (x : Vec Ideal S128x2048 .bf16) (w : Vec Ideal S2048x1024 .bf16) (r : Fin 128) (k : Fin 1024) :
    k3_pay1 (F := Ideal) x w (ix2 r k) = rowDot x w r k := by
  pointwise [k3_pay1]

/-- The projection's block, the differential values: rows times columns. -/
theorem dot6_1 (x : Vec Ideal S128x2048 .bf16) (w : Vec Ideal S2048x1024 .bf16) (r : Fin 128) (k : Fin 1024) :
    k6_pay1 (F := Ideal) x w (ix2 r k) = rowDot x w r k := by
  pointwise [k6_pay1]

/-- The gates' block: the logistic function of rows times columns. -/
theorem gates_apply (x : Vec Ideal S128x2048 .bf16) (w : Vec Ideal S2048x1024 .bf16) (r : Fin 128) (k : Fin 1024) :
    k7_pay1 (F := Ideal) x w (ix2 r k) = Ideal.logistic (rowDot x w r k) := by
  pointwise [k7_pay1]

/-- The product before the queries' norm. -/
theorem acc4 (x : Vec Ideal S128x2048 .bf16) (w : Vec Ideal S2048x1024 .bf16) (r : Fin 128) (k : Fin 1024) :
    k4_pay2 (F := Ideal) x w (ix2 r k) = rowDot x w r k := by
  pointwise [k4_pay2]

/-- The queries' gain. -/
theorem gain4 (g : Vec Ideal S1x128 .f32) (d : Fin 128) : k4_pay3 (F := Ideal) g (ix2 0 d) = g (ix2 0 d) := by
  pointwise [k4_pay3]

/-- Head 0 of the queries. -/
theorem seg4_0 (x : Vec Ideal S128x2048 .bf16) (w : Vec Ideal S2048x1024 .bf16) (g : Vec Ideal S1x128 .f32) (r : Fin 128) (d : Fin 128) :
    k4_pay4 (F := Ideal) x w g (ix2 r d) = narrow (fun d => (k4_pay2 x w) (ix2 r ⟨0 + d.val, by omega⟩)) (fun d => (k4_pay3 g) (ix2 0 d)) d := by
  pointwise [k4_pay4]
  rfl

/-- Head 1 of the queries. -/
theorem seg4_1 (x : Vec Ideal S128x2048 .bf16) (w : Vec Ideal S2048x1024 .bf16) (g : Vec Ideal S1x128 .f32) (r : Fin 128) (d : Fin 128) :
    k4_pay5 (F := Ideal) x w g (ix2 r d) = narrow (fun d => (k4_pay2 x w) (ix2 r ⟨128 + d.val, by omega⟩)) (fun d => (k4_pay3 g) (ix2 0 d)) d := by
  pointwise [k4_pay5]
  rfl

/-- Head 2 of the queries. -/
theorem seg4_2 (x : Vec Ideal S128x2048 .bf16) (w : Vec Ideal S2048x1024 .bf16) (g : Vec Ideal S1x128 .f32) (r : Fin 128) (d : Fin 128) :
    k4_pay8 (F := Ideal) (k4_pay3 g) (k4_pay6 x w) (k4_pay7 x w) (ix2 r d) = narrow (fun d => (k4_pay2 x w) (ix2 r ⟨256 + d.val, by omega⟩)) (fun d => (k4_pay3 g) (ix2 0 d)) d := by
  pointwise [k4_pay8, k4_pay7, k4_pay6]
  rfl

/-- Head 3 of the queries. -/
theorem seg4_3 (A : FVec Ideal S128x1024 .f32) (G : FVec Ideal S1x128 .f32) (r : Fin 128) (d : Fin 128) :
    k4_pay9 (F := Ideal) A G (ix2 r d) = narrow (fun d => A (ix2 r ⟨384 + d.val, by omega⟩)) (fun d => G (ix2 0 d)) d := by
  pointwise [k4_pay9]
  rfl

/-- Head 4 of the queries. -/
theorem seg4_4 (A : FVec Ideal S128x1024 .f32) (G : FVec Ideal S1x128 .f32) (r : Fin 128) (d : Fin 128) :
    k4_pay10 (F := Ideal) A G (ix2 r d) = narrow (fun d => A (ix2 r ⟨512 + d.val, by omega⟩)) (fun d => G (ix2 0 d)) d := by
  pointwise [k4_pay10]
  rfl

/-- Head 5 of the queries. -/
theorem seg4_5 (A : FVec Ideal S128x1024 .f32) (G : FVec Ideal S1x128 .f32) (r : Fin 128) (d : Fin 128) :
    k4_pay11 (F := Ideal) A G (ix2 r d) = narrow (fun d => A (ix2 r ⟨640 + d.val, by omega⟩)) (fun d => G (ix2 0 d)) d := by
  pointwise [k4_pay11]
  rfl

/-- The differential queries' block: the product normed head by head. -/
theorem heads4 (x : Vec Ideal S128x2048 .bf16) (w : Vec Ideal S2048x1024 .bf16) (g : Vec Ideal S1x128 .f32) (r : Fin 128) (k : Fin 1024) :
    k4_pay1 (F := Ideal) (k4_pay2 x w) (k4_pay3 g) (k4_pay4 x w g) (k4_pay5 x w g) (k4_pay8 (k4_pay3 g) (k4_pay6 x w) (k4_pay7 x w)) (k4_pay9 (k4_pay2 x w) (k4_pay3 g)) (k4_pay10 (k4_pay2 x w) (k4_pay3 g)) (k4_pay11 (k4_pay2 x w) (k4_pay3 g)) (k4_pay12 (k4_pay2 x w)) (k4_pay13 (k4_pay2 x w)) (ix2 r k) = rowHeads x w g r k := by
  pointwise [k4_pay1, k4_pay12, k4_pay13]
  have hk := k.isLt
  have hj : k.val / 128 = 0 ∨ k.val / 128 = 1 ∨ k.val / 128 = 2 ∨ k.val / 128 = 3 ∨ k.val / 128 = 4 ∨ k.val / 128 = 5
    ∨ k.val / 128 = 6 ∨ k.val / 128 = 7 := by omega
  rcases hj with e | e | e | e | e | e | e | e
  · rw [dif_pos (by omega)]
    rw [seg4_0]
    simp only [acc4, gain4]
    unfold rowHeads
    simp only [e]
    have f : k.val % 128 = k.val - 0 := by omega
    simp only [f, Nat.sub_sub]
    rfl
  · rw [dif_neg (by omega)]; rw [dif_pos (by omega)]
    rw [seg4_1]
    simp only [acc4, gain4]
    unfold rowHeads
    simp only [e]
    have f : k.val % 128 = k.val - 128 := by omega
    simp only [f, Nat.sub_sub]
  · rw [dif_neg (by omega)]; rw [dif_neg (by omega)]; rw [dif_pos (by omega)]
    rw [seg4_2]
    simp only [acc4, gain4]
    unfold rowHeads
    simp only [e]
    have f : k.val % 128 = k.val - 256 := by omega
    simp only [f, Nat.sub_sub]
  · rw [dif_neg (by omega)]; rw [dif_neg (by omega)]; rw [dif_neg (by omega)]; rw [dif_pos (by omega)]
    rw [seg4_3]
    simp only [acc4, gain4]
    unfold rowHeads
    simp only [e]
    have f : k.val % 128 = k.val - 384 := by omega
    simp only [f, Nat.sub_sub]
  · rw [dif_neg (by omega)]; rw [dif_neg (by omega)]; rw [dif_neg (by omega)]; rw [dif_neg (by omega)]; rw [dif_pos (by omega)]
    rw [seg4_4]
    simp only [acc4, gain4]
    unfold rowHeads
    simp only [e]
    have f : k.val % 128 = k.val - 512 := by omega
    simp only [f, Nat.sub_sub]
  · rw [dif_neg (by omega)]; rw [dif_neg (by omega)]; rw [dif_neg (by omega)]; rw [dif_neg (by omega)]; rw [dif_neg (by omega)]; rw [dif_pos (by omega)]
    rw [seg4_5]
    simp only [acc4, gain4]
    unfold rowHeads
    simp only [e]
    have f : k.val % 128 = k.val - 640 := by omega
    simp only [f, Nat.sub_sub]
  · rw [dif_neg (by omega)]; rw [dif_neg (by omega)]; rw [dif_neg (by omega)]; rw [dif_neg (by omega)]; rw [dif_neg (by omega)]; rw [dif_neg (by omega)]; rw [dif_pos (by omega)]
    simp only [acc4, gain4]
    unfold rowHeads
    simp only [e]
    have f : k.val % 128 = k.val - 768 := by omega
    simp only [f, Nat.sub_sub]
    rfl
  · rw [dif_neg (by omega)]; rw [dif_neg (by omega)]; rw [dif_neg (by omega)]; rw [dif_neg (by omega)]; rw [dif_neg (by omega)]; rw [dif_neg (by omega)]; rw [dif_neg (by omega)]; skip
    simp only [acc4, gain4]
    unfold rowHeads
    simp only [e]
    have f : k.val % 128 = k.val - 896 := by omega
    simp only [f, Nat.sub_sub]
    rfl

/-- The product before the keys' norm. -/
theorem acc5 (x : Vec Ideal S128x2048 .bf16) (w : Vec Ideal S2048x1024 .bf16) (r : Fin 128) (k : Fin 1024) :
    k5_pay2 (F := Ideal) x w (ix2 r k) = rowDot x w r k := by
  pointwise [k5_pay2]

/-- The keys' gain. -/
theorem gain5 (g : Vec Ideal S1x128 .f32) (d : Fin 128) : k5_pay3 (F := Ideal) g (ix2 0 d) = g (ix2 0 d) := by
  pointwise [k5_pay3]

/-- Head 0 of the keys. -/
theorem seg5_0 (x : Vec Ideal S128x2048 .bf16) (w : Vec Ideal S2048x1024 .bf16) (g : Vec Ideal S1x128 .f32) (r : Fin 128) (d : Fin 128) :
    k5_pay4 (F := Ideal) x w g (ix2 r d) = narrow (fun d => (k5_pay2 x w) (ix2 r ⟨0 + d.val, by omega⟩)) (fun d => (k5_pay3 g) (ix2 0 d)) d := by
  pointwise [k5_pay4]
  rfl

/-- Head 1 of the keys. -/
theorem seg5_1 (x : Vec Ideal S128x2048 .bf16) (w : Vec Ideal S2048x1024 .bf16) (g : Vec Ideal S1x128 .f32) (r : Fin 128) (d : Fin 128) :
    k5_pay5 (F := Ideal) x w g (ix2 r d) = narrow (fun d => (k5_pay2 x w) (ix2 r ⟨128 + d.val, by omega⟩)) (fun d => (k5_pay3 g) (ix2 0 d)) d := by
  pointwise [k5_pay5]
  rfl

/-- Head 2 of the keys. -/
theorem seg5_2 (x : Vec Ideal S128x2048 .bf16) (w : Vec Ideal S2048x1024 .bf16) (g : Vec Ideal S1x128 .f32) (r : Fin 128) (d : Fin 128) :
    k5_pay8 (F := Ideal) (k5_pay3 g) (k5_pay6 x w) (k5_pay7 x w) (ix2 r d) = narrow (fun d => (k5_pay2 x w) (ix2 r ⟨256 + d.val, by omega⟩)) (fun d => (k5_pay3 g) (ix2 0 d)) d := by
  pointwise [k5_pay8, k5_pay7, k5_pay6]
  rfl

/-- Head 3 of the keys. -/
theorem seg5_3 (A : FVec Ideal S128x1024 .f32) (G : FVec Ideal S1x128 .f32) (r : Fin 128) (d : Fin 128) :
    k5_pay9 (F := Ideal) A G (ix2 r d) = narrow (fun d => A (ix2 r ⟨384 + d.val, by omega⟩)) (fun d => G (ix2 0 d)) d := by
  pointwise [k5_pay9]
  rfl

/-- Head 4 of the keys. -/
theorem seg5_4 (A : FVec Ideal S128x1024 .f32) (G : FVec Ideal S1x128 .f32) (r : Fin 128) (d : Fin 128) :
    k5_pay10 (F := Ideal) A G (ix2 r d) = narrow (fun d => A (ix2 r ⟨512 + d.val, by omega⟩)) (fun d => G (ix2 0 d)) d := by
  pointwise [k5_pay10]
  rfl

/-- Head 5 of the keys. -/
theorem seg5_5 (A : FVec Ideal S128x1024 .f32) (G : FVec Ideal S1x128 .f32) (r : Fin 128) (d : Fin 128) :
    k5_pay11 (F := Ideal) A G (ix2 r d) = narrow (fun d => A (ix2 r ⟨640 + d.val, by omega⟩)) (fun d => G (ix2 0 d)) d := by
  pointwise [k5_pay11]
  rfl

/-- The differential keys' block: the product normed head by head. -/
theorem heads5 (x : Vec Ideal S128x2048 .bf16) (w : Vec Ideal S2048x1024 .bf16) (g : Vec Ideal S1x128 .f32) (r : Fin 128) (k : Fin 1024) :
    k5_pay1 (F := Ideal) (k5_pay2 x w) (k5_pay3 g) (k5_pay4 x w g) (k5_pay5 x w g) (k5_pay8 (k5_pay3 g) (k5_pay6 x w) (k5_pay7 x w)) (k5_pay9 (k5_pay2 x w) (k5_pay3 g)) (k5_pay10 (k5_pay2 x w) (k5_pay3 g)) (k5_pay11 (k5_pay2 x w) (k5_pay3 g)) (k5_pay12 (k5_pay2 x w)) (k5_pay13 (k5_pay2 x w)) (ix2 r k) = rowHeads x w g r k := by
  pointwise [k5_pay1, k5_pay12, k5_pay13]
  have hk := k.isLt
  have hj : k.val / 128 = 0 ∨ k.val / 128 = 1 ∨ k.val / 128 = 2 ∨ k.val / 128 = 3 ∨ k.val / 128 = 4 ∨ k.val / 128 = 5
    ∨ k.val / 128 = 6 ∨ k.val / 128 = 7 := by omega
  rcases hj with e | e | e | e | e | e | e | e
  · rw [dif_pos (by omega)]
    rw [seg5_0]
    simp only [acc5, gain5]
    unfold rowHeads
    simp only [e]
    have f : k.val % 128 = k.val - 0 := by omega
    simp only [f, Nat.sub_sub]
    rfl
  · rw [dif_neg (by omega)]; rw [dif_pos (by omega)]
    rw [seg5_1]
    simp only [acc5, gain5]
    unfold rowHeads
    simp only [e]
    have f : k.val % 128 = k.val - 128 := by omega
    simp only [f, Nat.sub_sub]
  · rw [dif_neg (by omega)]; rw [dif_neg (by omega)]; rw [dif_pos (by omega)]
    rw [seg5_2]
    simp only [acc5, gain5]
    unfold rowHeads
    simp only [e]
    have f : k.val % 128 = k.val - 256 := by omega
    simp only [f, Nat.sub_sub]
  · rw [dif_neg (by omega)]; rw [dif_neg (by omega)]; rw [dif_neg (by omega)]; rw [dif_pos (by omega)]
    rw [seg5_3]
    simp only [acc5, gain5]
    unfold rowHeads
    simp only [e]
    have f : k.val % 128 = k.val - 384 := by omega
    simp only [f, Nat.sub_sub]
  · rw [dif_neg (by omega)]; rw [dif_neg (by omega)]; rw [dif_neg (by omega)]; rw [dif_neg (by omega)]; rw [dif_pos (by omega)]
    rw [seg5_4]
    simp only [acc5, gain5]
    unfold rowHeads
    simp only [e]
    have f : k.val % 128 = k.val - 512 := by omega
    simp only [f, Nat.sub_sub]
  · rw [dif_neg (by omega)]; rw [dif_neg (by omega)]; rw [dif_neg (by omega)]; rw [dif_neg (by omega)]; rw [dif_neg (by omega)]; rw [dif_pos (by omega)]
    rw [seg5_5]
    simp only [acc5, gain5]
    unfold rowHeads
    simp only [e]
    have f : k.val % 128 = k.val - 640 := by omega
    simp only [f, Nat.sub_sub]
  · rw [dif_neg (by omega)]; rw [dif_neg (by omega)]; rw [dif_neg (by omega)]; rw [dif_neg (by omega)]; rw [dif_neg (by omega)]; rw [dif_neg (by omega)]; rw [dif_pos (by omega)]
    simp only [acc5, gain5]
    unfold rowHeads
    simp only [e]
    have f : k.val % 128 = k.val - 768 := by omega
    simp only [f, Nat.sub_sub]
    rfl
  · rw [dif_neg (by omega)]; rw [dif_neg (by omega)]; rw [dif_neg (by omega)]; rw [dif_neg (by omega)]; rw [dif_neg (by omega)]; rw [dif_neg (by omega)]; rw [dif_neg (by omega)]; skip
    simp only [acc5, gain5]
    unfold rowHeads
    simp only [e]
    have f : k.val % 128 = k.val - 896 := by omega
    simp only [f, Nat.sub_sub]
    rfl

end Cert.Kernel3Ideal.Value

end
-- ==== Proof.Pj.Arrays3.lean ====
/-
  What each call of the sample's projections leaves in its result arrays, entry by entry.
-/
module

public import proofs.«01_k».proof.Proof.Gen.Kernel3Ideal.Frame
public import proofs.«01_k».proof.Proof.Pj.Blocks3
public import Idealize.ShloMosaic.Lib.Pipeline.ValueKit

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Pj Finset

variable (V : (c : Dev nD) → (b : Ref sig .tc) → Buf (Elt Ideal) ((c.tc : Thread nD τ).loc b))

/-- An entry of the rows' product with the 1024 columns. -/
def dotArr (h : FVec Ideal S128x2048 .bf16) (w : FVec Ideal S2048x1024 .bf16) (R : Fin 128) (C : Fin 1024) : EReal :=
  ∑ j : Fin 2048, (h (ix2 R j) : EReal) * w (ix2 j C)

/-- The same with the heads normed. -/
def headArr (h : FVec Ideal S128x2048 .bf16) (w : FVec Ideal S2048x1024 .bf16) (g : FVec Ideal S1x128 .f32) (R : Fin 128) (C : Fin 1024) : EReal :=
  narrow (fun d => dotArr h w R ⟨C.val / 128 * 128 + d.val, by omega⟩) (fun d => g (ix2 0 d)) ⟨C.val % 128, by omega⟩

/-- An entry of the gates. -/
def gateArr (h : FVec Ideal S128x2048 .bf16) (w : FVec Ideal S2048x4096 .bf16) (R : Fin 128) (C : Fin 4096) : EReal :=
  Ideal.logistic (∑ j : Fin 2048, (h (ix2 R j) : EReal) * w (ix2 j C))

/-! ## The norm -/

/-- Which block window 0 of call 0 shows at a grid point. -/
theorem idx0_0 : ∀ t : Fin grid0.N, win0_0.index t = ![0, 0] := by decide +kernel
/-- Which block window 1 of call 0 shows at a grid point. -/
theorem idx0_1 : ∀ t : Fin grid0.N, win0_1.index t = ![0, 0] := by decide +kernel
/-- Which block window 2 of call 0 shows at a grid point. -/
theorem idx0_2 : ∀ t : Fin grid0.N, win0_2.index t = ![0, 0] := by decide +kernel

/-- The block that grid point `t` reads through window 0. -/
theorem blk0_0 (c : Dev nD) (t : Fin cfg0.N) (a : Fin 128) (b : Fin 2048) :
    iblk0 (F := Ideal) V c 0 t (ix2 a b) = V c main_v8 (ix2 a b) := by
  blk_simp [iblk0]
  refine congrArg (V c main_v8) ?_
  blk_ext [idx0_0]

/-- The block that grid point `t` reads through window 1. -/
theorem blk0_1 (c : Dev nD) (t : Fin cfg0.N) (a : Fin 1) (b : Fin 2048) :
    iblk0 (F := Ideal) V c 1 t (ix2 a b) = V c main_v9 (ix2 a b) := by
  blk_simp [iblk0]
  refine congrArg (V c main_v9) ?_
  blk_ext [idx0_1]

/-- The normed rows. -/
theorem arr0_2 (c : Dev nD) : (dat0 (F := Ideal) V c).arrAt 2 cfg0.N
    = fun y : S128x2048.Idx => wide (fun j => V c main_v8 (ix2 (y 0) j)) (fun j => V c main_v9 (ix2 0 j)) (y 1) := by
  refine (dat0 (F := Ideal) V c).arrAt_eq_of_covers 2 _ (by decide +kernel) fun t hf y => ?_
  blk_simp
  rw [after0_2]
  unfold out0_2
  frame_out
  idx_vars y
  have ht : t.val < 1 := lt_of_lt_of_eq t.isLt N_0
  have hemb : ((View.whole main_v10).slice (win0_2.rect t)).emb (ix2 y0 y1) = ix2 y0 y1 := by
    blk_ext [idx0_2]
  rw [hemb, rms_apply]
  show wide _ _ _ = wide (fun j => V c main_v8 (ix2 y0 j)) (fun j => V c main_v9 (ix2 0 j)) y1
  congr 1
  · funext j
    rw [blk0_0 V c t y0 j]
  · funext j
    rw [blk0_1 V c t 0 j]

/-! ## The stick-breaking queries -/

/-- Which block window 0 of call 1 shows at a grid point. -/
theorem idx1_0 : ∀ t : Fin grid1.N, win1_0.index t = ![0, 0] := by decide +kernel
/-- Which block window 1 of call 1 shows at a grid point. -/
theorem idx1_1 : ∀ t : Fin grid1.N, win1_1.index t = ![0, 0] := by decide +kernel
/-- Which block window 3 of call 1 shows at a grid point. -/
theorem idx1_3 : ∀ t : Fin grid1.N, win1_3.index t = ![0, 0] := by decide +kernel

/-- The block that grid point `t` reads through window 0. -/
theorem blk1_0 (c : Dev nD) (t : Fin cfg1.N) (a : Fin 128) (b : Fin 2048) :
    iblk1 (F := Ideal) V c 0 t (ix2 a b) = V c main_v10 (ix2 a b) := by
  blk_simp [iblk1]
  refine congrArg (V c main_v10) ?_
  blk_ext [idx1_0]

/-- The block that grid point `t` reads through window 1. -/
theorem blk1_1 (c : Dev nD) (t : Fin cfg1.N) (a : Fin 2048) (b : Fin 1024) :
    iblk1 (F := Ideal) V c 1 t (ix2 a b) = V c main_v1 (ix2 a b) := by
  blk_simp [iblk1]
  refine congrArg (V c main_v1) ?_
  blk_ext [idx1_1]

/-- The array of the stick-breaking queries. -/
theorem arr1_3 (c : Dev nD) : (dat1 (F := Ideal) V c).arrAt 3 cfg1.N
    = fun y : S128x1024.Idx => dotArr (V c main_v10) (V c main_v1) (y 0) (y 1) := by
  refine (dat1 (F := Ideal) V c).arrAt_eq_of_covers 3 _ (by decide +kernel) fun t hf y => ?_
  blk_simp
  rw [after1_3]
  unfold out1_3
  frame_out
  idx_vars y
  have ht : t.val < 1 := lt_of_lt_of_eq t.isLt N_1
  have hemb : ((View.whole main_v13).slice (win1_3.rect t)).emb (ix2 y0 y1) = ix2 y0 y1 := by
    blk_ext [idx1_3]
  rw [hemb, dot1_1]
  show _ = dotArr (V c main_v10) (V c main_v1) y0 y1
  refine sum_congr rfl fun j _ => ?_
  rw [blk1_0 V c t y0 j, blk1_1 V c t j _]

/-! ## The stick-breaking keys -/

/-- Which block window 0 of call 2 shows at a grid point. -/
theorem idx2_0 : ∀ t : Fin grid2.N, win2_0.index t = ![0, 0] := by decide +kernel
/-- Which block window 1 of call 2 shows at a grid point. -/
theorem idx2_1 : ∀ t : Fin grid2.N, win2_1.index t = ![0, 0] := by decide +kernel
/-- Which block window 3 of call 2 shows at a grid point. -/
theorem idx2_3 : ∀ t : Fin grid2.N, win2_3.index t = ![0, 0] := by decide +kernel

/-- The block that grid point `t` reads through window 0. -/
theorem blk2_0 (c : Dev nD) (t : Fin cfg2.N) (a : Fin 128) (b : Fin 2048) :
    iblk2 (F := Ideal) V c 0 t (ix2 a b) = V c main_v10 (ix2 a b) := by
  blk_simp [iblk2]
  refine congrArg (V c main_v10) ?_
  blk_ext [idx2_0]

/-- The block that grid point `t` reads through window 1. -/
theorem blk2_1 (c : Dev nD) (t : Fin cfg2.N) (a : Fin 2048) (b : Fin 1024) :
    iblk2 (F := Ideal) V c 1 t (ix2 a b) = V c main_v2 (ix2 a b) := by
  blk_simp [iblk2]
  refine congrArg (V c main_v2) ?_
  blk_ext [idx2_1]

/-- The array of the stick-breaking keys. -/
theorem arr2_3 (c : Dev nD) : (dat2 (F := Ideal) V c).arrAt 3 cfg2.N
    = fun y : S128x1024.Idx => dotArr (V c main_v10) (V c main_v2) (y 0) (y 1) := by
  refine (dat2 (F := Ideal) V c).arrAt_eq_of_covers 3 _ (by decide +kernel) fun t hf y => ?_
  blk_simp
  rw [after2_3]
  unfold out2_3
  frame_out
  idx_vars y
  have ht : t.val < 1 := lt_of_lt_of_eq t.isLt N_2
  have hemb : ((View.whole main_v16).slice (win2_3.rect t)).emb (ix2 y0 y1) = ix2 y0 y1 := by
    blk_ext [idx2_3]
  rw [hemb, dot2_1]
  show _ = dotArr (V c main_v10) (V c main_v2) y0 y1
  refine sum_congr rfl fun j _ => ?_
  rw [blk2_0 V c t y0 j, blk2_1 V c t j _]

/-! ## The stick-breaking values -/

/-- Which block window 0 of call 3 shows at a grid point. -/
theorem idx3_0 : ∀ t : Fin grid3.N, win3_0.index t = ![0, 0] := by decide +kernel
/-- Which block window 1 of call 3 shows at a grid point. -/
theorem idx3_1 : ∀ t : Fin grid3.N, win3_1.index t = ![0, 0] := by decide +kernel
/-- Which block window 3 of call 3 shows at a grid point. -/
theorem idx3_3 : ∀ t : Fin grid3.N, win3_3.index t = ![0, 0] := by decide +kernel

/-- The block that grid point `t` reads through window 0. -/
theorem blk3_0 (c : Dev nD) (t : Fin cfg3.N) (a : Fin 128) (b : Fin 2048) :
    iblk3 (F := Ideal) V c 0 t (ix2 a b) = V c main_v10 (ix2 a b) := by
  blk_simp [iblk3]
  refine congrArg (V c main_v10) ?_
  blk_ext [idx3_0]

/-- The block that grid point `t` reads through window 1. -/
theorem blk3_1 (c : Dev nD) (t : Fin cfg3.N) (a : Fin 2048) (b : Fin 1024) :
    iblk3 (F := Ideal) V c 1 t (ix2 a b) = V c main_v3 (ix2 a b) := by
  blk_simp [iblk3]
  refine congrArg (V c main_v3) ?_
  blk_ext [idx3_1]

/-- The array of the stick-breaking values. -/
theorem arr3_3 (c : Dev nD) : (dat3 (F := Ideal) V c).arrAt 3 cfg3.N
    = fun y : S128x1024.Idx => dotArr (V c main_v10) (V c main_v3) (y 0) (y 1) := by
  refine (dat3 (F := Ideal) V c).arrAt_eq_of_covers 3 _ (by decide +kernel) fun t hf y => ?_
  blk_simp
  rw [after3_3]
  unfold out3_3
  frame_out
  idx_vars y
  have ht : t.val < 1 := lt_of_lt_of_eq t.isLt N_3
  have hemb : ((View.whole main_v19).slice (win3_3.rect t)).emb (ix2 y0 y1) = ix2 y0 y1 := by
    blk_ext [idx3_3]
  rw [hemb, dot3_1]
  show _ = dotArr (V c main_v10) (V c main_v3) y0 y1
  refine sum_congr rfl fun j _ => ?_
  rw [blk3_0 V c t y0 j, blk3_1 V c t j _]

/-! ## The differential queries -/

/-- Which block window 0 of call 4 shows at a grid point. -/
theorem idx4_0 : ∀ t : Fin grid4.N, win4_0.index t = ![0, 0] := by decide +kernel
/-- Which block window 1 of call 4 shows at a grid point. -/
theorem idx4_1 : ∀ t : Fin grid4.N, win4_1.index t = ![0, 0] := by decide +kernel
/-- Which block window 2 of call 4 shows at a grid point. -/
theorem idx4_2 : ∀ t : Fin grid4.N, win4_2.index t = ![0, 0] := by decide +kernel
/-- Which block window 3 of call 4 shows at a grid point. -/
theorem idx4_3 : ∀ t : Fin grid4.N, win4_3.index t = ![0, 0] := by decide +kernel

/-- The block that grid point `t` reads through window 0. -/
theorem blk4_0 (c : Dev nD) (t : Fin cfg4.N) (a : Fin 128) (b : Fin 2048) :
    iblk4 (F := Ideal) V c 0 t (ix2 a b) = V c main_v10 (ix2 a b) := by
  blk_simp [iblk4]
  refine congrArg (V c main_v10) ?_
  blk_ext [idx4_0]

/-- The block that grid point `t` reads through window 1. -/
theorem blk4_1 (c : Dev nD) (t : Fin cfg4.N) (a : Fin 2048) (b : Fin 1024) :
    iblk4 (F := Ideal) V c 1 t (ix2 a b) = V c main_v4 (ix2 a b) := by
  blk_simp [iblk4]
  refine congrArg (V c main_v4) ?_
  blk_ext [idx4_1]

/-- The block that grid point `t` reads through window 2. -/
theorem blk4_2 (c : Dev nD) (t : Fin cfg4.N) (a : Fin 1) (b : Fin 128) :
    iblk4 (F := Ideal) V c 2 t (ix2 a b) = V c main_v20 (ix2 a b) := by
  blk_simp [iblk4]
  refine congrArg (V c main_v20) ?_
  blk_ext [idx4_2]

/-- The array of the differential queries. -/
theorem arr4_3 (c : Dev nD) : (dat4 (F := Ideal) V c).arrAt 3 cfg4.N
    = fun y : S128x1024.Idx => headArr (V c main_v10) (V c main_v4) (V c main_v20) (y 0) (y 1) := by
  refine (dat4 (F := Ideal) V c).arrAt_eq_of_covers 3 _ (by decide +kernel) fun t hf y => ?_
  blk_simp
  rw [after4_3]
  unfold_out out4_3
  frame_out
  idx_vars y
  have ht : t.val < 1 := lt_of_lt_of_eq t.isLt N_4
  have hemb : ((View.whole main_v21).slice (win4_3.rect t)).emb (ix2 y0 y1) = ix2 y0 y1 := by
    blk_ext [idx4_3]
  rw [hemb, heads4]
  show _ = headArr (V c main_v10) (V c main_v4) (V c main_v20) y0 y1
  unfold rowHeads headArr
  congr 1
  · funext d
    refine sum_congr rfl fun j _ => ?_
    rw [blk4_0 V c t y0 j, blk4_1 V c t j _]
  · funext d
    rw [blk4_2 V c t 0 d]

/-! ## The differential keys -/

/-- Which block window 0 of call 5 shows at a grid point. -/
theorem idx5_0 : ∀ t : Fin grid5.N, win5_0.index t = ![0, 0] := by decide +kernel
/-- Which block window 1 of call 5 shows at a grid point. -/
theorem idx5_1 : ∀ t : Fin grid5.N, win5_1.index t = ![0, 0] := by decide +kernel
/-- Which block window 2 of call 5 shows at a grid point. -/
theorem idx5_2 : ∀ t : Fin grid5.N, win5_2.index t = ![0, 0] := by decide +kernel
/-- Which block window 3 of call 5 shows at a grid point. -/
theorem idx5_3 : ∀ t : Fin grid5.N, win5_3.index t = ![0, 0] := by decide +kernel

/-- The block that grid point `t` reads through window 0. -/
theorem blk5_0 (c : Dev nD) (t : Fin cfg5.N) (a : Fin 128) (b : Fin 2048) :
    iblk5 (F := Ideal) V c 0 t (ix2 a b) = V c main_v10 (ix2 a b) := by
  blk_simp [iblk5]
  refine congrArg (V c main_v10) ?_
  blk_ext [idx5_0]

/-- The block that grid point `t` reads through window 1. -/
theorem blk5_1 (c : Dev nD) (t : Fin cfg5.N) (a : Fin 2048) (b : Fin 1024) :
    iblk5 (F := Ideal) V c 1 t (ix2 a b) = V c main_v5 (ix2 a b) := by
  blk_simp [iblk5]
  refine congrArg (V c main_v5) ?_
  blk_ext [idx5_1]

/-- The block that grid point `t` reads through window 2. -/
theorem blk5_2 (c : Dev nD) (t : Fin cfg5.N) (a : Fin 1) (b : Fin 128) :
    iblk5 (F := Ideal) V c 2 t (ix2 a b) = V c main_v22 (ix2 a b) := by
  blk_simp [iblk5]
  refine congrArg (V c main_v22) ?_
  blk_ext [idx5_2]

/-- The array of the differential keys. -/
theorem arr5_3 (c : Dev nD) : (dat5 (F := Ideal) V c).arrAt 3 cfg5.N
    = fun y : S128x1024.Idx => headArr (V c main_v10) (V c main_v5) (V c main_v22) (y 0) (y 1) := by
  refine (dat5 (F := Ideal) V c).arrAt_eq_of_covers 3 _ (by decide +kernel) fun t hf y => ?_
  blk_simp
  rw [after5_3]
  unfold_out out5_3
  frame_out
  idx_vars y
  have ht : t.val < 1 := lt_of_lt_of_eq t.isLt N_5
  have hemb : ((View.whole main_v23).slice (win5_3.rect t)).emb (ix2 y0 y1) = ix2 y0 y1 := by
    blk_ext [idx5_3]
  rw [hemb, heads5]
  show _ = headArr (V c main_v10) (V c main_v5) (V c main_v22) y0 y1
  unfold rowHeads headArr
  congr 1
  · funext d
    refine sum_congr rfl fun j _ => ?_
    rw [blk5_0 V c t y0 j, blk5_1 V c t j _]
  · funext d
    rw [blk5_2 V c t 0 d]

/-! ## The differential values -/

/-- Which block window 0 of call 6 shows at a grid point. -/
theorem idx6_0 : ∀ t : Fin grid6.N, win6_0.index t = ![0, 0] := by decide +kernel
/-- Which block window 1 of call 6 shows at a grid point. -/
theorem idx6_1 : ∀ t : Fin grid6.N, win6_1.index t = ![0, 0] := by decide +kernel
/-- Which block window 3 of call 6 shows at a grid point. -/
theorem idx6_3 : ∀ t : Fin grid6.N, win6_3.index t = ![0, 0] := by decide +kernel

/-- The block that grid point `t` reads through window 0. -/
theorem blk6_0 (c : Dev nD) (t : Fin cfg6.N) (a : Fin 128) (b : Fin 2048) :
    iblk6 (F := Ideal) V c 0 t (ix2 a b) = V c main_v10 (ix2 a b) := by
  blk_simp [iblk6]
  refine congrArg (V c main_v10) ?_
  blk_ext [idx6_0]

/-- The block that grid point `t` reads through window 1. -/
theorem blk6_1 (c : Dev nD) (t : Fin cfg6.N) (a : Fin 2048) (b : Fin 1024) :
    iblk6 (F := Ideal) V c 1 t (ix2 a b) = V c main_v6 (ix2 a b) := by
  blk_simp [iblk6]
  refine congrArg (V c main_v6) ?_
  blk_ext [idx6_1]

/-- The array of the differential values. -/
theorem arr6_3 (c : Dev nD) : (dat6 (F := Ideal) V c).arrAt 3 cfg6.N
    = fun y : S128x1024.Idx => dotArr (V c main_v10) (V c main_v6) (y 0) (y 1) := by
  refine (dat6 (F := Ideal) V c).arrAt_eq_of_covers 3 _ (by decide +kernel) fun t hf y => ?_
  blk_simp
  rw [after6_3]
  unfold out6_3
  frame_out
  idx_vars y
  have ht : t.val < 1 := lt_of_lt_of_eq t.isLt N_6
  have hemb : ((View.whole main_v26).slice (win6_3.rect t)).emb (ix2 y0 y1) = ix2 y0 y1 := by
    blk_ext [idx6_3]
  rw [hemb, dot6_1]
  show _ = dotArr (V c main_v10) (V c main_v6) y0 y1
  refine sum_congr rfl fun j _ => ?_
  rw [blk6_0 V c t y0 j, blk6_1 V c t j _]

/-! ## The gates -/

/-- Which block window 0 of call 7 shows at a grid point. -/
theorem idx7_0 : ∀ t : Fin grid7.N, win7_0.index t = ![0, 0] := by decide +kernel
/-- Which block window 1 of call 7 shows at a grid point. -/
theorem idx7_1 : ∀ t : Fin grid7.N, win7_1.index t = ![0, t.val] := by decide +kernel
/-- Which block window 3 of call 7 shows at a grid point. -/
theorem idx7_3 : ∀ t : Fin grid7.N, win7_3.index t = ![0, t.val] := by decide +kernel

/-- The block that grid point `t` reads through window 0. -/
theorem blk7_0 (c : Dev nD) (t : Fin cfg7.N) (a : Fin 128) (b : Fin 2048) :
    iblk7 (F := Ideal) V c 0 t (ix2 a b) = V c main_v10 (ix2 a b) := by
  blk_simp [iblk7]
  refine congrArg (V c main_v10) ?_
  blk_ext [idx7_0]

/-- The block that grid point `t` reads through window 1. -/
theorem blk7_1 (c : Dev nD) (t : Fin cfg7.N) (a : Fin 2048) (b : Fin 1024) (h : t.val * 1024 + b.val < 4096) :
    iblk7 (F := Ideal) V c 1 t (ix2 a b) = V c main_v7 (ix2 a ⟨t.val * 1024 + b.val, h⟩) := by
  blk_simp [iblk7]
  refine congrArg (V c main_v7) ?_
  blk_ext [idx7_1]

/-- The array of the gates. -/
theorem arr7_3 (c : Dev nD) : (dat7 (F := Ideal) V c).arrAt 3 cfg7.N
    = fun y : S128x4096.Idx => gateArr (V c main_v10) (V c main_v7) (y 0) (y 1) := by
  refine (dat7 (F := Ideal) V c).arrAt_eq_of_covers 3 _ (by decide +kernel) fun t hf y => ?_
  blk_simp
  rw [after7_3]
  unfold out7_3
  frame_out
  idx_vars y
  have ht : t.val < 4 := lt_of_lt_of_eq t.isLt N_7
  have hemb : ((View.whole main_v29).slice (win7_3.rect t)).emb (ix2 y0 y1)
      = ix2 y0 ⟨t.val * 1024 + y1.val, by omega⟩ := by
    blk_ext [idx7_3]
  rw [hemb, gates_apply]
  show _ = gateArr (V c main_v10) (V c main_v7) y0 ⟨t.val * 1024 + y1.val, by omega⟩
  refine congrArg Ideal.logistic (sum_congr rfl fun j _ => ?_)
  rw [blk7_0 V c t y0 j, blk7_1 V c t j y1 (by omega)]

end Cert.Kernel3Ideal.Value

end
-- ==== Proof.Pj.Entry3.lean ====
/-
  What the calls of the sample's projections are handed: the input as rows, the weights' columns, the gains and the normed
  rows, each in terms of the program's arguments.
-/
module

public import proofs.«01_k».proof.Proof.Pj.Arrays3
public import Idealize.ShloMosaic.Lib.StableHlo.ReadAt

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Pj Finset

variable (m : (ℓ : Loc nD τ sig) → Buf (Elt Ideal) ℓ) (ρ : Dev nD → PrngReg)

/-- The input as rows. -/
theorem x_at (c : Dev nD) (R : Fin 128) (j : Fin 2048) : V1 m ρ c main_v8 (ix2 R j)
    = m ((c.tc : Thread nD τ).loc main_arg0) (ix3 (⟨R.val / 4, by omega⟩ : Fin 32) (⟨R.val % 4, by omega⟩ : Fin 4) j) := by
  show StableHlo.after hostOps0 (W0 m ρ c) (Proc.devRef .tc main_v8) (ix2 R j) = _
  after_reads_at

/-- The gain of the norm as a row. -/
theorem g_at (c : Dev nD) (j : Fin 2048) : V1 m ρ c main_v9 (ix2 0 j) = m ((c.tc : Thread nD τ).loc main_arg1) (ix1 j) := by
  show StableHlo.after hostOps0 (W0 m ρ c) (Proc.devRef .tc main_v9) (ix2 0 j) = _
  after_reads_at

/-- The columns of the stick-breaking queries. -/
theorem w1_at (c : Dev nD) (k : Fin 2048) (e : Fin 1024) : V1 m ρ c main_v1 (ix2 k e)
    = m ((c.tc : Thread nD τ).loc main_arg2) (ix2 k (⟨0 + e.val, by omega⟩ : Fin 10240)) := by
  show StableHlo.after hostOps0 (W0 m ρ c) (Proc.devRef .tc main_v1) (ix2 k e) = _
  after_reads_at

/-- The columns of the stick-breaking keys. -/
theorem w2_at (c : Dev nD) (k : Fin 2048) (e : Fin 1024) : V1 m ρ c main_v2 (ix2 k e)
    = m ((c.tc : Thread nD τ).loc main_arg2) (ix2 k (⟨1024 + e.val, by omega⟩ : Fin 10240)) := by
  show StableHlo.after hostOps0 (W0 m ρ c) (Proc.devRef .tc main_v2) (ix2 k e) = _
  after_reads_at

/-- The columns of the stick-breaking values. -/
theorem w3_at (c : Dev nD) (k : Fin 2048) (e : Fin 1024) : V1 m ρ c main_v3 (ix2 k e)
    = m ((c.tc : Thread nD τ).loc main_arg2) (ix2 k (⟨2048 + e.val, by omega⟩ : Fin 10240)) := by
  show StableHlo.after hostOps0 (W0 m ρ c) (Proc.devRef .tc main_v3) (ix2 k e) = _
  after_reads_at

/-- The columns of the differential queries. -/
theorem w4_at (c : Dev nD) (k : Fin 2048) (e : Fin 1024) : V1 m ρ c main_v4 (ix2 k e)
    = m ((c.tc : Thread nD τ).loc main_arg2) (ix2 k (⟨3072 + e.val, by omega⟩ : Fin 10240)) := by
  show StableHlo.after hostOps0 (W0 m ρ c) (Proc.devRef .tc main_v4) (ix2 k e) = _
  after_reads_at

/-- The columns of the differential keys. -/
theorem w5_at (c : Dev nD) (k : Fin 2048) (e : Fin 1024) : V1 m ρ c main_v5 (ix2 k e)
    = m ((c.tc : Thread nD τ).loc main_arg2) (ix2 k (⟨4096 + e.val, by omega⟩ : Fin 10240)) := by
  show StableHlo.after hostOps0 (W0 m ρ c) (Proc.devRef .tc main_v5) (ix2 k e) = _
  after_reads_at

/-- The columns of the differential values. -/
theorem w6_at (c : Dev nD) (k : Fin 2048) (e : Fin 1024) : V1 m ρ c main_v6 (ix2 k e)
    = m ((c.tc : Thread nD τ).loc main_arg2) (ix2 k (⟨5120 + e.val, by omega⟩ : Fin 10240)) := by
  show StableHlo.after hostOps0 (W0 m ρ c) (Proc.devRef .tc main_v6) (ix2 k e) = _
  after_reads_at

/-- The columns of the gates. -/
theorem w7_at (c : Dev nD) (k : Fin 2048) (e : Fin 4096) : V1 m ρ c main_v7 (ix2 k e)
    = m ((c.tc : Thread nD τ).loc main_arg2) (ix2 k (⟨6144 + e.val, by omega⟩ : Fin 10240)) := by
  show StableHlo.after hostOps0 (W0 m ρ c) (Proc.devRef .tc main_v7) (ix2 k e) = _
  after_reads_at

/-- The normed rows as the call of the stick-breaking queries finds them. -/
theorem h1 (c : Dev nD) : V3 m ρ c main_v10 = (dat0 (F := Ideal) (V1 m ρ) c).arrAt 2 cfg0.N :=
  ((W3_of m ρ c main_v10 (by decide))).trans (W2_arr m ρ c 2)

/-- The columns of the stick-breaking queries as its call finds them. -/
theorem w1 (c : Dev nD) : V3 m ρ c main_v1 = V1 m ρ c main_v1 :=
  (W3_of m ρ c main_v1 (by decide)).trans ((W2_of m ρ c main_v1 (by decide)))

/-- The normed rows as the call of the stick-breaking keys finds them. -/
theorem h2 (c : Dev nD) : V5 m ρ c main_v10 = (dat0 (F := Ideal) (V1 m ρ) c).arrAt 2 cfg0.N :=
  ((W5_of m ρ c main_v10 (by decide)).trans ((W4_of m ρ c main_v10 (by decide)).trans ((W3_of m ρ c main_v10 (by decide))))).trans (W2_arr m ρ c 2)

/-- The columns of the stick-breaking keys as its call finds them. -/
theorem w2 (c : Dev nD) : V5 m ρ c main_v2 = V1 m ρ c main_v2 :=
  (W5_of m ρ c main_v2 (by decide)).trans ((W4_of m ρ c main_v2 (by decide)).trans ((W3_of m ρ c main_v2 (by decide)).trans ((W2_of m ρ c main_v2 (by decide)))))

/-- The normed rows as the call of the stick-breaking values finds them. -/
theorem h3 (c : Dev nD) : V7 m ρ c main_v10 = (dat0 (F := Ideal) (V1 m ρ) c).arrAt 2 cfg0.N :=
  ((W7_of m ρ c main_v10 (by decide)).trans ((W6_of m ρ c main_v10 (by decide)).trans ((W5_of m ρ c main_v10 (by decide)).trans ((W4_of m ρ c main_v10 (by decide)).trans ((W3_of m ρ c main_v10 (by decide))))))).trans (W2_arr m ρ c 2)

/-- The columns of the stick-breaking values as its call finds them. -/
theorem w3 (c : Dev nD) : V7 m ρ c main_v3 = V1 m ρ c main_v3 :=
  (W7_of m ρ c main_v3 (by decide)).trans ((W6_of m ρ c main_v3 (by decide)).trans ((W5_of m ρ c main_v3 (by decide)).trans ((W4_of m ρ c main_v3 (by decide)).trans ((W3_of m ρ c main_v3 (by decide)).trans ((W2_of m ρ c main_v3 (by decide)))))))

/-- The normed rows as the call of the differential queries finds them. -/
theorem h4 (c : Dev nD) : V9 m ρ c main_v10 = (dat0 (F := Ideal) (V1 m ρ) c).arrAt 2 cfg0.N :=
  ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))).trans (W2_arr m ρ c 2)

/-- The columns of the differential queries as its call finds them. -/
theorem w4 (c : Dev nD) : V9 m ρ c main_v4 = V1 m ρ c main_v4 :=
  (W9_of m ρ c main_v4 (by decide)).trans ((W8_of m ρ c main_v4 (by decide)).trans ((W7_of m ρ c main_v4 (by decide)).trans ((W6_of m ρ c main_v4 (by decide)).trans ((W5_of m ρ c main_v4 (by decide)).trans ((W4_of m ρ c main_v4 (by decide)).trans ((W3_of m ρ c main_v4 (by decide)).trans ((W2_of m ρ c main_v4 (by decide)))))))))

/-- The normed rows as the call of the differential keys finds them. -/
theorem h5 (c : Dev nD) : V11 m ρ c main_v10 = (dat0 (F := Ideal) (V1 m ρ) c).arrAt 2 cfg0.N :=
  ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))))).trans (W2_arr m ρ c 2)

/-- The columns of the differential keys as its call finds them. -/
theorem w5 (c : Dev nD) : V11 m ρ c main_v5 = V1 m ρ c main_v5 :=
  (W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans ((W2_of m ρ c main_v5 (by decide)))))))))))

/-- The normed rows as the call of the differential values finds them. -/
theorem h6 (c : Dev nD) : V13 m ρ c main_v10 = (dat0 (F := Ideal) (V1 m ρ) c).arrAt 2 cfg0.N :=
  ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))))))).trans (W2_arr m ρ c 2)

/-- The columns of the differential values as its call finds them. -/
theorem w6 (c : Dev nD) : V13 m ρ c main_v6 = V1 m ρ c main_v6 :=
  (W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans ((W2_of m ρ c main_v6 (by decide)))))))))))))

/-- The normed rows as the call of the gates finds them. -/
theorem h7 (c : Dev nD) : V15 m ρ c main_v10 = (dat0 (F := Ideal) (V1 m ρ) c).arrAt 2 cfg0.N :=
  ((W15_of m ρ c main_v10 (by decide)).trans ((W14_of m ρ c main_v10 (by decide)).trans ((W13_of m ρ c main_v10 (by decide)).trans ((W12_of m ρ c main_v10 (by decide)).trans ((W11_of m ρ c main_v10 (by decide)).trans ((W10_of m ρ c main_v10 (by decide)).trans ((W9_of m ρ c main_v10 (by decide)).trans ((W8_of m ρ c main_v10 (by decide)).trans ((W7_of m ρ c main_v10 (by decide)).trans ((W6_of m ρ c main_v10 (by decide)).trans ((W5_of m ρ c main_v10 (by decide)).trans ((W4_of m ρ c main_v10 (by decide)).trans ((W3_of m ρ c main_v10 (by decide))))))))))))))).trans (W2_arr m ρ c 2)

/-- The columns of the gates as its call finds them. -/
theorem w7 (c : Dev nD) : V15 m ρ c main_v7 = V1 m ρ c main_v7 :=
  (W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans ((W4_of m ρ c main_v7 (by decide)).trans ((W3_of m ρ c main_v7 (by decide)).trans ((W2_of m ρ c main_v7 (by decide)))))))))))))))

/-- The gain of the differential queries as a row. -/
theorem gainRow4 (c : Dev nD) (d : Fin 128) : V9 m ρ c main_v20 (ix2 0 d) = m ((c.tc : Thread nD τ).loc main_arg3) (ix1 d) := by
  rw [← W8_args m ρ c main_arg3 (by decide)]
  show StableHlo.after hostOps4 (W8 m ρ c) (Proc.devRef .tc main_v20) (ix2 0 d) = _
  after_reads_at

/-- The gain of the differential keys as a row. -/
theorem gainRow5 (c : Dev nD) (d : Fin 128) : V11 m ρ c main_v22 (ix2 0 d) = m ((c.tc : Thread nD τ).loc main_arg4) (ix1 d) := by
  rw [← W10_args m ρ c main_arg4 (by decide)]
  show StableHlo.after hostOps5 (W10 m ρ c) (Proc.devRef .tc main_v22) (ix2 0 d) = _
  after_reads_at

/-- An entry of the normed rows. -/
theorem h_at (c : Dev nD) (R : Fin 128) (j : Fin 2048) : (dat0 (F := Ideal) (V1 m ρ) c).arrAt 2 cfg0.N (ix2 R j)
    = wide (fun j => m ((c.tc : Thread nD τ).loc main_arg0) (ix3 (⟨R.val / 4, by omega⟩ : Fin 32) (⟨R.val % 4, by omega⟩ : Fin 4) j))
      (fun j => m ((c.tc : Thread nD τ).loc main_arg1) (ix1 j)) j := by
  rw [arr0_2]
  show wide (fun j => V1 m ρ c main_v8 (ix2 R j)) (fun j => V1 m ρ c main_v9 (ix2 0 j)) j = _
  congr 1
  · funext j
    rw [x_at]
  · funext j
    rw [g_at]

/-- A row of the arguments' projection. -/
abbrev prow (c : Dev nD) (R : Fin 128) (e : Fin 10240) : EReal :=
  proj (fun j => m ((c.tc : Thread nD τ).loc main_arg0) (ix3 (⟨R.val / 4, by omega⟩ : Fin 32) (⟨R.val % 4, by omega⟩ : Fin 4) j))
    (fun j => m ((c.tc : Thread nD τ).loc main_arg1) (ix1 j)) (fun k e => m ((c.tc : Thread nD τ).loc main_arg2) (ix2 k e)) e

/-- An entry of the stick-breaking queries. -/
theorem dots1 (c : Dev nD) (R : Fin 128) (C : Fin 1024) : dotArr (V3 m ρ c main_v10) (V3 m ρ c main_v1) R C = prow m c R ⟨0 + C.val, by omega⟩ := by
  refine sum_congr rfl fun j _ => ?_
  rw [h1, w1, h_at, w1_at]

/-- An entry of the stick-breaking keys. -/
theorem dots2 (c : Dev nD) (R : Fin 128) (C : Fin 1024) : dotArr (V5 m ρ c main_v10) (V5 m ρ c main_v2) R C = prow m c R ⟨1024 + C.val, by omega⟩ := by
  refine sum_congr rfl fun j _ => ?_
  rw [h2, w2, h_at, w2_at]

/-- An entry of the stick-breaking values. -/
theorem dots3 (c : Dev nD) (R : Fin 128) (C : Fin 1024) : dotArr (V7 m ρ c main_v10) (V7 m ρ c main_v3) R C = prow m c R ⟨2048 + C.val, by omega⟩ := by
  refine sum_congr rfl fun j _ => ?_
  rw [h3, w3, h_at, w3_at]

/-- An entry of the differential queries before their norm. -/
theorem dots4 (c : Dev nD) (R : Fin 128) (C : Fin 1024) : dotArr (V9 m ρ c main_v10) (V9 m ρ c main_v4) R C = prow m c R ⟨3072 + C.val, by omega⟩ := by
  refine sum_congr rfl fun j _ => ?_
  rw [h4, w4, h_at, w4_at]

/-- An entry of the differential keys before their norm. -/
theorem dots5 (c : Dev nD) (R : Fin 128) (C : Fin 1024) : dotArr (V11 m ρ c main_v10) (V11 m ρ c main_v5) R C = prow m c R ⟨4096 + C.val, by omega⟩ := by
  refine sum_congr rfl fun j _ => ?_
  rw [h5, w5, h_at, w5_at]

/-- An entry of the differential values. -/
theorem dots6 (c : Dev nD) (R : Fin 128) (C : Fin 1024) : dotArr (V13 m ρ c main_v10) (V13 m ρ c main_v6) R C = prow m c R ⟨5120 + C.val, by omega⟩ := by
  refine sum_congr rfl fun j _ => ?_
  rw [h6, w6, h_at, w6_at]

/-- An entry of the gates. -/
theorem dots7 (c : Dev nD) (R : Fin 128) (C : Fin 4096) : gateArr (V15 m ρ c main_v10) (V15 m ρ c main_v7) R C = Ideal.logistic (prow m c R ⟨6144 + C.val, by omega⟩) := by
  refine congrArg Ideal.logistic (sum_congr rfl fun j _ => ?_)
  rw [h7, w7, h_at, w7_at]

/-- An entry of the differential queries. -/
theorem normed4 (c : Dev nD) (R : Fin 128) (C : Fin 1024) : headArr (V9 m ρ c main_v10) (V9 m ρ c main_v4) (V9 m ρ c main_v20) R C
    = narrow (fun d => prow m c R ⟨3072 + (C.val / 128 * 128 + d.val), by omega⟩) (fun d => m ((c.tc : Thread nD τ).loc main_arg3) (ix1 d))
      ⟨C.val % 128, by omega⟩ := by
  unfold headArr
  congr 1
  · funext d
    rw [dots4]
  · funext d
    rw [gainRow4]

/-- An entry of the differential keys. -/
theorem normed5 (c : Dev nD) (R : Fin 128) (C : Fin 1024) : headArr (V11 m ρ c main_v10) (V11 m ρ c main_v5) (V11 m ρ c main_v22) R C
    = narrow (fun d => prow m c R ⟨4096 + (C.val / 128 * 128 + d.val), by omega⟩) (fun d => m ((c.tc : Thread nD τ).loc main_arg4) (ix1 d))
      ⟨C.val % 128, by omega⟩ := by
  unfold headArr
  congr 1
  · funext d
    rw [dots5]
  · funext d
    rw [gainRow5]

end Cert.Kernel3Ideal.Value

end
-- ==== Proof.Pj.Reference3.lean ====
/-
  The reference of the sample's projections, named part by part and read at an entry.
-/
module

public import proofs.«01_k».proof.Proof.Gen.Reference3Ideal.Run
public import proofs.«01_k».proof.Proof.Pj.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference3Ideal.Value

open Cert.Reference3Ideal Cert.Reference3Ideal.Gen Cert.Pj

/-- The input normed row by row. -/
def normIn (x : FVec Ideal S32x4x2048 .f32) (g : FVec Ideal S2048 .f32) : FVec Ideal S32x4x2048 .f32 :=
  mulf (mulf x (broadcastInDim S32x4x2048 ![0, 1, 2] bcast_S32x4x1_S32x4x2048_0_1_2 (Host.rsqrt (addf (Host.divf
      (broadcastInDim S32x4x1 ![0, 1] bcast_S32x4_S32x4x1_0_1 (Host.reduceAdd (mulf x x) (constant S_ .f32 0x00000000#32) reducesTo_S32x4x2048_S32x4_d2 h_S_))
      (broadcastInDim S32x4x1 ![] bcast_S_S32x4x1 (constant S_ .f32 0x45000000#32)))
      (broadcastInDim S32x4x1 ![] bcast_S_S32x4x1 (constant S_ .f32 0x358637BD#32))))))
    (broadcastInDim S32x4x2048 ![0, 1, 2] bcast_S1x1x2048_S32x4x2048_0_1_2 (broadcastInDim S1x1x2048 ![2] bcast_S2048_S1x1x2048_2 g))

/-- The projection of the normed input. -/
def projIn (x : FVec Ideal S32x4x2048 .f32) (g : FVec Ideal S2048 .f32) (w : FVec Ideal S2048x10240 .f32) : FVec Ideal S32x4x10240 .f32 :=
  Host.dotGeneral dot_S32x4x2048_S2048x10240_S32x4x10240_2_0_01_1_n_n none (normIn x g) w

/-- The stick-breaking queries. -/
def rSq (p : FVec Ideal S32x4x10240 .f32) : FVec Ideal S32x4x1024 .f32 := (extractStridedSlice S32x4x1024 ![0, 0, 0] p slices_S32x4x10240_S32x4x1024_0_0_0)

/-- The stick-breaking keys. -/
def rSk (p : FVec Ideal S32x4x10240 .f32) : FVec Ideal S32x4x8x128 .f32 := shapeCast S32x4x8x128 (extractStridedSlice S32x4x1024 ![0, 0, 1024] p slices_S32x4x10240_S32x4x1024_0_0_1024) shapeCasts_S32x4x1024_S32x4x8x128

/-- The stick-breaking values. -/
def rSv (p : FVec Ideal S32x4x10240 .f32) : FVec Ideal S32x4x8x128 .f32 := shapeCast S32x4x8x128 (extractStridedSlice S32x4x1024 ![0, 0, 2048] p slices_S32x4x10240_S32x4x1024_0_0_2048) shapeCasts_S32x4x1024_S32x4x8x128

/-- Every head normed over its width. -/
def headNorm (q : FVec Ideal S32x4x4x2x128 .f32) (gain : FVec Ideal S128 .f32) : FVec Ideal S32x4x4x2x128 .f32 :=
  mulf (mulf q (broadcastInDim S32x4x4x2x128 ![0, 1, 2, 3, 4] bcast_S32x4x4x2x1_S32x4x4x2x128_0_1_2_3_4 (Host.rsqrt (addf (Host.divf
      (broadcastInDim S32x4x4x2x1 ![0, 1, 2, 3] bcast_S32x4x4x2_S32x4x4x2x1_0_1_2_3 (Host.reduceAdd (mulf q q) (constant S_ .f32 0x00000000#32) reducesTo_S32x4x4x2x128_S32x4x4x2_d4 h_S_))
      (broadcastInDim S32x4x4x2x1 ![] bcast_S_S32x4x4x2x1 (constant S_ .f32 0x43000000#32)))
      (broadcastInDim S32x4x4x2x1 ![] bcast_S_S32x4x4x2x1 (constant S_ .f32 0x358637BD#32))))))
    (broadcastInDim S32x4x4x2x128 ![0, 1, 2, 3, 4] bcast_S1x1x1x1x128_S32x4x4x2x128_0_1_2_3_4 (broadcastInDim S1x1x1x1x128 ![4] bcast_S128_S1x1x1x1x128_4 gain))

/-- The differential queries. -/
def rDq (p : FVec Ideal S32x4x10240 .f32) (gain : FVec Ideal S128 .f32) : FVec Ideal S32x4x4x2x128 .f32 :=
  headNorm (shapeCast S32x4x4x2x128 (extractStridedSlice S32x4x1024 ![0, 0, 3072] p slices_S32x4x10240_S32x4x1024_0_0_3072) shapeCasts_S32x4x1024_S32x4x4x2x128) gain

/-- The differential keys. -/
def rDk (p : FVec Ideal S32x4x10240 .f32) (gain : FVec Ideal S128 .f32) : FVec Ideal S32x4x4x2x128 .f32 :=
  headNorm (shapeCast S32x4x4x2x128 (extractStridedSlice S32x4x1024 ![0, 0, 4096] p slices_S32x4x10240_S32x4x1024_0_0_4096) shapeCasts_S32x4x1024_S32x4x4x2x128) gain

/-- The differential values. -/
def rDv (p : FVec Ideal S32x4x10240 .f32) : FVec Ideal S32x4x4x256 .f32 := shapeCast S32x4x4x256 (extractStridedSlice S32x4x1024 ![0, 0, 5120] p slices_S32x4x10240_S32x4x1024_0_0_5120) shapeCasts_S32x4x1024_S32x4x4x256

/-- The two gates side by side. -/
def rGates (p : FVec Ideal S32x4x10240 .f32) : FVec Ideal S32x4x4096 .f32 :=
  concatenate S32x4x4096 2 [⟨S32x4x2048, (Host.divf (broadcastInDim S32x4x2048 ![] bcast_S_S32x4x2048 (constant S_ .f32 0x3F800000#32)) (addf (broadcastInDim S32x4x2048 ![] bcast_S_S32x4x2048 (constant S_ .f32 0x3F800000#32)) (Host.exp (Host.negf (extractStridedSlice S32x4x2048 ![0, 0, 6144] p slices_S32x4x10240_S32x4x2048_0_0_6144)))) : FVec Ideal S32x4x2048 .f32)⟩, ⟨S32x4x2048, (Host.divf (broadcastInDim S32x4x2048 ![] bcast_S_S32x4x2048 (constant S_ .f32 0x3F800000#32)) (addf (broadcastInDim S32x4x2048 ![] bcast_S_S32x4x2048 (constant S_ .f32 0x3F800000#32)) (Host.exp (Host.negf (extractStridedSlice S32x4x2048 ![0, 0, 8192] p slices_S32x4x10240_S32x4x2048_0_0_8192)))) : FVec Ideal S32x4x2048 .f32)⟩] concatenates_S32x4x2048_S32x4x2048_S32x4x4096_d2

/-- An entry of the projection: the normed row times the column. -/
theorem projIn_apply (x : FVec Ideal S32x4x2048 .f32) (g : FVec Ideal S2048 .f32) (w : FVec Ideal S2048x10240 .f32) (b : Fin 32) (t : Fin 4) (e : Fin 10240) :
    projIn x g w (ix3 b t e) = proj (fun j => x (ix3 b t j)) (fun j => g (ix1 j)) (fun k e => w (ix2 k e)) e := by
  pointwise [projIn, normIn]
  rfl

/-- An entry of the normed heads. -/
theorem headNorm_apply (q : FVec Ideal S32x4x4x2x128 .f32) (gain : FVec Ideal S128 .f32) (b : Fin 32) (t : Fin 4) (h : Fin 4) (i : Fin 2) (d : Fin 128) :
    headNorm q gain (ix5 b t h i d) = narrow (fun d => q (ix5 b t h i d)) (fun d => gain (ix1 d)) d := by
  pointwise [headNorm]
  rfl

/-- An entry of the stick-breaking queries. -/
theorem rSq_apply (p : FVec Ideal S32x4x10240 .f32) (b : Fin 32) (t : Fin 4) (e : Fin 1024) :
    rSq p (ix3 b t e) = p (ix3 b t ⟨e.val, by omega⟩) := by
  pointwise [rSq]

/-- An entry of the stick-breaking keys. -/
theorem rSk_apply (p : FVec Ideal S32x4x10240 .f32) (b : Fin 32) (t : Fin 4) (h : Fin 8) (d : Fin 128) :
    rSk p (ix4 b t h d) = p (ix3 b t ⟨1024 + (h.val * 128 + d.val), by omega⟩) := by
  pointwise [rSk]

/-- An entry of the stick-breaking values. -/
theorem rSv_apply (p : FVec Ideal S32x4x10240 .f32) (b : Fin 32) (t : Fin 4) (h : Fin 8) (d : Fin 128) :
    rSv p (ix4 b t h d) = p (ix3 b t ⟨2048 + (h.val * 128 + d.val), by omega⟩) := by
  pointwise [rSv]

/-- An entry of the differential queries. -/
theorem rDq_apply (p : FVec Ideal S32x4x10240 .f32) (gain : FVec Ideal S128 .f32) (b : Fin 32) (t : Fin 4) (h : Fin 4) (i : Fin 2) (d : Fin 128) :
    rDq p gain (ix5 b t h i d) = narrow (fun d => p (ix3 b t ⟨3072 + (h.val * 256 + i.val * 128 + d.val), by omega⟩)) (fun d => gain (ix1 d)) d := by
  unfold rDq
  rw [headNorm_apply]
  congr 1
  funext d
  pointwise

/-- An entry of the differential keys. -/
theorem rDk_apply (p : FVec Ideal S32x4x10240 .f32) (gain : FVec Ideal S128 .f32) (b : Fin 32) (t : Fin 4) (h : Fin 4) (i : Fin 2) (d : Fin 128) :
    rDk p gain (ix5 b t h i d) = narrow (fun d => p (ix3 b t ⟨4096 + (h.val * 256 + i.val * 128 + d.val), by omega⟩)) (fun d => gain (ix1 d)) d := by
  unfold rDk
  rw [headNorm_apply]
  congr 1
  funext d
  pointwise

/-- An entry of the differential values. -/
theorem rDv_apply (p : FVec Ideal S32x4x10240 .f32) (b : Fin 32) (t : Fin 4) (h : Fin 4) (d : Fin 256) :
    rDv p (ix4 b t h d) = p (ix3 b t ⟨5120 + (h.val * 256 + d.val), by omega⟩) := by
  pointwise [rDv]

/-- An entry of the gates: the logistic function of the projection. -/
theorem rGates_apply (p : FVec Ideal S32x4x10240 .f32) (b : Fin 32) (t : Fin 4) (e : Fin 4096) :
    rGates p (ix3 b t e) = Ideal.logistic (p (ix3 b t ⟨6144 + e.val, by omega⟩)) := by
  pointwise [rGates]
  by_cases h : e.val < 2048
  · rw [dif_pos h]
    rfl
  · rw [dif_neg h]
    have e' : 8192 + (e.val - 2048) = 6144 + e.val := by omega
    simp only [e']
    rfl

end Cert.Reference3Ideal.Value

end
-- ==== Proof.Pj.Final3.lean ====
/-
  What the sample's projections leave in their results: each is the reference's array, entry by entry.
-/
module

public import proofs.«01_k».proof.Proof.Pj.Entry3
public import proofs.«01_k».proof.Proof.Pj.Reference3

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Pj Finset

variable (m : (ℓ : Loc nD τ sig) → Buf (Elt Ideal) ℓ) (ρ : Dev nD → PrngReg)

/-- The reference's projection of this program's arguments. -/
abbrev rp (c : Dev nD) : FVec Ideal Cert.Reference3Ideal.S32x4x10240 .f32 :=
  Cert.Reference3Ideal.Value.projIn (m ((c.tc : Thread nD τ).loc main_arg0)) (m ((c.tc : Thread nD τ).loc main_arg1)) (m ((c.tc : Thread nD τ).loc main_arg2))

/-- A row of the reference's projection. -/
theorem rp_row (c : Dev nD) (R : Fin 128) (b : Fin 32) (t : Fin 4) (hb : b.val = R.val / 4) (ht : t.val = R.val % 4) (e : Fin 10240) :
    rp m c (ix3 b t e) = prow m c R e := by
  have hb' : b = (⟨R.val / 4, by omega⟩ : Fin 32) := Fin.ext hb
  have ht' : t = (⟨R.val % 4, by omega⟩ : Fin 4) := Fin.ext ht
  rw [hb', ht', rp, Cert.Reference3Ideal.Value.projIn_apply]

/-- What the last call leaves at an entry of the stick-breaking queries. -/
theorem end1_3 (c : Dev nD) (R : Fin 128) (C : Fin 1024) : W16 m ρ c (Proc.devRef .tc main_v13) (ix2 R C)
    = prow m c R ⟨0 + C.val, by omega⟩ := by
  rw [show W16 m ρ c (Proc.devRef .tc main_v13) = (dat1 (F := Ideal) (V3 m ρ) c).arrAt 3 cfg1.N from
    ((W16_of m ρ c main_v13 (by decide)).trans ((W15_of m ρ c main_v13 (by decide)).trans ((W14_of m ρ c main_v13 (by decide)).trans ((W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans ((W6_of m ρ c main_v13 (by decide)).trans ((W5_of m ρ c main_v13 (by decide)))))))))))))).trans (W4_arr m ρ c 3), arr1_3]
  exact dots1 m ρ c R C

/-- What the last call leaves at an entry of the stick-breaking keys. -/
theorem end2_3 (c : Dev nD) (R : Fin 128) (C : Fin 1024) : W16 m ρ c (Proc.devRef .tc main_v16) (ix2 R C)
    = prow m c R ⟨1024 + C.val, by omega⟩ := by
  rw [show W16 m ρ c (Proc.devRef .tc main_v16) = (dat2 (F := Ideal) (V5 m ρ) c).arrAt 3 cfg2.N from
    ((W16_of m ρ c main_v16 (by decide)).trans ((W15_of m ρ c main_v16 (by decide)).trans ((W14_of m ρ c main_v16 (by decide)).trans ((W13_of m ρ c main_v16 (by decide)).trans ((W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)))))))))))).trans (W6_arr m ρ c 3), arr2_3]
  exact dots2 m ρ c R C

/-- What the last call leaves at an entry of the stick-breaking values. -/
theorem end3_3 (c : Dev nD) (R : Fin 128) (C : Fin 1024) : W16 m ρ c (Proc.devRef .tc main_v19) (ix2 R C)
    = prow m c R ⟨2048 + C.val, by omega⟩ := by
  rw [show W16 m ρ c (Proc.devRef .tc main_v19) = (dat3 (F := Ideal) (V7 m ρ) c).arrAt 3 cfg3.N from
    ((W16_of m ρ c main_v19 (by decide)).trans ((W15_of m ρ c main_v19 (by decide)).trans ((W14_of m ρ c main_v19 (by decide)).trans ((W13_of m ρ c main_v19 (by decide)).trans ((W12_of m ρ c main_v19 (by decide)).trans ((W11_of m ρ c main_v19 (by decide)).trans ((W10_of m ρ c main_v19 (by decide)).trans ((W9_of m ρ c main_v19 (by decide)))))))))).trans (W8_arr m ρ c 3), arr3_3]
  exact dots3 m ρ c R C

/-- What the last call leaves at an entry of the differential queries. -/
theorem end4_3 (c : Dev nD) (R : Fin 128) (C : Fin 1024) : W16 m ρ c (Proc.devRef .tc main_v21) (ix2 R C)
    = narrow (fun d => prow m c R ⟨3072 + (C.val / 128 * 128 + d.val), by omega⟩) (fun d => m ((c.tc : Thread nD τ).loc main_arg3) (ix1 d)) ⟨C.val % 128, by omega⟩ := by
  rw [show W16 m ρ c (Proc.devRef .tc main_v21) = (dat4 (F := Ideal) (V9 m ρ) c).arrAt 3 cfg4.N from
    ((W16_of m ρ c main_v21 (by decide)).trans ((W15_of m ρ c main_v21 (by decide)).trans ((W14_of m ρ c main_v21 (by decide)).trans ((W13_of m ρ c main_v21 (by decide)).trans ((W12_of m ρ c main_v21 (by decide)).trans ((W11_of m ρ c main_v21 (by decide)))))))).trans (W10_arr m ρ c 3), arr4_3]
  exact normed4 m ρ c R C

/-- What the last call leaves at an entry of the differential keys. -/
theorem end5_3 (c : Dev nD) (R : Fin 128) (C : Fin 1024) : W16 m ρ c (Proc.devRef .tc main_v23) (ix2 R C)
    = narrow (fun d => prow m c R ⟨4096 + (C.val / 128 * 128 + d.val), by omega⟩) (fun d => m ((c.tc : Thread nD τ).loc main_arg4) (ix1 d)) ⟨C.val % 128, by omega⟩ := by
  rw [show W16 m ρ c (Proc.devRef .tc main_v23) = (dat5 (F := Ideal) (V11 m ρ) c).arrAt 3 cfg5.N from
    ((W16_of m ρ c main_v23 (by decide)).trans ((W15_of m ρ c main_v23 (by decide)).trans ((W14_of m ρ c main_v23 (by decide)).trans ((W13_of m ρ c main_v23 (by decide)))))).trans (W12_arr m ρ c 3), arr5_3]
  exact normed5 m ρ c R C

/-- What the last call leaves at an entry of the differential values. -/
theorem end6_3 (c : Dev nD) (R : Fin 128) (C : Fin 1024) : W16 m ρ c (Proc.devRef .tc main_v26) (ix2 R C)
    = prow m c R ⟨5120 + C.val, by omega⟩ := by
  rw [show W16 m ρ c (Proc.devRef .tc main_v26) = (dat6 (F := Ideal) (V13 m ρ) c).arrAt 3 cfg6.N from
    ((W16_of m ρ c main_v26 (by decide)).trans ((W15_of m ρ c main_v26 (by decide)))).trans (W14_arr m ρ c 3), arr6_3]
  exact dots6 m ρ c R C

/-- What the last call leaves at an entry of the gates. -/
theorem end7_3 (c : Dev nD) (R : Fin 128) (C : Fin 4096) : W16 m ρ c (Proc.devRef .tc main_v29) (ix2 R C)
    = Ideal.logistic (prow m c R ⟨6144 + C.val, by omega⟩) := by
  rw [show W16 m ρ c (Proc.devRef .tc main_v29) = (dat7 (F := Ideal) (V15 m ρ) c).arrAt 3 cfg7.N from
    W16_arr m ρ c 3, arr7_3]
  exact dots7 m ρ c R C

/-- The cache of the stick-breaking keys is the reference's. -/
theorem cache2 (c : Dev nD) : W17 m ρ c (Proc.devRef .tc main_v30) = Cert.Reference3Ideal.Value.rSk (rp m c) := by
  funext y
  idx_vars y
  rw [show Cert.Reference3Ideal.Value.rSk (rp m c) _ = _ from Cert.Reference3Ideal.Value.rSk_apply (rp m c) y0 y1 y2 y3]
  show StableHlo.after hostOps8 (W16 m ρ c) (Proc.devRef .tc main_v30) _ = _
  after_reads_at
  rw [end2_3]
  exact (rp_row m c _ y0 y1 (by simp only []; omega) (by simp only []; omega) _).symm

/-- The cache of the stick-breaking values is the reference's. -/
theorem cache3 (c : Dev nD) : W17 m ρ c (Proc.devRef .tc main_v31) = Cert.Reference3Ideal.Value.rSv (rp m c) := by
  funext y
  idx_vars y
  rw [show Cert.Reference3Ideal.Value.rSv (rp m c) _ = _ from Cert.Reference3Ideal.Value.rSv_apply (rp m c) y0 y1 y2 y3]
  show StableHlo.after hostOps8 (W16 m ρ c) (Proc.devRef .tc main_v31) _ = _
  after_reads_at
  rw [end3_3]
  exact (rp_row m c _ y0 y1 (by simp only []; omega) (by simp only []; omega) _).symm

/-- The cache of the differential keys is the reference's. -/
theorem cache5 (c : Dev nD) : W17 m ρ c (Proc.devRef .tc main_v32) = Cert.Reference3Ideal.Value.rDk (rp m c) (m ((c.tc : Thread nD τ).loc main_arg4)) := by
  funext y
  idx_vars y
  rw [show Cert.Reference3Ideal.Value.rDk (rp m c) (m ((c.tc : Thread nD τ).loc main_arg4)) _ = _ from Cert.Reference3Ideal.Value.rDk_apply (rp m c) (m ((c.tc : Thread nD τ).loc main_arg4)) y0 y1 y2 y3 y4]
  show StableHlo.after hostOps8 (W16 m ρ c) (Proc.devRef .tc main_v32) _ = _
  after_reads_at
  rw [end5_3]
  unfold narrow
  have hd : (y2.val * 256 + y3.val * 128 + y4.val) % 128 = y4.val := by omega
  have hh : (y2.val * 256 + y3.val * 128 + y4.val) / 128 * 128 = y2.val * 256 + y3.val * 128 := by omega
  simp only [hd, hh]
  congr 1
  funext d
  exact (rp_row m c _ y0 y1 (by simp only []; omega) (by simp only []; omega) _).symm

/-- The cache of the differential values is the reference's. -/
theorem cache6 (c : Dev nD) : W17 m ρ c (Proc.devRef .tc main_v33) = Cert.Reference3Ideal.Value.rDv (rp m c) := by
  funext y
  idx_vars y
  rw [show Cert.Reference3Ideal.Value.rDv (rp m c) _ = _ from Cert.Reference3Ideal.Value.rDv_apply (rp m c) y0 y1 y2 y3]
  show StableHlo.after hostOps8 (W16 m ρ c) (Proc.devRef .tc main_v33) _ = _
  after_reads_at
  rw [end6_3]
  exact (rp_row m c _ y0 y1 (by simp only []; omega) (by simp only []; omega) _).symm

/-- The rows of the stick-breaking queries are the reference's. -/
theorem rows1 (c : Dev nD) : W17 m ρ c (Proc.devRef .tc main_v13)
    = shapeCast S128x1024 (Cert.Reference3Ideal.Value.rSq (rp m c)) Cert.Reference3Ideal.Gen.shapeCasts_S32x4x1024_S128x1024 := by
  funext y
  rw [W17_of m ρ c main_v13 (by decide)]
  idx_vars y
  rw [end1_3]
  pointwise
  rw [Cert.Reference3Ideal.Value.rSq_apply]
  rw [rp_row m c y0 _ _ (by simp only []) (by simp only [])]

/-- The rows of the differential queries are the reference's. -/
theorem rows4 (c : Dev nD) : W17 m ρ c (Proc.devRef .tc main_v21)
    = shapeCast S128x1024 (Cert.Reference3Ideal.Value.rDq (rp m c) (m ((c.tc : Thread nD τ).loc main_arg3))) Cert.Reference3Ideal.Gen.shapeCasts_S32x4x4x2x128_S128x1024 := by
  funext y
  rw [W17_of m ρ c main_v21 (by decide)]
  idx_vars y
  rw [end4_3]
  pointwise
  rw [Cert.Reference3Ideal.Value.rDq_apply]
  congr 1
  funext d
  rw [rp_row m c y0 _ _ (by simp only []) (by simp only [])]
  exact congrArg (prow m c y0) (Fin.ext (by dsimp only; omega))

/-- The rows of the gates are the reference's. -/
theorem rows7 (c : Dev nD) : W17 m ρ c (Proc.devRef .tc main_v29)
    = truncf .bf16 (shapeCast S128x4096 (Cert.Reference3Ideal.Value.rGates (rp m c)) Cert.Reference3Ideal.Gen.shapeCasts_S32x4x4096_S128x4096) Cert.Reference3Ideal.Gen.bitsLt_bf16_f32 := by
  funext y
  rw [W17_of m ρ c main_v29 (by decide)]
  idx_vars y
  rw [end7_3]
  pointwise
  rw [Cert.Reference3Ideal.Value.rGates_apply]
  rw [rp_row m c y0 _ _ (by simp only []) (by simp only [])]

end Cert.Kernel3Ideal.Value

end
-- ==== Proof.Mg.Run.lean ====
/-
  The run of the gating and output projection: whatever memory it is launched from, it ends with every array of the chip at the contents
  that its last step leaves.
-/
module

public import proofs.«01_k».proof.Proof.Gen.Kernel4Ideal.Frame

@[expose] public section

set_option maxRecDepth 16384

noncomputable section

namespace Cert.Kernel4Ideal.Value

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing faulting, with each array at the contents the last step leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.Kernel4Ideal.Value

end
-- ==== Proof.Mg.Arrays.lean ====
/-
  The gating of the two attentions and the output projection: what a block of each call computes, and what each call
  leaves in its result, entry by entry.
-/
module

public import proofs.«01_k».proof.Proof.Gen.Kernel4Ideal.Frame
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Finset

/-- The gating's block: each branch's rows times its columns, each under its gate. -/
theorem merge_apply (a : Vec Ideal S512x1024 .bf16) (wa : Vec Ideal S1024x1024 .bf16) (b : Vec Ideal S512x1024 .bf16)
    (wb : Vec Ideal S1024x1024 .bf16) (ga gb : Vec Ideal S512x1024 .bf16) (r : Fin 512) (k : Fin 1024) :
    k0_pay1 (F := Ideal) a wa b wb ga gb (ix2 r k)
      = (ga (ix2 r k) : EReal) * (∑ j : Fin 1024, (a (ix2 r j) : EReal) * wa (ix2 j k))
        + (gb (ix2 r k) : EReal) * ∑ j : Fin 1024, (b (ix2 r j) : EReal) * wb (ix2 j k) := by
  pointwise [k0_pay1]

/-- The output projection's block: the input plus rows times columns. -/
theorem out_apply (x : Vec Ideal S512x1024 .f32) (h : Vec Ideal S512x2048 .bf16) (w : Vec Ideal S2048x1024 .bf16) (r : Fin 512) (k : Fin 1024) :
    k1_pay1 (F := Ideal) x h w (ix2 r k) = (x (ix2 r k) : EReal) + ∑ j : Fin 2048, (h (ix2 r j) : EReal) * w (ix2 j k) := by
  pointwise [k1_pay1]

variable (V : (c : Dev nD) → (b : Ref sig .tc) → Buf (Elt Ideal) ((c.tc : Thread nD τ).loc b))

/-- An entry of the gated sum of the two branches. -/
def mergeArr (a b : FVec Ideal S16384x1024 .bf16) (wa wb : FVec Ideal S1024x2048 .bf16) (g : FVec Ideal S16384x4096 .bf16)
    (R : Fin 16384) (C : Fin 2048) : EReal :=
  (g (ix2 R ⟨C.val, by omega⟩) : EReal) * (∑ j : Fin 1024, (a (ix2 R j) : EReal) * wa (ix2 j C))
    + (g (ix2 R ⟨2048 + C.val, by omega⟩) : EReal) * ∑ j : Fin 1024, (b (ix2 R j) : EReal) * wb (ix2 j C)

/-- An entry of the input plus the output projection. -/
def outArr (x : FVec Ideal S16384x2048 .f32) (h : FVec Ideal S16384x2048 .bf16) (w : FVec Ideal S2048x2048 .bf16)
    (R : Fin 16384) (C : Fin 2048) : EReal :=
  (x (ix2 R C) : EReal) + ∑ j : Fin 2048, (h (ix2 R j) : EReal) * w (ix2 j C)

/-- Which block window 0 of call 0 shows at a grid point. -/
theorem idx0_0 : ∀ t : Fin grid0.N, win0_0.index t = ![t.val / 2, 0] := by decide +kernel

/-- Which block window 1 of call 0 shows at a grid point. -/
theorem idx0_1 : ∀ t : Fin grid0.N, win0_1.index t = ![t.val / 2, 0] := by decide +kernel

/-- Which block window 2 of call 0 shows at a grid point. -/
theorem idx0_2 : ∀ t : Fin grid0.N, win0_2.index t = ![0, t.val % 2] := by decide +kernel

/-- Which block window 3 of call 0 shows at a grid point. -/
theorem idx0_3 : ∀ t : Fin grid0.N, win0_3.index t = ![0, t.val % 2] := by decide +kernel

/-- Which block window 4 of call 0 shows at a grid point. -/
theorem idx0_4 : ∀ t : Fin grid0.N, win0_4.index t = ![t.val / 2, t.val % 2] := by decide +kernel

/-- Which block window 5 of call 0 shows at a grid point. -/
theorem idx0_5 : ∀ t : Fin grid0.N, win0_5.index t = ![t.val / 2, t.val % 2 + 2] := by decide +kernel

/-- Which block window 6 of call 0 shows at a grid point. -/
theorem idx0_6 : ∀ t : Fin grid0.N, win0_6.index t = ![t.val / 2, t.val % 2] := by decide +kernel

/-- Which block window 0 of call 1 shows at a grid point. -/
theorem idx1_0 : ∀ t : Fin grid1.N, win1_0.index t = ![t.val / 2, 0] := by decide +kernel

/-- Which block window 1 of call 1 shows at a grid point. -/
theorem idx1_1 : ∀ t : Fin grid1.N, win1_1.index t = ![0, t.val % 2] := by decide +kernel

/-- Which block window 2 of call 1 shows at a grid point. -/
theorem idx1_2 : ∀ t : Fin grid1.N, win1_2.index t = ![t.val / 2, t.val % 2] := by decide +kernel

/-- Which block window 3 of call 1 shows at a grid point. -/
theorem idx1_3 : ∀ t : Fin grid1.N, win1_3.index t = ![t.val / 2, t.val % 2] := by decide +kernel

/-- The block that grid point `t` reads through window 0 of call 0. -/
theorem blk0_0 (c : Dev nD) (t : Fin cfg0.N) (a : Fin 512) (b : Fin 1024) (h : t.val / 2 * 512 + a.val < 16384) :
    iblk0 (F := Ideal) V c 0 t (ix2 a b) = V c main_arg0 (ix2 ⟨t.val / 2 * 512 + a.val, h⟩ b) := by
  blk_simp [iblk0]
  refine congrArg (V c main_arg0) ?_
  blk_ext [idx0_0]

/-- The block that grid point `t` reads through window 1 of call 0. -/
theorem blk0_1 (c : Dev nD) (t : Fin cfg0.N) (a : Fin 512) (b : Fin 1024) (h : t.val / 2 * 512 + a.val < 16384) :
    iblk0 (F := Ideal) V c 1 t (ix2 a b) = V c main_arg1 (ix2 ⟨t.val / 2 * 512 + a.val, h⟩ b) := by
  blk_simp [iblk0]
  refine congrArg (V c main_arg1) ?_
  blk_ext [idx0_1]

/-- The block that grid point `t` reads through window 2 of call 0. -/
theorem blk0_2 (c : Dev nD) (t : Fin cfg0.N) (a : Fin 1024) (b : Fin 1024) (h' : t.val % 2 * 1024 + b.val < 2048) :
    iblk0 (F := Ideal) V c 2 t (ix2 a b) = V c main_v1 (ix2 a ⟨t.val % 2 * 1024 + b.val, h'⟩) := by
  blk_simp [iblk0]
  refine congrArg (V c main_v1) ?_
  blk_ext [idx0_2]

/-- The block that grid point `t` reads through window 3 of call 0. -/
theorem blk0_3 (c : Dev nD) (t : Fin cfg0.N) (a : Fin 1024) (b : Fin 1024) (h' : t.val % 2 * 1024 + b.val < 2048) :
    iblk0 (F := Ideal) V c 3 t (ix2 a b) = V c main_v2 (ix2 a ⟨t.val % 2 * 1024 + b.val, h'⟩) := by
  blk_simp [iblk0]
  refine congrArg (V c main_v2) ?_
  blk_ext [idx0_3]

/-- The block that grid point `t` reads through window 4 of call 0. -/
theorem blk0_4 (c : Dev nD) (t : Fin cfg0.N) (a : Fin 512) (b : Fin 1024) (h : t.val / 2 * 512 + a.val < 16384) (h' : t.val % 2 * 1024 + b.val < 4096) :
    iblk0 (F := Ideal) V c 4 t (ix2 a b) = V c main_arg2 (ix2 ⟨t.val / 2 * 512 + a.val, h⟩ ⟨t.val % 2 * 1024 + b.val, h'⟩) := by
  blk_simp [iblk0]
  refine congrArg (V c main_arg2) ?_
  blk_ext [idx0_4]

/-- The block that grid point `t` reads through window 5 of call 0. -/
theorem blk0_5 (c : Dev nD) (t : Fin cfg0.N) (a : Fin 512) (b : Fin 1024) (h : t.val / 2 * 512 + a.val < 16384) (h' : (t.val % 2 + 2) * 1024 + b.val < 4096) :
    iblk0 (F := Ideal) V c 5 t (ix2 a b) = V c main_arg2 (ix2 ⟨t.val / 2 * 512 + a.val, h⟩ ⟨(t.val % 2 + 2) * 1024 + b.val, h'⟩) := by
  blk_simp [iblk0]
  refine congrArg (V c main_arg2) ?_
  blk_ext [idx0_5]

/-- The block that grid point `t` reads through window 0 of call 1. -/
theorem blk1_0 (c : Dev nD) (t : Fin cfg1.N) (a : Fin 512) (b : Fin 2048) (h : t.val / 2 * 512 + a.val < 16384) :
    iblk1 (F := Ideal) V c 0 t (ix2 a b) = V c main_v4 (ix2 ⟨t.val / 2 * 512 + a.val, h⟩ b) := by
  blk_simp [iblk1]
  refine congrArg (V c main_v4) ?_
  blk_ext [idx1_0]

/-- The block that grid point `t` reads through window 1 of call 1. -/
theorem blk1_1 (c : Dev nD) (t : Fin cfg1.N) (a : Fin 2048) (b : Fin 1024) (h' : t.val % 2 * 1024 + b.val < 2048) :
    iblk1 (F := Ideal) V c 1 t (ix2 a b) = V c main_v3 (ix2 a ⟨t.val % 2 * 1024 + b.val, h'⟩) := by
  blk_simp [iblk1]
  refine congrArg (V c main_v3) ?_
  blk_ext [idx1_1]

/-- The block that grid point `t` reads through window 2 of call 1. -/
theorem blk1_2 (c : Dev nD) (t : Fin cfg1.N) (a : Fin 512) (b : Fin 1024) (h : t.val / 2 * 512 + a.val < 16384) (h' : t.val % 2 * 1024 + b.val < 2048) :
    iblk1 (F := Ideal) V c 2 t (ix2 a b) = V c main_v0 (ix2 ⟨t.val / 2 * 512 + a.val, h⟩ ⟨t.val % 2 * 1024 + b.val, h'⟩) := by
  blk_simp [iblk1]
  refine congrArg (V c main_v0) ?_
  blk_ext [idx1_2]

/-- The array of the gated sums. -/
theorem arr0_6 (c : Dev nD) : (dat0 (F := Ideal) V c).arrAt 6 cfg0.N = fun y : S16384x2048.Idx => mergeArr (V c main_arg0) (V c main_arg1) (V c main_v1) (V c main_v2) (V c main_arg2) (y 0) (y 1) := by
  refine (dat0 (F := Ideal) V c).arrAt_eq_of_covers 6 _ (by decide +kernel) fun t hf y => ?_
  blk_simp
  rw [after0_6]
  unfold out0_6
  frame_out
  idx_vars y
  have ht : t.val < 64 := lt_of_lt_of_eq t.isLt N_0
  have hemb : ((View.whole main_v4).slice (win0_6.rect t)).emb (ix2 y0 y1)
      = ix2 ⟨t.val / 2 * 512 + y0.val, by omega⟩ ⟨t.val % 2 * 1024 + y1.val, by omega⟩ := by
    blk_ext [idx0_6]
  rw [hemb, merge_apply]
  show _ = mergeArr (V c main_arg0) (V c main_arg1) (V c main_v1) (V c main_v2) (V c main_arg2) ⟨t.val / 2 * 512 + y0.val, by omega⟩ ⟨t.val % 2 * 1024 + y1.val, by omega⟩
  unfold mergeArr
  rw [blk0_4 V c t y0 y1 (by omega) (by omega), blk0_5 V c t y0 y1 (by omega) (by omega)]
  have e : ∀ h h', (⟨(t.val % 2 + 2) * 1024 + y1.val, h⟩ : Fin 4096) = ⟨2048 + (t.val % 2 * 1024 + y1.val), h'⟩ :=
    fun _ _ => Fin.ext (by dsimp only; omega)
  rw [e _ (by omega)]
  refine congrArg₂ (· + ·) (congrArg _ (sum_congr rfl fun j _ => ?_)) (congrArg _ (sum_congr rfl fun j _ => ?_))
  · rw [blk0_0 V c t y0 j (by omega), blk0_2 V c t j y1 (by omega)]
  · rw [blk0_1 V c t y0 j (by omega), blk0_3 V c t j y1 (by omega)]

/-- The array of the input plus its projection. -/
theorem arr1_3 (c : Dev nD) : (dat1 (F := Ideal) V c).arrAt 3 cfg1.N = fun y : S16384x2048.Idx => outArr (V c main_v0) (V c main_v4) (V c main_v3) (y 0) (y 1) := by
  refine (dat1 (F := Ideal) V c).arrAt_eq_of_covers 3 _ (by decide +kernel) fun t hf y => ?_
  blk_simp
  rw [after1_3]
  unfold out1_3
  frame_out
  idx_vars y
  have ht : t.val < 64 := lt_of_lt_of_eq t.isLt N_1
  have hemb : ((View.whole main_v5).slice (win1_3.rect t)).emb (ix2 y0 y1)
      = ix2 ⟨t.val / 2 * 512 + y0.val, by omega⟩ ⟨t.val % 2 * 1024 + y1.val, by omega⟩ := by
    blk_ext [idx1_3]
  rw [hemb, out_apply]
  show _ = outArr (V c main_v0) (V c main_v4) (V c main_v3) ⟨t.val / 2 * 512 + y0.val, by omega⟩ ⟨t.val % 2 * 1024 + y1.val, by omega⟩
  unfold outArr
  rw [blk1_2 V c t y0 y1 (by omega) (by omega)]
  refine congrArg _ (sum_congr rfl fun j _ => ?_)
  rw [blk1_0 V c t y0 j (by omega), blk1_1 V c t j y1 (by omega)]

end Cert.Kernel4Ideal.Value

end
-- ==== Proof.Mg.Reference.lean ====
/-
  The reference's gating and output projection, read at an entry.
-/
module

public import proofs.«01_k».proof.Proof.Gen.Reference4Ideal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference4Ideal.Value

open Cert.Reference4Ideal Cert.Reference4Ideal.Gen

/-- The gated sum of the two branches. -/
def merged (a b : FVec Ideal S16384x1024 .bf16) (g : FVec Ideal S16384x4096 .bf16) (wa wb : FVec Ideal S1024x2048 .f32) : FVec Ideal S8x2048x2048 .f32 :=
  addf (mulf (extractStridedSlice S8x2048x2048 ![0, 0, 0] (shapeCast S8x2048x4096 (extf .f32 g bitsLt_bf16_f32 : FVec Ideal S16384x4096 .f32) shapeCasts_S16384x4096_S8x2048x4096) slices_S8x2048x4096_S8x2048x2048_0_0_0)
      (Host.dotGeneral dot_S8x2048x1024_S1024x2048_S8x2048x2048_2_0_01_1_n_n none (shapeCast S8x2048x1024 (extf .f32 a bitsLt_bf16_f32 : FVec Ideal S16384x1024 .f32) shapeCasts_S16384x1024_S8x2048x1024) wa))
    (mulf (extractStridedSlice S8x2048x2048 ![0, 0, 2048] (shapeCast S8x2048x4096 (extf .f32 g bitsLt_bf16_f32 : FVec Ideal S16384x4096 .f32) shapeCasts_S16384x4096_S8x2048x4096) slices_S8x2048x4096_S8x2048x2048_0_0_2048)
      (Host.dotGeneral dot_S8x2048x1024_S1024x2048_S8x2048x2048_2_0_01_1_n_n none (shapeCast S8x2048x1024 (extf .f32 b bitsLt_bf16_f32 : FVec Ideal S16384x1024 .f32) shapeCasts_S16384x1024_S8x2048x1024) wb))

/-- The input plus the projection of the gated sum, as rows. -/
def resid (a b : FVec Ideal S16384x1024 .bf16) (g : FVec Ideal S16384x4096 .bf16) (x : FVec Ideal S8x2048x2048 .f32)
    (wa wb : FVec Ideal S1024x2048 .f32) (w : FVec Ideal S2048x2048 .f32) : FVec Ideal S16384x2048 .f32 :=
  shapeCast S16384x2048 (addf x (Host.dotGeneral dot_S8x2048x2048_S2048x2048_S8x2048x2048_2_0_01_1_n_n none (merged a b g wa wb) w)) shapeCasts_S8x2048x2048_S16384x2048

/-- An entry of the gated sum. -/
theorem merged_apply (a b : FVec Ideal S16384x1024 .bf16) (g : FVec Ideal S16384x4096 .bf16) (wa wb : FVec Ideal S1024x2048 .f32)
    (n : Fin 8) (t : Fin 2048) (C : Fin 2048) :
    merged a b g wa wb (ix3 n t C)
      = (g (ix2 (⟨n.val * 2048 + t.val, by omega⟩ : Fin 16384) (⟨C.val, by omega⟩ : Fin 4096)) : EReal)
          * (∑ j : Fin 1024, (a (ix2 (⟨n.val * 2048 + t.val, by omega⟩ : Fin 16384) j) : EReal) * wa (ix2 j C))
        + (g (ix2 (⟨n.val * 2048 + t.val, by omega⟩ : Fin 16384) (⟨2048 + C.val, by omega⟩ : Fin 4096)) : EReal)
          * ∑ j : Fin 1024, (b (ix2 (⟨n.val * 2048 + t.val, by omega⟩ : Fin 16384) j) : EReal) * wb (ix2 j C) := by
  pointwise [merged]

/-- An entry of the result. -/
theorem resid_apply (a b : FVec Ideal S16384x1024 .bf16) (g : FVec Ideal S16384x4096 .bf16) (x : FVec Ideal S8x2048x2048 .f32)
    (wa wb : FVec Ideal S1024x2048 .f32) (w : FVec Ideal S2048x2048 .f32) (R : Fin 16384) (C : Fin 2048) :
    resid a b g x wa wb w (ix2 R C)
      = (x (ix3 (⟨R.val / 2048, by omega⟩ : Fin 8) (⟨R.val % 2048, by omega⟩ : Fin 2048) C) : EReal)
        + ∑ j : Fin 2048, merged a b g wa wb (ix3 (⟨R.val / 2048, by omega⟩ : Fin 8) (⟨R.val % 2048, by omega⟩ : Fin 2048) j) * w (ix2 j C) := by
  pointwise [resid]

end Cert.Reference4Ideal.Value

end
-- ==== Proof.Mg.Final.lean ====
/-
  The gating and the output projection leave the reference's array.
-/
module

public import proofs.«01_k».proof.Proof.Mg.Arrays
public import proofs.«01_k».proof.Proof.Mg.Reference
public import Idealize.ShloMosaic.Lib.StableHlo.ReadAt

@[expose] public section

set_option maxRecDepth 16384

noncomputable section

open Idealize.ShloMosaic Idealize.ShloMosaic.TcCoe Idealize.SL.Sem

namespace Cert.Kernel4Ideal.Value

open Cert.Kernel4Ideal Cert.Kernel4Ideal.Gen Finset

variable (m : (ℓ : Loc nD τ sig) → Buf (Elt Ideal) ℓ) (ρ : Dev nD → PrngReg)

/-- The input as rows. -/
theorem v0_at (c : Dev nD) (k : Fin 16384) (e : Fin 2048) : V1 m ρ c main_v0 (ix2 k e)
    = m ((c.tc : Thread nD τ).loc main_arg3) (ix3 (⟨k.val / 2048, by omega⟩ : Fin 8) (⟨k.val % 2048, by omega⟩ : Fin 2048) e) := by
  show StableHlo.after hostOps0 (W0 m ρ c) (Proc.devRef .tc main_v0) (ix2 k e) = _
  after_reads_at

/-- The first branch's columns. -/
theorem v1_at (c : Dev nD) (k : Fin 1024) (e : Fin 2048) : V1 m ρ c main_v1 (ix2 k e)
    = m ((c.tc : Thread nD τ).loc main_arg4) (ix2 k e) := by
  show StableHlo.after hostOps0 (W0 m ρ c) (Proc.devRef .tc main_v1) (ix2 k e) = _
  after_reads_at

/-- The second branch's columns. -/
theorem v2_at (c : Dev nD) (k : Fin 1024) (e : Fin 2048) : V1 m ρ c main_v2 (ix2 k e)
    = m ((c.tc : Thread nD τ).loc main_arg5) (ix2 k e) := by
  show StableHlo.after hostOps0 (W0 m ρ c) (Proc.devRef .tc main_v2) (ix2 k e) = _
  after_reads_at

/-- The output projection's columns. -/
theorem v3_at (c : Dev nD) (k : Fin 2048) (e : Fin 2048) : V1 m ρ c main_v3 (ix2 k e)
    = m ((c.tc : Thread nD τ).loc main_arg6) (ix2 k e) := by
  show StableHlo.after hostOps0 (W0 m ρ c) (Proc.devRef .tc main_v3) (ix2 k e) = _
  after_reads_at

/-- An entry of the gated sum that the first call leaves. -/
theorem merge_at (c : Dev nD) (R : Fin 16384) (C : Fin 2048) : V2 m ρ c main_v4 (ix2 R C)
    = Cert.Reference4Ideal.Value.merged (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (ix3 (⟨R.val / 2048, by omega⟩ : Fin 8) (⟨R.val % 2048, by omega⟩ : Fin 2048) C) := by
  rw [show V2 m ρ c main_v4 = (dat0 (F := Ideal) (V1 m ρ) c).arrAt 6 cfg0.N from W2_arr m ρ c 6, arr0_6,
    Cert.Reference4Ideal.Value.merged_apply]
  have hR : ∀ h, (⟨R.val / 2048 * 2048 + R.val % 2048, h⟩ : Fin 16384) = R := fun _ => Fin.ext (by dsimp only; omega)
  simp only [hR]
  show mergeArr _ _ _ _ _ R C = _
  unfold mergeArr
  rw [show V1 m ρ c main_arg0 = m ((c.tc : Thread nD τ).loc main_arg0) from W1_args m ρ c main_arg0 (by decide),
    show V1 m ρ c main_arg1 = m ((c.tc : Thread nD τ).loc main_arg1) from W1_args m ρ c main_arg1 (by decide),
    show V1 m ρ c main_arg2 = m ((c.tc : Thread nD τ).loc main_arg2) from W1_args m ρ c main_arg2 (by decide)]
  refine congrArg₂ (· + ·) (congrArg _ (sum_congr rfl fun j _ => ?_)) (congrArg _ (sum_congr rfl fun j _ => ?_))
  · rw [v1_at]
  · rw [v2_at]

/-- The result is the reference's. -/
theorem final (c : Dev nD) : W3 m ρ c (Proc.devRef .tc main_v5)
    = Cert.Reference4Ideal.Value.resid (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  rw [show W3 m ρ c (Proc.devRef .tc main_v5) = (dat1 (F := Ideal) (V2 m ρ) c).arrAt 3 cfg1.N from W3_arr m ρ c 3, arr1_3]
  funext y
  idx_vars y
  rw [Cert.Reference4Ideal.Value.resid_apply]
  show outArr _ _ _ y0 y1 = _
  unfold outArr
  rw [show V2 m ρ c main_v0 = V1 m ρ c main_v0 from W2_of m ρ c main_v0 (by decide),
    show V2 m ρ c main_v3 = V1 m ρ c main_v3 from W2_of m ρ c main_v3 (by decide), v0_at]
  refine congrArg _ (sum_congr rfl fun j _ => ?_)
  rw [merge_at, v3_at]

end Cert.Kernel4Ideal.Value

end
-- ==== Proof.Df.Trip.lean ====
/-
  One trip of the kernel's loop and the block a grid point leaves.
-/
module

public import proofs.«01_k».proof.Proof.Gen.Kernel5Ideal.Value
public import Idealize.ShloMosaic.Lib.Pipeline.ValueKit

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

variable {F : FTy → Type} [FloatOps F] [Named F]

/-- The row number of every entry of a 256 by 256 tile. -/
abbrev rowIx : IVec S256x256 32 := iota .tc S256x256 32 [0] iota_S256x256_d0_w32

/-- The column number of every entry of a 256 by 256 tile. -/
abbrev colIx : IVec S256x256 32 := iota .tc S256x256 32 [1] iota_S256x256_d1_w32

/-- What the loop carries: maximum, sum of weights and weighted sum, of each of the two attentions. -/
abbrev Carry (F : FTy → Type) : Type :=
  FVec F S256x1 .f32 × FVec F S256x1 .f32 × FVec F S256x256 .f32 × FVec F S256x1 .f32 × FVec F S256x1 .f32 × FVec F S256x256 .f32

/-- What the loop starts from. -/
abbrev start : Carry F := (k0_pay22, k0_pay23, k0_pay24, k0_pay22, k0_pay23, k0_pay24)

/-- The 256 rows of a sequence block that trip `n` reads. -/
abbrev rowsAt (x : Vec F S2048x256 .bf16) (i : grid0.Coords) (n : Fin (k0_t1_loop i).trips) : Vec F S256x256 .bf16 :=
  View.ld x (Rect.unit (s := S2048x256) (k0_off2 i n) S256x256.size (k0_off2_inb i n))

/-- What trip `n` makes of the carried values, the head's slope being `sl`. -/
def tripVal (i : grid0.Coords) (sl : Elt F .f32) (q : Vec F S256x256 .bf16) (k v : Vec F S2048x256 .bf16)
    (n : Fin (k0_t1_loop i).trips) (acc : Carry F) : Carry F :=
  (k0_pay6 i (BitVec.ofNat 32 (i 2).val) q rowIx colIx sl 0#32 1#32 n acc.1 (rowsAt k i n),
    k0_pay9 i (BitVec.ofNat 32 (i 2).val) q rowIx colIx sl 0#32 1#32 n acc.1 acc.2.1 (rowsAt k i n),
    k0_pay10 i (BitVec.ofNat 32 (i 2).val) q rowIx colIx sl 0#32 1#32 n acc.1 acc.2.2.1 (rowsAt k i n) (rowsAt v i n),
    k0_pay26 acc.2.2.2.1 (k0_pay3 i (BitVec.ofNat 32 (i 2).val) rowIx colIx sl 0#32 1#32 n)
      (k0_pay4 i (BitVec.ofNat 32 (i 2).val) rowIx colIx 0#32 1#32 n) (k0_pay11 q (rowsAt k i n)),
    k0_pay29 acc.2.2.2.1 acc.2.2.2.2.1 (k0_pay3 i (BitVec.ofNat 32 (i 2).val) rowIx colIx sl 0#32 1#32 n)
      (k0_pay4 i (BitVec.ofNat 32 (i 2).val) rowIx colIx 0#32 1#32 n) (k0_pay11 q (rowsAt k i n)),
    k0_pay30 acc.2.2.2.1 acc.2.2.2.2.2 (rowsAt v i n) (k0_pay3 i (BitVec.ofNat 32 (i 2).val) rowIx colIx sl 0#32 1#32 n)
      (k0_pay4 i (BitVec.ofNat 32 (i 2).val) rowIx colIx 0#32 1#32 n) (k0_pay11 q (rowsAt k i n)))

/-- A trip's step, as the loop's run states it, is `tripVal`. -/
theorem tripR_eq (𝒱 : Variants) (c : Dev nD) (bd : Option 𝒱.V) (i : grid0.Coords) (arg3 : Memref sig .tc .smem S1 .f32) (harg3 : arg3.IsWhole) (arg4 : Memref sig .tc .smem S4 .f32) (harg4 : arg4.IsWhole) (arg5 : Memref sig .tc .vmem S256x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x256 .bf16) (harg9 : arg9.IsWhole)
    (sl : Elt F .f32) (q : Vec F S256x256 .bf16) (k v : Vec F S2048x256 .bf16) (n : Fin (k0_t1_loop i).trips) (acc : Carry F) :
    tripR_k0_t1 𝒱 c bd i arg3 harg3 arg4 harg4 arg5 harg5 arg6 harg6 arg7 harg7 arg8 harg8 arg9 harg9 (BitVec.ofNat 32 (i 2).val) q rowIx colIx sl
      (harg6.unread k) (harg7.unread v) n acc = tripVal i sl q k v n acc := by
  unfold tripR_k0_t1 trip_k0_t1
  frame_out
  rfl

/-- The carried values before trip `n`. -/
def carried (i : grid0.Coords) (sl : Elt F .f32) (q : Vec F S256x256 .bf16) (k v : Vec F S2048x256 .bf16) : ℕ → Carry F
  | 0 => start
  | n + 1 => if h : n < (k0_t1_loop i).trips then tripVal i sl q k v ⟨n, h⟩ (carried i sl q k v n) else carried i sl q k v n

/-- The first loop of a point whose third coordinate is `a` makes `a + 1` trips. -/
theorem trips_first : ∀ a : Fin 8, Scf.trips 0#32 (Scalar.addi 0#32 (Scalar.muli (Scalar.divsi (Scalar.subi
    (Scalar.addi (BitVec.ofNat 32 a.val) 1#32) 0#32) 1#32) 1#32)) 1#32 = a.val + 1 := by decide +kernel

/-- The second loop makes no trip. -/
theorem trips_second : ∀ a : Fin 8, Scf.trips (Scalar.addi 0#32 (Scalar.muli (Scalar.divsi (Scalar.subi
    (Scalar.addi (BitVec.ofNat 32 a.val) 1#32) 0#32) 1#32) 1#32)) (Scalar.addi 0#32 (Scalar.subi
    (Scalar.addi (BitVec.ofNat 32 a.val) 1#32) 0#32)) 1#32 = 0 := by decide +kernel

/-- The loop's own recursion is `carried`, up to the number of trips. -/
theorem st_eq (𝒱 : Variants) (c : Dev nD) (bd : Option 𝒱.V) (i : grid0.Coords) (arg3 : Memref sig .tc .smem S1 .f32) (harg3 : arg3.IsWhole) (arg4 : Memref sig .tc .smem S4 .f32) (harg4 : arg4.IsWhole) (arg5 : Memref sig .tc .vmem S256x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x256 .bf16) (harg9 : arg9.IsWhole)
    (sl : Elt F .f32) (q : Vec F S256x256 .bf16) (k v : Vec F S2048x256 .bf16) : ∀ n, n ≤ (k0_t1_loop i).trips →
    st_k0_t1 𝒱 c bd i arg3 harg3 arg4 harg4 arg5 harg5 arg6 harg6 arg7 harg7 arg8 harg8 arg9 harg9 (BitVec.ofNat 32 (i 2).val) q rowIx colIx sl
      (harg6.unread k) (harg7.unread v) start n = carried i sl q k v n
  | 0, _ => st_k0_t1_zero ..
  | n + 1, h => by
    have hs := st_k0_t1_succ 𝒱 c bd i arg3 harg3 arg4 harg4 arg5 harg5 arg6 harg6 arg7 harg7 arg8 harg8 arg9 harg9 (BitVec.ofNat 32 (i 2).val) q
      rowIx colIx sl (harg6.unread k) (harg7.unread v) start ⟨n, h⟩
    rw [tripR_eq] at hs
    rw [show n + 1 = (⟨n, h⟩ : Fin (k0_t1_loop i).trips).val + 1 from rfl, hs]
    rw [show (⟨n, h⟩ : Fin (k0_t1_loop i).trips).val = n from rfl,
      st_eq 𝒱 c bd i arg3 harg3 arg4 harg4 arg5 harg5 arg6 harg6 arg7 harg7 arg8 harg8 arg9 harg9 sl q k v n (Nat.le_of_succ_le h)]
    conv_rhs => unfold carried
    rw [dif_pos (show n < (k0_t1_loop i).trips from h)]

/-- The number that the scalar read of the first argument yields. -/
theorem lam_word (x : Vec F S1 .f32) (h : 0 < (⟨1, S1.size⟩ : Shape).numel) :
    View.ld x (Rect.unit (s := S1) ![0] S1.size inb_S1_S1_0) (Shape.Idx.first h) = x (ix1 0) := by
  refine congrArg x (funext fun a => Fin.ext ?_)
  fin_cases a
  rfl

/-- A point reads the slope of its own head. -/
theorem off1_eq : ∀ i : grid0.Coords, k0_off1 i = ![(i 1).val] := by decide +kernel

/-- The number that the scalar read of the slopes yields. -/
theorem slope_word (x : Vec F S4 .f32) (i : grid0.Coords) (h : 0 < (⟨1, S1.size⟩ : Shape).numel) :
    View.ld x (Rect.unit (s := S4) (k0_off1 i) S1.size (k0_off1_inb i)) (Shape.Idx.first h) = x (ix1 (i 1)) := by
  refine congrArg x (funext fun a => Fin.ext ?_)
  fin_cases a
  have e := congrFun (off1_eq i) 0
  show k0_off1 i 0 + 1 * _ = _
  rw [e]
  rfl

/-- The block that a grid point with coordinates `i` leaves: the normalised difference of the two attentions. -/
theorem out_eq (c : Dev nD) (i : grid0.Coords) (arg3 : Memref sig .tc .smem S1 .f32) (harg3 : arg3.IsWhole) (arg4 : Memref sig .tc .smem S4 .f32) (harg4 : arg4.IsWhole) (arg5 : Memref sig .tc .vmem S256x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x256 .bf16) (harg9 : arg9.IsWhole)
    (lam : Vec F S1 .f32) (sl : Vec F S4 .f32) (q : Vec F S256x256 .bf16) (k v : Vec F S2048x256 .bf16) (g : Vec F S1x256 .f32) :
    out0_A_6 c i arg3 harg3 arg4 harg4 arg5 harg5 arg6 harg6 arg7 harg7 arg8 harg8 arg9 harg9 lam sl q k v g
      = k0_pay1 (k0_pay37 (lam (ix1 0)) (carried i (sl (ix1 (i 1))) q k v ((i 2).val + 1)).2.1
        (carried i (sl (ix1 (i 1))) q k v ((i 2).val + 1)).2.2.1
        (carried i (sl (ix1 (i 1))) q k v ((i 2).val + 1)).2.2.2.2.1
        (carried i (sl (ix1 (i 1))) q k v ((i 2).val + 1)).2.2.2.2.2 g) := by
  unfold out0_A_6
  frame_out
  rw [trips_second (i 2), trips_first (i 2), st_k0_t2_zero]
  rw [st_eq]
  · exact congrArg k0_pay1 (by rw [lam_word, slope_word])
  · exact (trips_first (i 2)).ge

end Cert.Kernel5Ideal.Value

end
-- ==== Proof.Df.Rows.lean ====
/-
  Softmax attention of one query row as a statement about extended scores: the running maximum, the running sum of
  weights and the running weighted sum that the tiles carry are those of all keys seen so far, and the difference of two
  attentions is the attention with the difference of the weights, up to what the row's normalisation leaves of it.
-/
module

public import proofs.«01_k».proof.Proof.Sb.Rows

@[expose] public section

noncomputable section

open Idealize.ShloMosaic Finset

namespace Cert.Df

/-- The largest of the first `n` scores, and `-∞` for none. -/
def top (z : ℕ → EReal) (n : ℕ) : EReal := (range n).sup z

/-- The weight of a score below a maximum, before it is divided by the sum. -/
def wt (z M : EReal) : ℝ := (Ideal.exp (z - M)).toReal

/-- A score not above the maximum has a real weight. -/
theorem exp_sub {z M : EReal} (h : z ≤ M) : Ideal.exp (z - M) = ((wt z M : ℝ) : EReal) := by
  unfold wt
  induction z using EReal.rec with
  | bot => rw [EReal.bot_sub]; rfl
  | top => rw [top_le_iff.1 h]; rfl
  | coe r =>
    induction M using EReal.rec with
    | bot => simp at h
    | top => rw [EReal.sub_top]; rfl
    | coe s => rw [← EReal.coe_sub]; rfl

/-- Weights are not negative. -/
theorem wt_nonneg {z M : EReal} (h : z ≤ M) : 0 ≤ wt z M := by
  unfold wt
  induction z using EReal.rec with
  | bot => rw [EReal.bot_sub]; exact le_rfl
  | top => rw [top_le_iff.1 h]; exact le_rfl
  | coe r =>
    induction M using EReal.rec with
    | bot => simp at h
    | top => rw [EReal.sub_top]; exact le_rfl
    | coe s => rw [← EReal.coe_sub]; exact (Real.exp_pos _).le

/-- A masked score has no weight. -/
theorem wt_bot (M : EReal) : wt ⊥ M = 0 := by
  unfold wt; rw [EReal.bot_sub]; rfl

/-- Raising the maximum multiplies every weight by the same factor. -/
theorem wt_mul {z M M' : EReal} (h : z ≤ M) (h' : M ≤ M') : wt z M * wt M M' = wt z M' := by
  induction z using EReal.rec with
  | bot => rw [wt_bot, wt_bot, zero_mul]
  | top =>
    obtain rfl := top_le_iff.1 h
    obtain rfl := top_le_iff.1 h'
    have e : wt ⊤ ⊤ = 0 := rfl
    rw [e, zero_mul]
  | coe r =>
    induction M using EReal.rec with
    | bot => simp at h
    | top =>
      obtain rfl := top_le_iff.1 h'
      have e : wt ⊤ ⊤ = 0 := rfl
      have e' : wt (r : EReal) ⊤ = 0 := by unfold wt; rw [EReal.sub_top]; rfl
      rw [e, e', zero_mul]
    | coe s =>
      induction M' using EReal.rec with
      | bot => simp at h'
      | top =>
        have e : ∀ x : ℝ, wt (x : EReal) ⊤ = 0 := by intro x; unfold wt; rw [EReal.sub_top]; rfl
        rw [e, e, mul_zero]
      | coe s' =>
        have e : ∀ x y : ℝ, wt (x : EReal) (y : EReal) = Real.exp (x - y) := by
          intro x y; unfold wt; rw [← EReal.coe_sub]; rfl
        rw [e, e, e, ← Real.exp_add]
        ring_nf

/-- A score is at most the largest of the first `n` when it is one of them. -/
theorem le_top (z : ℕ → EReal) {t n : ℕ} (h : t < n) : z t ≤ top z n := le_sup (mem_range.2 h)

/-- The largest of more scores is larger. -/
theorem top_mono (z : ℕ → EReal) {a b : ℕ} (h : a ≤ b) : top z a ≤ top z b :=
  sup_mono (range_subset_range.2 h)

/-- The maximum after a tile. -/
theorem top_tile (z : ℕ → EReal) (a w : ℕ) :
    max (top z a) ((univ : Finset (Fin w)).sup fun c => z (a + c.val)) = top z (a + w) := by
  apply le_antisymm
  · refine max_le (top_mono z (Nat.le_add_right _ _)) (Finset.sup_le fun c _ => le_top z (by omega))
  · refine Finset.sup_le fun t ht => ?_
    have ht := mem_range.1 ht
    rcases Nat.lt_or_ge t a with h | h
    · exact (le_top z h).trans (le_max_left _ _)
    · refine le_trans ?_ (le_max_right _ _)
      have := le_sup (f := fun c : Fin w => z (a + c.val)) (mem_univ (⟨t - a, by omega⟩ : Fin w))
      simpa only [Nat.add_sub_cancel' h] using this

/-- The weighted sum of the first `n` values at the maximum of the first `n` scores. -/
def wsum (z : ℕ → EReal) (v : ℕ → ℝ) (n : ℕ) : ℝ := ∑ t ∈ range n, wt (z t) (top z n) * v t

/-- The weighted sum after a tile. -/
theorem wsum_tile (z : ℕ → EReal) (v : ℕ → ℝ) (a w : ℕ) :
    ((wsum z v a : ℝ) : EReal) * Ideal.exp (top z a - top z (a + w))
      + ∑ c : Fin w, Ideal.exp (z (a + c.val) - top z (a + w)) * ((v (a + c.val) : ℝ) : EReal)
      = ((wsum z v (a + w) : ℝ) : EReal) := by
  rw [exp_sub (top_mono z (Nat.le_add_right a w)), ← EReal.coe_mul]
  have h : ∀ c : Fin w, Ideal.exp (z (a + c.val) - top z (a + w)) * ((v (a + c.val) : ℝ) : EReal)
      = ((wt (z (a + c.val)) (top z (a + w)) * v (a + c.val) : ℝ) : EReal) := by
    intro c
    rw [exp_sub (le_top z (by omega)), ← EReal.coe_mul]
  rw [sum_congr rfl fun c _ => h c, ← Cert.Sb.coe_sum, ← EReal.coe_add,
    Cert.Sb.sum_tile (fun t => wt (z t) (top z (a + w)) * v t) a w]
  congr 1
  unfold wsum
  rw [sum_mul, range_eq_Ico, range_eq_Ico, ← sum_Ico_consecutive _ (Nat.zero_le a) (Nat.le_add_right a w)]
  congr 1
  refine sum_congr rfl fun t ht => ?_
  have ht := (mem_Ico.1 ht).2
  rw [← wt_mul (le_top z ht) (top_mono z (Nat.le_add_right a w))]
  ring

/-- The same for the sum of the weights. -/
theorem wsum_tile_one (z : ℕ → EReal) (a w : ℕ) :
    ((wsum z (fun _ => 1) a : ℝ) : EReal) * Ideal.exp (top z a - top z (a + w))
      + ∑ c : Fin w, Ideal.exp (z (a + c.val) - top z (a + w))
      = ((wsum z (fun _ => 1) (a + w) : ℝ) : EReal) := by
  rw [← wsum_tile z (fun _ => 1) a w]
  simp only [EReal.coe_one, mul_one]

/-- Masked scores do not change the maximum. -/
theorem top_tail (z : ℕ → EReal) {a n : ℕ} (h : a ≤ n) (hz : ∀ t, a ≤ t → z t = ⊥) : top z a = top z n := by
  apply le_antisymm (top_mono z h)
  refine Finset.sup_le fun t _ => ?_
  rcases Nat.lt_or_ge t a with h | h
  · exact le_top z h
  · rw [hz t h]; exact bot_le

/-- Masked scores do not change the weighted sum. -/
theorem wsum_tail (z : ℕ → EReal) (v : ℕ → ℝ) {a n : ℕ} (h : a ≤ n) (hz : ∀ t, a ≤ t → z t = ⊥) :
    wsum z v a = wsum z v n := by
  unfold wsum
  rw [← top_tail z h hz, range_eq_Ico, range_eq_Ico, ← sum_Ico_consecutive _ (Nat.zero_le a) h, left_eq_add]
  refine sum_eq_zero fun t ht => ?_
  rw [hz t (mem_Ico.1 ht).1, wt_bot, zero_mul]

/-! The difference of two attentions, normalised over the row -/

/-- The factor that the count of the row's entries stands for. -/
theorem count_bits : Ideal.ofBits .f32 0x43800000#32 = ((256 : ℝ) : EReal) := by
  simp [Ideal.ofBits, Ideal.ieee]
  rw [← EReal.coe_mul]
  norm_num

/-- The number added to the mean square is not `-∞`. -/
theorem eps_bits : ∃ r : ℝ, Ideal.ofBits .f32 0x358637BD#32 = (r : EReal) := by
  have h : Ideal.ofBits .f32 0x358637BD#32 = ((8796093 : ℝ) : EReal) * (((2 ^ 43)⁻¹ : ℝ) : EReal) := by
    simp [Ideal.ofBits, Ideal.ieee]
  exact ⟨_, h.trans (EReal.coe_mul _ _).symm⟩

/-- A row divided by the root of its mean square. -/
def rowNorm (x : Fin 256 → EReal) (e : Fin 256) : EReal :=
  x e * Ideal.rsqrt (Ideal.div (∑ j, x j * x j) (Ideal.ofBits .f32 0x43800000#32) + Ideal.ofBits .f32 0x358637BD#32)

/-- A row with an infinite entry is normalised to zero. -/
theorem rowNorm_inf (x : Fin 256 → EReal) (j : Fin 256) (h : x j = ⊤ ∨ x j = ⊥) (e : Fin 256) : rowNorm x e = 0 := by
  have hj : x j * x j = ⊤ := by rcases h with h | h <;> rw [h] <;> rfl
  have hn : ∀ i, 0 ≤ x i * x i := fun i => by
    induction x i using EReal.rec with
    | bot => exact _root_.le_top
    | top => exact _root_.le_top
    | coe r => rw [← EReal.coe_mul]; exact_mod_cast mul_self_nonneg r
  have hs : ∑ i, x i * x i = ⊤ := by
    rw [← top_le_iff, ← hj]
    exact single_le_sum (f := fun i => x i * x i) (fun i _ => hn i) (mem_univ j)
  obtain ⟨r, hr⟩ := eps_bits
  have hd : Ideal.div (⊤ : EReal) ((256 : ℝ) : EReal) = ⊤ := by
    rw [Ideal.div, if_neg (by norm_num), ← EReal.coe_inv, EReal.top_mul_coe_of_pos (by norm_num)]
  rw [rowNorm, hs, count_bits, hd, hr, EReal.top_add_coe]
  exact mul_zero _

/-- A row of zeros is normalised to zero. -/
theorem rowNorm_zero (x : Fin 256 → EReal) (h : ∀ j, x j = 0) (e : Fin 256) : rowNorm x e = 0 := by
  rw [rowNorm, h e, zero_mul]

/-- Whether an extended real is zero or infinite. -/
def Flat (x : EReal) : Prop := x = 0 ∨ x = ⊤ ∨ x = ⊥

/-- A row of zeros and infinities is normalised to zero. -/
theorem rowNorm_flat (x : Fin 256 → EReal) (h : ∀ j, Flat (x j)) (e : Fin 256) : rowNorm x e = 0 := by
  by_cases hz : ∀ j, x j = 0
  · exact rowNorm_zero x hz e
  · push Not at hz
    obtain ⟨j, hj⟩ := hz
    exact rowNorm_inf x j ((h j).resolve_left hj) e

/-- Sums of zeros and infinities are zero or infinite. -/
theorem flat_sum {ι : Type*} (s : Finset ι) (f : ι → EReal) (h : ∀ i, Flat (f i)) : Flat (∑ i ∈ s, f i) := by
  classical
  induction s using Finset.induction_on with
  | empty => exact Or.inl rfl
  | insert a s ha ih =>
    rw [sum_insert ha]
    rcases h a with h | h | h <;> rcases ih with i | i | i <;> rw [h, i] <;> unfold Flat <;> simp

/-- A real times an infinity is zero or infinite. -/
theorem flat_mul (r : ℝ) {c : EReal} (h : c = ⊤ ∨ c = ⊥) : Flat ((r : EReal) * c) := by
  rcases lt_trichotomy r 0 with hr | hr | hr <;> rcases h with rfl | rfl
  · exact Or.inr (Or.inr (EReal.coe_mul_top_of_neg hr))
  · exact Or.inr (Or.inl (EReal.coe_mul_bot_of_neg hr))
  · left; rw [hr, EReal.coe_zero, zero_mul]
  · left; rw [hr, EReal.coe_zero, zero_mul]
  · exact Or.inr (Or.inl (EReal.coe_mul_top_of_pos hr))
  · exact Or.inr (Or.inr (EReal.coe_mul_bot_of_pos hr))

/-- A quotient of reals by a real that is not zero. -/
theorem div_coe (a : ℝ) {b : ℝ} (hb : b ≠ 0) : Ideal.div (a : EReal) (b : EReal) = ((a * b⁻¹ : ℝ) : EReal) := by
  rw [Ideal.div, if_neg (by exact_mod_cast hb), ← EReal.coe_inv, ← EReal.coe_mul]

/-- Zero by zero. -/
theorem div_zero_zero : Ideal.div ((0 : ℝ) : EReal) ((0 : ℝ) : EReal) = ⊥ := by
  rw [Ideal.div, if_pos EReal.coe_zero, if_neg (by simp)]

/-- The difference of two attentions, and the attention with the difference of the weights, are normalised to the same
    row. Where the two differ, both are normalised to zero. -/
theorem row_eq {N : ℕ} (lam : ℝ) (u w : Fin N → ℝ) (hu : ∀ s, 0 ≤ u s) (hw : ∀ s, 0 ≤ w s) (v : Fin N → Fin 256 → ℝ)
    (e : Fin 256) :
    rowNorm (fun j => Ideal.div ((∑ s, u s * v s j : ℝ) : EReal) ((∑ s, u s : ℝ) : EReal)
        - (lam : EReal) * Ideal.div ((∑ s, w s * v s j : ℝ) : EReal) ((∑ s, w s : ℝ) : EReal)) e
      = rowNorm (fun j => ∑ s, ((v s j : ℝ) : EReal) * (Ideal.div (u s : EReal) ((∑ s, u s : ℝ) : EReal)
        - (lam : EReal) * Ideal.div (w s : EReal) ((∑ s, w s : ℝ) : EReal))) e := by
  by_cases hU : ∑ s, u s = 0
  · have h0 : ∀ s, u s = 0 := fun s => (sum_eq_zero_iff_of_nonneg fun s _ => hu s).1 hU s (mem_univ s)
    simp only [h0, zero_mul, sum_const_zero, div_zero_zero, EReal.bot_sub]
    rw [rowNorm_inf _ e (Or.inr rfl), rowNorm_flat]
    exact fun j => flat_sum _ _ fun s => flat_mul _ (Or.inr rfl)
  · by_cases hW : ∑ s, w s = 0
    · have h0 : ∀ s, w s = 0 := fun s => (sum_eq_zero_iff_of_nonneg fun s _ => hw s).1 hW s (mem_univ s)
      simp only [h0, zero_mul, sum_const_zero, div_zero_zero, div_coe _ hU]
      rcases eq_or_ne lam 0 with rfl | hl
      · simp only [EReal.coe_zero, zero_mul, sub_zero]
        refine congrFun (congrArg rowNorm (funext fun j => ?_)) e
        simp only [← EReal.coe_mul, ← Cert.Sb.coe_sum]
        rw [sum_mul]
        congr 1
        exact sum_congr rfl fun s _ => by ring
      · have hc : (lam : EReal) * ⊥ = ⊤ ∨ (lam : EReal) * ⊥ = ⊥ := by
          rcases lt_or_gt_of_ne hl with h | h
          · exact Or.inl (EReal.coe_mul_bot_of_neg h)
          · exact Or.inr (EReal.coe_mul_bot_of_pos h)
        have hs : ∀ a : ℝ, (a : EReal) - (lam : EReal) * ⊥ = ⊤ ∨ (a : EReal) - (lam : EReal) * ⊥ = ⊥ := by
          intro a
          rcases hc with h | h <;> rw [h]
          · exact Or.inr (EReal.sub_top _)
          · exact Or.inl (EReal.coe_sub_bot a)
        rw [rowNorm_inf _ e (hs _), rowNorm_flat]
        exact fun j => flat_sum _ _ fun s => flat_mul _ (hs _)
    · refine congrFun (congrArg rowNorm (funext fun j => ?_)) e
      simp only [div_coe _ hU, div_coe _ hW, ← EReal.coe_mul, ← EReal.coe_sub, ← Cert.Sb.coe_sum]
      rw [sum_mul, sum_mul, mul_sum, ← sum_sub_distrib]
      congr 1
      exact sum_congr rfl fun s _ => by ring

end Cert.Df

end
-- ==== Proof.Df.Tile.lean ====
/-
  One trip of the kernel's loop over the extended reals, entry by entry.
-/
module

public import proofs.«01_k».proof.Proof.Df.Trip
public import proofs.«01_k».proof.Proof.Df.Rows
public import Idealize.ShloMosaic.Lib.Pointwise
public import Idealize.ShloMosaic.Lib.WordCmp
public import Idealize.ShloMosaic.Lib.WordArith

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

/-- Trip `n` reads tile `n` of the sequence block. -/
theorem off_eq : ∀ (i : grid0.Coords) (n : Fin (k0_t1_loop i).trips), k0_off2 i n = ![n.val * 256, 0] := by decide +kernel

/-- A tile's loop makes one trip per tile up to its own. -/
theorem trips_eq (i : grid0.Coords) : (k0_t1_loop i).trips = (i 2).val + 1 := trips_first (i 2)

/-- An entry of the rows a trip reads. -/
theorem rowsAt_apply (x : FVec Ideal S2048x256 .bf16) (i : grid0.Coords) (n : Fin (k0_t1_loop i).trips) (r d : Fin 256)
    (h : n.val * 256 + r.val < 2048) :
    rowsAt (F := Ideal) x i n (ix2 r d) = x (ix2 ⟨n.val * 256 + r.val, h⟩ d) := by
  have e := off_eq i n
  unfold rowsAt
  pointwise
  simp only [e, Matrix.cons_val_zero, Matrix.cons_val_one, zero_add]

/-- The sum of two words that stand for naturals. -/
theorem addi_ofNat (x y : ℕ) : IntOp.addi (BitVec.ofNat 32 x) (BitVec.ofNat 32 y) = BitVec.ofNat 32 (x + y) := by
  simp [IntOp.addi, BitVec.ofNat_add]

/-- Where the tiles of queries start. -/
theorem tile_q : ∀ a : Fin 8, Scalar.muli (BitVec.ofNat 32 a.val) 256#32 = BitVec.ofNat 32 (a.val * 256) := by decide

/-- Where the tiles of keys start. -/
theorem tile_k : ∀ n : Fin 8, Scalar.muli (Scf.iv 0#32 1#32 n.val) 256#32 = BitVec.ofNat 32 (n.val * 256) := by decide

/-- The bit that keeps key `s` for query `p`. -/
theorem keep_bit {p s : ℕ} (hp : p < 2048) (hs : s < 2048) :
    IntOp.cmpi .sge (IntOp.subi (BitVec.ofNat 32 p) (BitVec.ofNat 32 s)) 0#32 = BitVec.ofBool (decide (s ≤ p)) := by
  have ep := WordArith.toInt_ofNat_small p (by omega)
  have es := WordArith.toInt_ofNat_small s (by omega)
  rw [WordCmp.cmpi_sge_eq, WordArith.toInt_subi_of_nonneg _ _ (by omega) (by omega), ep, es]
  congr 1
  refine decide_eq_decide.2 ?_
  show (0 : ℤ) ≤ _ ↔ _
  omega

/-- The constant of the mask and of the first maximum. -/
theorem neg_named : Named.named (F := Ideal) (φ := .f32) κ "neg" 0xF149F2CA#32 = (⊥ : EReal) :=
  IdealRules.named_const.ideal_named_scalar κ "neg" (φ := .f32) _ ⊥ rfl

/-- The bit pattern of `-∞`. -/
theorem ninf_bits : Ideal.ofBits .f32 0xFF800000#32 = ⊥ := by
  simp [Ideal.ofBits, Ideal.ieee]

/-- The bit pattern of zero. -/
theorem zero_bits : Ideal.ofBits .f32 0x00000000#32 = 0 := by
  simp [Ideal.ofBits, Ideal.ieee]

/-- The distance of key `s` from query `p`, as a float. -/
def dist (p s : ℕ) : EReal := FloatOps.sitofp (F := Ideal) .f32 (IntOp.subi (BitVec.ofNat 32 p) (BitVec.ofNat 32 s))

/-- The columns of the first half of a head. -/
abbrev lo (x : Fin 128) : Fin 256 := ⟨x.val, by omega⟩

/-- The columns of the second half of a head. -/
abbrev hi (x : Fin 128) : Fin 256 := ⟨128 + x.val, by omega⟩

/-- The score of query row `r`, at position `p`, against row `c` of a tile of keys, at position `s`, over one half of the head;
    `-∞` for the keys after the query. -/
def tileScore (sl : EReal) (half : Fin 128 → Fin 256) (q k : FVec Ideal S256x256 .bf16) (p s : ℕ) (r c : Fin 256) : EReal :=
  if s ≤ p then (∑ x : Fin 128, q (ix2 r (half x)) * k (ix2 c (half x))) * Ideal.ofBits .f32 0x3DB504F3#32 - sl * dist p s else ⊥

variable (i : grid0.Coords) (sl : EReal) (q : FVec Ideal S256x256 .bf16) (k v : FVec Ideal S2048x256 .bf16)
  (n : Fin (k0_t1_loop i).trips) (acc : Carry Ideal) (r d : Fin 256)

/-- The scores of a trip. -/
def scoreAt (half : Fin 128 → Fin 256) (c : Fin 256) : EReal :=
  tileScore sl half q (rowsAt (F := Ideal) k i n) (r.val + (i 2).val * 256) (c.val + n.val * 256) r c

/-- A trip's number is below 8. -/
theorem trip_lt : n.val < 8 := by
  have h := n.isLt
  have e := trips_eq i
  have h' : (i 2).val < 8 := (i 2).isLt
  omega

/-- A row of the masked scores of the first half. -/
theorem score0_apply (c : Fin 256) :
    k0_pay5 (F := Ideal) i (BitVec.ofNat 32 (i 2).val) q rowIx colIx sl 0#32 1#32 n (rowsAt k i n) (ix2 r c)
      = scoreAt i sl q k n r lo c := by
  have hn := trip_lt i n
  have h' : (i 2).val < 8 := (i 2).isLt
  pointwise [k0_pay5, k0_pay4, k0_pay3, k0_pay2]
  simp only [tile_q (i 2), tile_k ⟨n.val, hn⟩, addi_ofNat]
  rw [keep_bit (by omega) (by omega), neg_named]
  simp only [WordCmp.select_ofBool, decide_eq_true_eq]
  rfl

/-- A row of the masked scores of the second half. -/
theorem score1_apply (c : Fin 256) :
    k0_pay25 (F := Ideal) (k0_pay3 i (BitVec.ofNat 32 (i 2).val) rowIx colIx sl 0#32 1#32 n)
      (k0_pay4 i (BitVec.ofNat 32 (i 2).val) rowIx colIx 0#32 1#32 n) (k0_pay11 q (rowsAt k i n)) (ix2 r c)
      = scoreAt i sl q k n r hi c := by
  have hn := trip_lt i n
  have h' : (i 2).val < 8 := (i 2).isLt
  pointwise [k0_pay25, k0_pay11, k0_pay4, k0_pay3, k0_pay2]
  simp only [tile_q (i 2), tile_k ⟨n.val, hn⟩, addi_ofNat]
  rw [keep_bit (by omega) (by omega), neg_named]
  simp only [WordCmp.select_ofBool, decide_eq_true_eq]
  rfl

/-- The maximum that a trip carries out, first attention. -/
theorem max0_trip : (tripVal (F := Ideal) i sl q k v n acc).1 (ix2 r 0)
    = max (acc.1 (ix2 r 0)) ((Finset.univ : Finset (Fin 256)).sup fun c => scoreAt i sl q k n r lo c) := by
  unfold tripVal
  dsimp only
  pointwise [k0_pay6]
  simp only [score0_apply, ninf_bits]
  rfl

/-- The maximum that a trip carries out, second attention. -/
theorem max1_trip : (tripVal (F := Ideal) i sl q k v n acc).2.2.2.1 (ix2 r 0)
    = max (acc.2.2.2.1 (ix2 r 0)) ((Finset.univ : Finset (Fin 256)).sup fun c => scoreAt i sl q k n r hi c) := by
  unfold tripVal
  dsimp only
  pointwise [k0_pay26]
  simp only [score1_apply, ninf_bits]
  rfl

/-- The sum of weights that a trip carries out, first attention. -/
theorem sum0_trip : (tripVal (F := Ideal) i sl q k v n acc).2.1 (ix2 r 0)
    = acc.2.1 (ix2 r 0) * Ideal.exp (acc.1 (ix2 r 0) - (tripVal (F := Ideal) i sl q k v n acc).1 (ix2 r 0))
      + ∑ c : Fin 256, Ideal.exp (scoreAt i sl q k n r lo c - (tripVal (F := Ideal) i sl q k v n acc).1 (ix2 r 0)) := by
  unfold tripVal
  dsimp only
  pointwise [k0_pay9, k0_pay8, k0_pay7]
  simp only [score0_apply, zero_bits, zero_add]

/-- The sum of weights that a trip carries out, second attention. -/
theorem sum1_trip : (tripVal (F := Ideal) i sl q k v n acc).2.2.2.2.1 (ix2 r 0)
    = acc.2.2.2.2.1 (ix2 r 0) * Ideal.exp (acc.2.2.2.1 (ix2 r 0) - (tripVal (F := Ideal) i sl q k v n acc).2.2.2.1 (ix2 r 0))
      + ∑ c : Fin 256, Ideal.exp (scoreAt i sl q k n r hi c - (tripVal (F := Ideal) i sl q k v n acc).2.2.2.1 (ix2 r 0)) := by
  unfold tripVal
  dsimp only
  pointwise [k0_pay29, k0_pay28, k0_pay27]
  simp only [score1_apply, zero_bits, zero_add]

/-- The weighted sum that a trip carries out, first attention. -/
theorem acc0_trip : (tripVal (F := Ideal) i sl q k v n acc).2.2.1 (ix2 r d)
    = acc.2.2.1 (ix2 r d) * Ideal.exp (acc.1 (ix2 r 0) - (tripVal (F := Ideal) i sl q k v n acc).1 (ix2 r 0))
      + ∑ c : Fin 256, Ideal.exp (scoreAt i sl q k n r lo c - (tripVal (F := Ideal) i sl q k v n acc).1 (ix2 r 0))
        * rowsAt (F := Ideal) v i n (ix2 c d) := by
  unfold tripVal
  dsimp only
  pointwise [k0_pay10, k0_pay8, k0_pay7]
  simp only [score0_apply, zero_bits, zero_add]

/-- The weighted sum that a trip carries out, second attention. -/
theorem acc1_trip : (tripVal (F := Ideal) i sl q k v n acc).2.2.2.2.2 (ix2 r d)
    = acc.2.2.2.2.2 (ix2 r d) * Ideal.exp (acc.2.2.2.1 (ix2 r 0) - (tripVal (F := Ideal) i sl q k v n acc).2.2.2.1 (ix2 r 0))
      + ∑ c : Fin 256, Ideal.exp (scoreAt i sl q k n r hi c - (tripVal (F := Ideal) i sl q k v n acc).2.2.2.1 (ix2 r 0))
        * rowsAt (F := Ideal) v i n (ix2 c d) := by
  unfold tripVal
  dsimp only
  pointwise [k0_pay30, k0_pay28, k0_pay27]
  simp only [score1_apply, zero_bits, zero_add]

/-- The block stored, from the values after the last trip. -/
theorem last_apply (lam : EReal) (l0 l1 : FVec Ideal S256x1 .f32) (a0 a1 : FVec Ideal S256x256 .f32) (g : FVec Ideal S1x256 .f32) :
    k0_pay1 (F := Ideal) (k0_pay37 lam l0 a0 l1 a1 g) (ix2 r d)
      = Cert.Df.rowNorm (fun e => Ideal.div (a0 (ix2 r e)) (l0 (ix2 r 0)) - lam * Ideal.div (a1 (ix2 r e)) (l1 (ix2 r 0))) d
        * g (ix2 0 d) * Ideal.ofBits .f32 0x3F4CCCCD#32 := by
  pointwise [k0_pay1, k0_pay37]
  rfl

end Cert.Kernel5Ideal.Value

end
-- ==== Proof.Df.Sweep.lean ====
/-
  What the kernel's loop carries after each trip, for one row of queries.
-/
module

public import proofs.«01_k».proof.Proof.Df.Tile
public import proofs.«01_k».proof.Proof.Df.Rows
public import Idealize.ShloMosaic.Lib.Pointwise
public import Idealize.ShloMosaic.Lib.WordCmp
public import Idealize.ShloMosaic.Lib.WordArith

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Finset

/-- The score of query row `r` of tile `a` against the key at position `s`, over one half of the head; `-∞` for the keys after
    the query. -/
def rowScore (a : ℕ) (sl : EReal) (half : Fin 128 → Fin 256) (q : FVec Ideal S256x256 .bf16) (k : FVec Ideal S2048x256 .bf16)
    (r : Fin 256) (s : Fin 2048) : EReal :=
  if s.val ≤ a * 256 + r.val then
    (∑ x : Fin 128, q (ix2 r (half x)) * k (ix2 s (half x))) * Ideal.ofBits .f32 0x3DB504F3#32 - sl * dist (a * 256 + r.val) s.val
  else ⊥

/-- The scores of a trip are those of its tile of keys. -/
theorem scoreAt_eq (i : grid0.Coords) (sl : EReal) (half : Fin 128 → Fin 256) (q : FVec Ideal S256x256 .bf16)
    (k : FVec Ideal S2048x256 .bf16) (n : Fin (k0_t1_loop i).trips) (r c : Fin 256) (z : ℕ → EReal)
    (hz : ∀ s : Fin 2048, z s.val = rowScore (i 2).val sl half q k r s) :
    scoreAt i sl q k n r half c = z (n.val * 256 + c.val) := by
  have hn := trip_lt i n
  have hc : n.val * 256 + c.val < 2048 := by omega
  have h := hz ⟨n.val * 256 + c.val, hc⟩
  rw [h]
  unfold scoreAt tileScore rowScore
  rw [Nat.add_comm r.val, Nat.add_comm c.val]
  simp only [rowsAt_apply k i n c _ hc]

/-- What is carried for a row: the maximum, the sum of weights and the weighted sums of the first `n` keys. -/
def Holds (z : ℕ → EReal) (vr : ℕ → Fin 256 → ℝ) (n : ℕ) (r : Fin 256) (M L : FVec Ideal S256x1 .f32) (A : FVec Ideal S256x256 .f32) : Prop :=
  M (ix2 r 0) = Cert.Df.top z n ∧ L (ix2 r 0) = ((Cert.Df.wsum z (fun _ => 1) n : ℝ) : EReal)
    ∧ ∀ d, A (ix2 r d) = ((Cert.Df.wsum z (fun t => vr t d) n : ℝ) : EReal)

/-- What the loop starts from holds of no keys. -/
theorem holds_start (z : ℕ → EReal) (vr : ℕ → Fin 256 → ℝ) (r : Fin 256) :
    Holds z vr 0 r (k0_pay22 (F := Ideal)) (k0_pay23 (F := Ideal)) (k0_pay24 (F := Ideal)) := by
  have h0 : ∀ w : ℕ → ℝ, ((Cert.Df.wsum z w 0 : ℝ) : EReal) = 0 := by
    intro w; unfold Cert.Df.wsum; rw [range_zero, sum_empty, EReal.coe_zero]
  refine ⟨?_, ?_, fun d => ?_⟩
  · exact neg_named
  · rw [h0]; exact zero_bits
  · rw [h0]; exact zero_bits

/-- A trip carries the statement over to the keys of its tile. -/
theorem holds_step (z : ℕ → EReal) (vr : ℕ → Fin 256 → ℝ) (n : ℕ) (r : Fin 256) (M L M' L' : FVec Ideal S256x1 .f32)
    (A A' W : FVec Ideal S256x256 .f32) (sc : Fin 256 → EReal) (h : Holds z vr (n * 256) r M L A)
    (hs : ∀ c : Fin 256, sc c = z (n * 256 + c.val)) (hW : ∀ c d : Fin 256, W (ix2 c d) = ((vr (n * 256 + c.val) d : ℝ) : EReal))
    (hM : M' (ix2 r 0) = max (M (ix2 r 0)) ((univ : Finset (Fin 256)).sup sc))
    (hL : L' (ix2 r 0) = L (ix2 r 0) * Ideal.exp (M (ix2 r 0) - M' (ix2 r 0)) + ∑ c : Fin 256, Ideal.exp (sc c - M' (ix2 r 0)))
    (hA : ∀ d, A' (ix2 r d) = A (ix2 r d) * Ideal.exp (M (ix2 r 0) - M' (ix2 r 0))
      + ∑ c : Fin 256, Ideal.exp (sc c - M' (ix2 r 0)) * W (ix2 c d)) :
    Holds z vr ((n + 1) * 256) r M' L' A' := by
  obtain ⟨h1, h2, h3⟩ := h
  have e : (n + 1) * 256 = n * 256 + 256 := by omega
  have hM' : M' (ix2 r 0) = Cert.Df.top z (n * 256 + 256) := by
    rw [hM, h1, ← Cert.Df.top_tile]
    exact congrArg _ (sup_congr rfl fun c _ => hs c)
  rw [e]
  refine ⟨hM', ?_, fun d => ?_⟩
  · rw [hL, hM', h1, h2, ← Cert.Df.wsum_tile_one]
    simp only [hs]
  · rw [hA, hM', h1, h3, ← Cert.Df.wsum_tile]
    simp only [hs, hW]

/-- After `n` trips both attentions hold of the keys of the first `n` tiles. -/
theorem sweep (i : grid0.Coords) (sl : EReal) (q : FVec Ideal S256x256 .bf16) (k v : FVec Ideal S2048x256 .bf16) (r : Fin 256)
    (z0 z1 : ℕ → EReal) (vr : ℕ → Fin 256 → ℝ) (h0 : ∀ s : Fin 2048, z0 s.val = rowScore (i 2).val sl lo q k r s)
    (h1 : ∀ s : Fin 2048, z1 s.val = rowScore (i 2).val sl hi q k r s)
    (hv : ∀ (s : Fin 2048) (d : Fin 256), v (ix2 s d) = ((vr s.val d : ℝ) : EReal)) : ∀ n, n ≤ (i 2).val + 1 →
      Holds z0 vr (n * 256) r (carried (F := Ideal) i sl q k v n).1 (carried (F := Ideal) i sl q k v n).2.1
        (carried (F := Ideal) i sl q k v n).2.2.1
      ∧ Holds z1 vr (n * 256) r (carried (F := Ideal) i sl q k v n).2.2.2.1 (carried (F := Ideal) i sl q k v n).2.2.2.2.1
        (carried (F := Ideal) i sl q k v n).2.2.2.2.2 := by
  intro n
  induction n with
  | zero =>
    intro _
    rw [Nat.zero_mul]
    exact ⟨holds_start z0 vr r, holds_start z1 vr r⟩
  | succ n ih =>
    intro hn
    obtain ⟨i0, i1⟩ := ih (by omega)
    have ht : n < (k0_t1_loop i).trips := by rw [trips_eq]; omega
    have e : carried (F := Ideal) i sl q k v (n + 1) = tripVal i sl q k v ⟨n, ht⟩ (carried i sl q k v n) := by
      conv_lhs => unfold carried
      rw [dif_pos ht]
    have hW : ∀ c d : Fin 256, rowsAt (F := Ideal) v i ⟨n, ht⟩ (ix2 c d) = ((vr (n * 256 + c.val) d : ℝ) : EReal) := by
      intro c d
      have h8 := trip_lt i ⟨n, ht⟩
      dsimp only at h8
      have hc : n * 256 + c.val < 2048 := by omega
      rw [rowsAt_apply v i ⟨n, ht⟩ c d hc, hv]
    rw [e]
    exact ⟨holds_step z0 vr n r _ _ _ _ _ _ _ _ i0 (fun c => scoreAt_eq i sl lo q k ⟨n, ht⟩ r c z0 h0) hW
        (max0_trip ..) (sum0_trip ..) (fun d => acc0_trip ..),
      holds_step z1 vr n r _ _ _ _ _ _ _ _ i1 (fun c => scoreAt_eq i sl hi q k ⟨n, ht⟩ r c z1 h1) hW
        (max1_trip ..) (sum1_trip ..) (fun d => acc1_trip ..)⟩

/-- The block a grid point leaves, in the row of query `r`: the normalised difference of the two attentions over all keys. -/
theorem row_value (i : grid0.Coords) (lam : ℝ) (sl : EReal) (q : FVec Ideal S256x256 .bf16) (k v : FVec Ideal S2048x256 .bf16)
    (g : FVec Ideal S1x256 .f32) (r : Fin 256)
    (z0 z1 : ℕ → EReal) (vr : ℕ → Fin 256 → ℝ) (h0 : ∀ s : Fin 2048, z0 s.val = rowScore (i 2).val sl lo q k r s)
    (h1 : ∀ s : Fin 2048, z1 s.val = rowScore (i 2).val sl hi q k r s)
    (hv : ∀ (s : Fin 2048) (d : Fin 256), v (ix2 s d) = ((vr s.val d : ℝ) : EReal))
    (t0 : ∀ t, (i 2).val * 256 + r.val < t → z0 t = ⊥) (t1 : ∀ t, (i 2).val * 256 + r.val < t → z1 t = ⊥) (d : Fin 256) :
    k0_pay1 (F := Ideal) (k0_pay37 (lam : EReal) (carried (F := Ideal) i sl q k v ((i 2).val + 1)).2.1
        (carried (F := Ideal) i sl q k v ((i 2).val + 1)).2.2.1 (carried (F := Ideal) i sl q k v ((i 2).val + 1)).2.2.2.2.1
        (carried (F := Ideal) i sl q k v ((i 2).val + 1)).2.2.2.2.2 g) (ix2 r d)
      = Cert.Df.rowNorm (fun e => ∑ s : Fin 2048, v (ix2 s e) *
          (Ideal.div (Ideal.exp (z0 s.val - Cert.Df.top z0 2048)) (∑ s : Fin 2048, Ideal.exp (z0 s.val - Cert.Df.top z0 2048))
          - (lam : EReal) * Ideal.div (Ideal.exp (z1 s.val - Cert.Df.top z1 2048))
              (∑ s : Fin 2048, Ideal.exp (z1 s.val - Cert.Df.top z1 2048)))) d
        * g (ix2 0 d) * Ideal.ofBits .f32 0x3F4CCCCD#32 := by
  have ha : (i 2).val < 8 := (i 2).isLt
  obtain ⟨⟨-, l0, a0⟩, ⟨-, l1, a1⟩⟩ := sweep i sl q k v r z0 z1 vr h0 h1 hv ((i 2).val + 1) le_rfl
  have tail : ∀ z : ℕ → EReal, (∀ t, (i 2).val * 256 + r.val < t → z t = ⊥) → ∀ w : ℕ → ℝ,
      Cert.Df.wsum z w (((i 2).val + 1) * 256) = ∑ s : Fin 2048, Cert.Df.wt (z s.val) (Cert.Df.top z 2048) * w s.val := by
    intro z t w
    rw [Cert.Df.wsum_tail z w (show ((i 2).val + 1) * 256 ≤ 2048 by omega) fun s hs => t s (by omega)]
    exact (Fin.sum_univ_eq_sum_range (fun t => Cert.Df.wt (z t) (Cert.Df.top z 2048) * w t) 2048).symm
  have ex : ∀ (z : ℕ → EReal) (s : Fin 2048), Ideal.exp (z s.val - Cert.Df.top z 2048)
      = ((Cert.Df.wt (z s.val) (Cert.Df.top z 2048) : ℝ) : EReal) := fun z s => Cert.Df.exp_sub (Cert.Df.le_top z s.isLt)
  rw [last_apply, l0, l1]
  simp only [a0, a1, tail z0 t0, tail z1 t1, mul_one, ex, hv, ← Cert.Sb.coe_sum]
  rw [Cert.Df.row_eq lam _ _ (fun s => Cert.Df.wt_nonneg (Cert.Df.le_top z0 s.isLt))
    (fun s => Cert.Df.wt_nonneg (Cert.Df.le_top z1 s.isLt)) (fun s e => vr s.val e) d]

end Cert.Kernel5Ideal.Value

end
-- ==== Proof.Df.Reference.lean ====
/-
  The reference's result, named part by part.
-/
module

public import proofs.«01_k».proof.Proof.Gen.Reference5Ideal.Run
public import proofs.«01_k».proof.Proof.Df.Sweep
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The positions down the rows. -/
abbrev queries : IVec S2048x2048 32 :=
  broadcastInDim S2048x2048 ![0, 1] bcast_S2048x1_S2048x2048_0_1 (broadcastInDim S2048x1 ![0] bcast_S2048_S2048x1_0 (iotaInDim S2048 32 0))

/-- The positions along the columns. -/
abbrev keys : IVec S2048x2048 32 :=
  broadcastInDim S2048x2048 ![0, 1] bcast_S1x2048_S2048x2048_0_1 (broadcastInDim S1x2048 ![1] bcast_S2048_S1x2048_1 (iotaInDim S2048 32 0))

/-- The heads' slopes. -/
abbrev slopes : FVec Ideal S4 .f32 := fun i => FloatOps.ofBits .f32 (lit0 (S4.rowMajor i))

/-- The slope of each head times the distance of each key from each query. -/
def bias : FVec Ideal S8x4x2x2048x2048 .f32 :=
  broadcastInDim S8x4x2x2048x2048 ![0, 1, 2, 3, 4] bcast_S1x4x1x2048x2048_S8x4x2x2048x2048_0_1_2_3_4
    (mulf (broadcastInDim S1x4x1x2048x2048 ![0, 1, 2, 3, 4] bcast_S1x4x1x1x1_S1x4x1x2048x2048_0_1_2_3_4
        (broadcastInDim S1x4x1x1x1 ![1] bcast_S4_S1x4x1x1x1_1 slopes))
      (broadcastInDim S1x4x1x2048x2048 ![0, 1, 2, 3, 4] bcast_S1x1x1x2048x2048_S1x4x1x2048x2048_0_1_2_3_4
        (broadcastInDim S1x1x1x2048x2048 ![3, 4] bcast_S2048x2048_S1x1x1x2048x2048_3_4 (sitofp .f32 (subi queries keys)))))

/-- The scores of every query against every key, per batch, head and half; `-∞` for the keys after the query. -/
def scores (q k : FVec Ideal S16384x1024 .bf16) : FVec Ideal S8x4x2x2048x2048 .f32 :=
  select (broadcastInDim S8x4x2x2048x2048 ![3, 4] bcast_S2048x2048_S8x4x2x2048x2048_3_4 (cmpi .sle keys queries))
    (subf (mulf (Host.dotGeneral dot_S8x2048x4x2x128_S8x2048x4x2x128_S8x4x2x2048x2048_4_4_1_1_023_023 none
        (shapeCast S8x2048x4x2x128 (extf .f32 q bitsLt_bf16_f32 : FVec Ideal S16384x1024 .f32) shapeCasts_S16384x1024_S8x2048x4x2x128)
        (shapeCast S8x2048x4x2x128 (extf .f32 k bitsLt_bf16_f32 : FVec Ideal S16384x1024 .f32) shapeCasts_S16384x1024_S8x2048x4x2x128))
      (broadcastInDim S8x4x2x2048x2048 ![] bcast_S_S8x4x2x2048x2048 (constant S_ .f32 0x3DB504F3#32))) bias)
    (broadcastInDim S8x4x2x2048x2048 ![] bcast_S_S8x4x2x2048x2048 (id (constant S_ .f32 0xFF800000#32)))

/-- The largest score of every query. -/
def largest (z : FVec Ideal S8x4x2x2048x2048 .f32) : FVec Ideal S8x4x2x2048 .f32 :=
  maximumf (broadcastInDim S8x4x2x2048 ![] bcast_S_S8x4x2x2048 (constant S_ .f32 0xFF800000#32))
    (Host.reduce FloatOps.maximumf z (constant S_ .f32 0xFF800000#32) reducesTo_S8x4x2x2048x2048_S8x4x2x2048_d4 h_S_)

/-- A number for every query, copied to every key. -/
abbrev spread (x : FVec Ideal S8x4x2x2048 .f32) : FVec Ideal S8x4x2x2048x2048 .f32 :=
  broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3 x)

/-- The exponentials of the scores below the largest. -/
def raised (z : FVec Ideal S8x4x2x2048x2048 .f32) : FVec Ideal S8x4x2x2048x2048 .f32 :=
  Host.exp (subf z (spread (largest z)))

/-- The exponentials divided by their sum. -/
def softmax (z : FVec Ideal S8x4x2x2048x2048 .f32) : FVec Ideal S8x4x2x2048x2048 .f32 :=
  Host.divf (raised z) (spread (Host.reduceAdd (raised z) (constant S_ .f32 0x00000000#32)
    reducesTo_S8x4x2x2048x2048_S8x4x2x2048_d4 h_S_))

/-- The weights of the first half less lambda times those of the second. -/
def weights (lam : FVec Ideal S1 .f32) (p : FVec Ideal S8x4x2x2048x2048 .f32) : FVec Ideal S8x4x2048x2048 .f32 :=
  subf (shapeCast S8x4x2048x2048 (extractStridedSlice S8x4x1x2048x2048 ![0, 0, 0, 0, 0] p
      slices_S8x4x2x2048x2048_S8x4x1x2048x2048_0_0_0_0_0) shapeCasts_S8x4x1x2048x2048_S8x4x2048x2048)
    (mulf (broadcastInDim S8x4x2048x2048 ![] bcast_S_S8x4x2048x2048 (shapeCast S_ lam shapeCasts_S1_S_))
      (shapeCast S8x4x2048x2048 (extractStridedSlice S8x4x1x2048x2048 ![0, 0, 1, 0, 0] p
        slices_S8x4x2x2048x2048_S8x4x1x2048x2048_0_0_1_0_0) shapeCasts_S8x4x1x2048x2048_S8x4x2048x2048))

/-- The weighted sum of the values. -/
def attend (v : FVec Ideal S16384x1024 .bf16) (w : FVec Ideal S8x4x2048x2048 .f32) : FVec Ideal S8x2048x4x256 .f32 :=
  transpose S8x2048x4x256 [0, 3, 1, 2]
    (Host.dotGeneral dot_S8x2048x4x256_S8x4x2048x2048_S8x4x256x2048_1_3_3_2_02_01 none
      (shapeCast S8x2048x4x256 (extf .f32 v bitsLt_bf16_f32 : FVec Ideal S16384x1024 .f32) shapeCasts_S16384x1024_S8x2048x4x256) w)
    transposes_S8x4x256x2048_S8x2048x4x256_0_3_1_2

/-- Each head's row divided by the root of its mean square, scaled, and laid out as the result. -/
def normalised (g : FVec Ideal S256 .f32) (o : FVec Ideal S8x2048x4x256 .f32) : FVec Ideal S16384x1024 .bf16 :=
  truncf .bf16 (shapeCast S16384x1024 (mulf (mulf (mulf o
    (broadcastInDim S8x2048x4x256 ![0, 1, 2, 3] bcast_S8x2048x4x1_S8x2048x4x256_0_1_2_3 (Host.rsqrt (addf (Host.divf
      (broadcastInDim S8x2048x4x1 ![0, 1, 2] bcast_S8x2048x4_S8x2048x4x1_0_1_2
        (Host.reduceAdd (mulf o o) (constant S_ .f32 0x00000000#32) reducesTo_S8x2048x4x256_S8x2048x4_d3 h_S_))
      (broadcastInDim S8x2048x4x1 ![] bcast_S_S8x2048x4x1 (constant S_ .f32 0x43800000#32)))
      (broadcastInDim S8x2048x4x1 ![] bcast_S_S8x2048x4x1 (constant S_ .f32 0x358637BD#32))))))
    (broadcastInDim S8x2048x4x256 ![0, 1, 2, 3] bcast_S1x1x1x256_S8x2048x4x256_0_1_2_3
      (broadcastInDim S1x1x1x256 ![3] bcast_S256_S1x1x1x256_3 g)))
    (broadcastInDim S8x2048x4x256 ![] bcast_S_S8x2048x4x256 (constant S_ .f32 0x3F4CCCCD#32)))
    shapeCasts_S8x2048x4x256_S16384x1024 : FVec Ideal S16384x1024 .f32) bitsLt_bf16_f32

/-- The reference's result, from its five arguments. -/
def whole (lam : FVec Ideal S1 .f32) (q k v : FVec Ideal S16384x1024 .bf16) (g : FVec Ideal S256 .f32) : FVec Ideal S16384x1024 .bf16 :=
  normalised g (attend v (weights lam (softmax (scores q k))))

/-- The reference's result is the normalised attention of its arguments. -/
theorem res_eq (m : (ℓ : Loc nD τ sig) → Buf (Elt Ideal) ℓ) (c : Dev nD) :
    res_main_v66 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v66
  rfl

end Cert.Reference5Ideal.Value

end
-- ==== Proof.Df.Scores.lean ====
/-
  An entry of the reference's scores.
-/
module

public import proofs.«01_k».proof.Proof.Df.Reference
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- An entry of the bias: the head's slope times the distance. -/
theorem bias_apply (b : Fin 8) (h : Fin 4) (j : Fin 2) (p s : Fin 2048) :
    bias (ix5 b h j p s) = slopes (ix1 h) * Cert.Kernel5Ideal.Value.dist p.val s.val := by
  pointwise [bias]
  rfl

/-- An entry of the scores. -/
theorem scores_apply (q k : FVec Ideal S16384x1024 .bf16) (b : Fin 8) (h : Fin 4) (j : Fin 2) (p s : Fin 2048) :
    scores q k (ix5 b h j p s) = if s.val ≤ p.val then
      (∑ x : Fin 128, q (ix2 ⟨b.val * 2048 + p.val, by omega⟩ ⟨h.val * 256 + (j.val * 128 + x.val), by omega⟩)
        * k (ix2 ⟨b.val * 2048 + s.val, by omega⟩ ⟨h.val * 256 + (j.val * 128 + x.val), by omega⟩)) * Ideal.ofBits .f32 0x3DB504F3#32
        - slopes (ix1 h) * Cert.Kernel5Ideal.Value.dist p.val s.val else ⊥ := by
  pointwise [scores]
  rw [bias_apply]
  simp (disch := omega) only [hlo_ix]
  have e : (id (constant S_ .f32 0xFF800000#32) : FVec Ideal S_ .f32) ix0 = ⊥ := Cert.Kernel5Ideal.Value.ninf_bits
  rw [e]
  simp only [Nat.add_assoc]
  rfl

end Cert.Reference5Ideal.Value

end
-- ==== Proof.Df.Softmax.lean ====
/-
  The largest score of a query and the weights of the reference's softmax.
-/
module

public import proofs.«01_k».proof.Proof.Df.Reference
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- A row of the scores as a sequence, `-∞` past its end. -/
def seq (z : FVec Ideal S8x4x2x2048x2048 .f32) (b : Fin 8) (h : Fin 4) (j : Fin 2) (p : Fin 2048) (t : ℕ) : EReal :=
  if ht : t < 2048 then z (ix5 b h j p ⟨t, ht⟩) else ⊥

/-- The fold over the last of five axes, for any operation whose order does not matter. -/
theorem reduce_last {α : Type} (f : α → α → α) [Std.Commutative f] [Std.Associative f] (z : S8x4x2x2048x2048.Idx → α)
    (v : S_.Idx → α) (b : Fin 8) (h : Fin 4) (j : Fin 2) (p : Fin 2048) :
    Host.reduce f z v reducesTo_S8x4x2x2048x2048_S8x4x2x2048_d4 h_S_ (ix4 b h j p)
      = Finset.univ.fold f (v (Shape.Idx.first h_S_)) (fun s : Fin 2048 => z (ix5 b h j p s)) := by
  rw [Host.reduce_eq_fold]
  have inj : Function.Injective (fun s : Fin 2048 => (ix5 b h j p s : S8x4x2x2048x2048.Idx)) := fun s s' e => congrFun e 4
  have e : (Finset.univ.filter fun i : S8x4x2x2048x2048.Idx => reducesTo_S8x4x2x2048x2048_S8x4x2x2048_d4.drop i = ix4 b h j p)
      = (Finset.univ : Finset (Fin 2048)).map ⟨_, inj⟩ := by
    ext i
    rw [Finset.mem_filter, Finset.mem_map]
    have d := fun b c hb hc => Shape.ReducesTo.drop_apply_val_of_eq reducesTo_S8x4x2x2048x2048_S8x4x2x2048_d4 i b c hb hc
    constructor
    · rintro ⟨-, hi⟩
      refine ⟨i 4, Finset.mem_univ _, ?_⟩
      show ix5 b h j p (i 4) = i
      have d0 := d 0 0 (by decide) (by decide)
      have d1 := d 1 1 (by decide) (by decide)
      have d2 := d 2 2 (by decide) (by decide)
      have d3 := d 3 3 (by decide) (by decide)
      rw [hi] at d0 d1 d2 d3
      funext a
      apply Fin.ext
      fin_cases a
      · exact d0
      · exact d1
      · exact d2
      · exact d3
      · rfl
    · rintro ⟨s, -, rfl⟩
      refine ⟨Finset.mem_univ _, ?_⟩
      funext a
      apply Fin.ext
      fin_cases a
      · exact d 0 0 (by decide) (by decide)
      · exact d 1 1 (by decide) (by decide)
      · exact d 2 2 (by decide) (by decide)
      · exact d 3 3 (by decide) (by decide)
  rw [e, Finset.fold_map]
  rfl

/-- The fold of maxima of a row from `-∞` is the supremum of its sequence. -/
theorem fold_seq (z : FVec Ideal S8x4x2x2048x2048 .f32) (b : Fin 8) (h : Fin 4) (j : Fin 2) (p : Fin 2048) :
    Finset.univ.fold max (⊥ : EReal) (fun s : Fin 2048 => z (ix5 b h j p s)) = Cert.Df.top (seq z b h j p) 2048 := by
  have e : Finset.univ.fold max (⊥ : EReal) (fun s : Fin 2048 => z (ix5 b h j p s)) = Finset.univ.sup fun s : Fin 2048 => z (ix5 b h j p s) := rfl
  rw [e]
  refine le_antisymm (Finset.sup_le fun s _ => ?_) (Finset.sup_le fun t ht => ?_)
  · have := Cert.Df.le_top (seq z b h j p) s.isLt
    rwa [seq, dif_pos s.isLt] at this
  · rw [seq, dif_pos (Finset.mem_range.1 ht)]
    exact Finset.le_sup (f := fun s : Fin 2048 => z (ix5 b h j p s)) (Finset.mem_univ _)

/-- The larger of `-∞` and a number is the number. -/
theorem max_ninf (R : FVec Ideal S8x4x2x2048 .f32) (y : S8x4x2x2048.Idx) :
    maximumf (broadcastInDim S8x4x2x2048 ![] bcast_S_S8x4x2x2048 (constant S_ .f32 0xFF800000#32)) R y = R y := by
  refine Eq.trans (b := max (Ideal.ofBits .f32 0xFF800000#32) (R y)) rfl ?_
  rw [Cert.Kernel5Ideal.Value.ninf_bits, max_eq_right bot_le]

/-- The fold over the last of five axes from the word of `-∞`. -/
theorem reduce_max (f : Ideal .f32 → Ideal .f32 → Ideal .f32) (hf : f = (max : EReal → EReal → EReal)) (z : FVec Ideal S8x4x2x2048x2048 .f32)
    (v : FVec Ideal S_ .f32) (hv : ∀ i, v i = ⊥) (b : Fin 8) (h : Fin 4) (j : Fin 2) (p : Fin 2048) :
    Host.reduce f z v reducesTo_S8x4x2x2048x2048_S8x4x2x2048_d4 h_S_ (ix4 b h j p) = Cert.Df.top (seq z b h j p) 2048 := by
  subst hf
  rw [reduce_last, hv]
  exact fold_seq z b h j p

/-- The largest score of a row. -/
theorem largest_apply (z : FVec Ideal S8x4x2x2048x2048 .f32) (b : Fin 8) (h : Fin 4) (j : Fin 2) (p : Fin 2048) :
    largest z (ix4 b h j p) = Cert.Df.top (seq z b h j p) 2048 := by
  unfold largest
  have hv : ∀ i, (constant S_ .f32 0xFF800000#32 : FVec Ideal S_ .f32) i = ⊥ := fun _ => Cert.Kernel5Ideal.Value.ninf_bits
  rw [max_ninf, reduce_max (FloatOps.maximumf : Ideal .f32 → Ideal .f32 → Ideal .f32) rfl z (constant S_ .f32 0xFF800000#32) hv]

/-- A weight of the softmax. -/
theorem softmax_apply (z : FVec Ideal S8x4x2x2048x2048 .f32) (b : Fin 8) (h : Fin 4) (j : Fin 2) (p s : Fin 2048) :
    softmax z (ix5 b h j p s) = Ideal.div (Ideal.exp (seq z b h j p s.val - Cert.Df.top (seq z b h j p) 2048))
      (∑ s : Fin 2048, Ideal.exp (seq z b h j p s.val - Cert.Df.top (seq z b h j p) 2048)) := by
  have e : ∀ s : Fin 2048, raised z (ix5 b h j p s) = Ideal.exp (seq z b h j p s.val - Cert.Df.top (seq z b h j p) 2048) := by
    intro s
    rw [← largest_apply, seq, dif_pos s.isLt]
    pointwise [raised]
  simp only [← e]
  pointwise [softmax]

end Cert.Reference5Ideal.Value

end
-- ==== Proof.Df.Normalise.lean ====
/-
  The reference's weighted sum of the values, and its row normalisation, at an entry.
-/
module

public import proofs.«01_k».proof.Proof.Df.Reference
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- A weight of the difference of the two attentions. -/
theorem weights_apply (lam : FVec Ideal S1 .f32) (p : FVec Ideal S8x4x2x2048x2048 .f32) (b : Fin 8) (h : Fin 4) (i s : Fin 2048) :
    weights lam p (ix4 b h i s) = p (ix5 b h 0 i s) - lam (ix1 0) * p (ix5 b h 1 i s) := by
  pointwise [weights]

/-- An entry of the attention. -/
theorem attend_apply (v : FVec Ideal S16384x1024 .bf16) (w : FVec Ideal S8x4x2048x2048 .f32) (b : Fin 8) (p : Fin 2048)
    (h : Fin 4) (d : Fin 256) :
    attend v w (ix4 b p h d) = ∑ s : Fin 2048, v (ix2 ⟨b.val * 2048 + s.val, by omega⟩ ⟨h.val * 256 + d.val, by omega⟩)
      * w (ix4 b h p s) := by
  pointwise [attend]

/-- The result's entry in row `R` and column `C`: head `C / 256` of batch `R / 2048`, position `R % 2048`. -/
theorem normalised_apply (g : FVec Ideal S256 .f32) (o : FVec Ideal S8x2048x4x256 .f32) (R : Fin 16384) (C : Fin 1024) :
    normalised g o (ix2 R C) = Cert.Df.rowNorm (fun e => o (ix4 ⟨R.val / 2048, by omega⟩ ⟨R.val % 2048, by omega⟩ ⟨C.val / 256, by omega⟩ e))
        ⟨C.val % 256, by omega⟩ * g (ix1 ⟨C.val % 256, by omega⟩) * Ideal.ofBits .f32 0x3F4CCCCD#32 := by
  pointwise [normalised]
  unfold Cert.Df.rowNorm
  rfl

end Cert.Reference5Ideal.Value

end
-- ==== Proof.Df.Final.lean ====
/-
  The differential attention's whole result, from the blocks its grid points leave.
-/
module

public import proofs.«01_k».proof.Proof.Df.Sweep
public import proofs.«01_k».proof.Proof.Df.Scores
public import proofs.«01_k».proof.Proof.Df.Softmax
public import proofs.«01_k».proof.Proof.Df.Normalise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Finset

variable (m : (ℓ : Loc nD τ sig) → Buf (Elt Ideal) ℓ)

/-- Which block of lambda a grid point works on. -/
theorem idx_lam : ∀ t : Fin grid0.N, win0_0.index t = ![0] := by decide +kernel
/-- Which block of the slopes a grid point works on. -/
theorem idx_slope : ∀ t : Fin grid0.N, win0_1.index t = ![0] := by decide +kernel
/-- Which block of queries a grid point works on. -/
theorem idx_q : ∀ t : Fin grid0.N, win0_2.index t = ![t.val / 32 * 8 + t.val % 8, t.val / 8 % 4] := by decide +kernel
/-- Which block of keys a grid point works on. -/
theorem idx_k : ∀ t : Fin grid0.N, win0_3.index t = ![t.val / 32, t.val / 8 % 4] := by decide +kernel
/-- Which block of values a grid point works on. -/
theorem idx_v : ∀ t : Fin grid0.N, win0_4.index t = ![t.val / 32, t.val / 8 % 4] := by decide +kernel
/-- Which block of the gains a grid point works on. -/
theorem idx_g : ∀ t : Fin grid0.N, win0_5.index t = ![0, 0] := by decide +kernel
/-- Which block of the result a grid point writes. -/
theorem idx_o : ∀ t : Fin grid0.N, win0_6.index t = ![t.val / 32 * 8 + t.val % 8, t.val / 8 % 4] := by decide +kernel
/-- A grid point's head. -/
theorem head_of : ∀ t : Fin grid0.N, ((grid0.coords t) 1).val = t.val / 8 % 4 := by decide +kernel
/-- A grid point's tile of queries within its sequence. -/
theorem tile_of : ∀ t : Fin grid0.N, ((grid0.coords t) 2).val = t.val % 8 := by decide +kernel

/-- Lambda, as every grid point reads it. -/
theorem lam_block (c : Dev nD) (t : Fin cfg0.N) :
    iblk (F := Ideal) m c 0 t (ix1 0) = m ((c.tc : Thread nD τ).loc main_arg0) (ix1 0) := by
  blk_simp [iblk]
  refine congrArg (m ((c.tc : Thread nD τ).loc main_arg0)) ?_
  blk_ext [idx_lam]

/-- The slopes the host hands over. -/
theorem slopes_at (c : Dev nD) (h : Fin 4) : V m c main_cst (ix1 h) = Cert.Reference5Ideal.Value.slopes (ix1 h) := by
  show StableHlo.after hostOps0 _ (Proc.devRef .tc main_cst) (ix1 h) = _
  after_reads_at
  fin_cases h <;> rfl

/-- The gains as one row. -/
theorem gain_at (c : Dev nD) (d : Fin 256) : V m c main_v0 (ix2 0 d) = m ((c.tc : Thread nD τ).loc main_arg4) (ix1 d) := by
  show StableHlo.after hostOps0 _ (Proc.devRef .tc main_v0) (ix2 0 d) = _
  after_reads_at

/-- The slopes, as every grid point reads them. -/
theorem slope_block (c : Dev nD) (t : Fin cfg0.N) (h : Fin 4) :
    iblk (F := Ideal) m c 1 t (ix1 h) = Cert.Reference5Ideal.Value.slopes (ix1 h) := by
  rw [← slopes_at m c]
  blk_simp [iblk]
  refine congrArg (V m c main_cst) ?_
  blk_ext [idx_slope]

/-- The block of queries that grid point `t` reads. -/
theorem q_block (c : Dev nD) (t : Fin cfg0.N) (r x : Fin 256)
    (h : (t.val / 32 * 8 + t.val % 8) * 256 + r.val < 16384) (h' : t.val / 8 % 4 * 256 + x.val < 1024) :
    iblk (F := Ideal) m c 2 t (ix2 r x) = m ((c.tc : Thread nD τ).loc main_arg1)
      (ix2 ⟨(t.val / 32 * 8 + t.val % 8) * 256 + r.val, h⟩ ⟨t.val / 8 % 4 * 256 + x.val, h'⟩) := by
  blk_simp [iblk]
  refine congrArg (m ((c.tc : Thread nD τ).loc main_arg1)) ?_
  blk_ext [idx_q]

/-- The block of keys that grid point `t` reads: the whole sequence, one head. -/
theorem k_block (c : Dev nD) (t : Fin cfg0.N) (s : Fin 2048) (x : Fin 256)
    (h : t.val / 32 * 2048 + s.val < 16384) (h' : t.val / 8 % 4 * 256 + x.val < 1024) :
    iblk (F := Ideal) m c 3 t (ix2 s x) = m ((c.tc : Thread nD τ).loc main_arg2)
      (ix2 ⟨t.val / 32 * 2048 + s.val, h⟩ ⟨t.val / 8 % 4 * 256 + x.val, h'⟩) := by
  blk_simp [iblk]
  refine congrArg (m ((c.tc : Thread nD τ).loc main_arg2)) ?_
  blk_ext [idx_k]

/-- The block of values that grid point `t` reads: the whole sequence, one head. -/
theorem v_block (c : Dev nD) (t : Fin cfg0.N) (s : Fin 2048) (x : Fin 256)
    (h : t.val / 32 * 2048 + s.val < 16384) (h' : t.val / 8 % 4 * 256 + x.val < 1024) :
    iblk (F := Ideal) m c 4 t (ix2 s x) = m ((c.tc : Thread nD τ).loc main_arg3)
      (ix2 ⟨t.val / 32 * 2048 + s.val, h⟩ ⟨t.val / 8 % 4 * 256 + x.val, h'⟩) := by
  blk_simp [iblk]
  refine congrArg (m ((c.tc : Thread nD τ).loc main_arg3)) ?_
  blk_ext [idx_v]

/-- The gains, as every grid point reads them. -/
theorem g_block (c : Dev nD) (t : Fin cfg0.N) (d : Fin 256) :
    iblk (F := Ideal) m c 5 t (ix2 0 d) = m ((c.tc : Thread nD τ).loc main_arg4) (ix1 d) := by
  rw [← gain_at m c]
  blk_simp [iblk]
  refine congrArg (V m c main_v0) ?_
  blk_ext [idx_g]

/-- The reference's sequence of scores is the one the grid point's row of queries has. -/
theorem seq_eq (c : Dev nD) (t : Fin cfg0.N) (b : Fin 8) (h : Fin 4) (j : Fin 2) (p : Fin 2048) (r : Fin 256)
    (half : Fin 128 → Fin 256) (hh : ∀ x, (half x).val = j.val * 128 + x.val)
    (hb : b.val = t.val / 32) (hd : h.val = t.val / 8 % 4) (hp : p.val = t.val % 8 * 256 + r.val) (s : Fin 2048) :
    Cert.Reference5Ideal.Value.seq (Cert.Reference5Ideal.Value.scores (m ((c.tc : Thread nD τ).loc main_arg1))
        (m ((c.tc : Thread nD τ).loc main_arg2))) b h j p s.val
      = rowScore ((grid0.coords t) 2).val (iblk (F := Ideal) m c 1 t (ix1 ((grid0.coords t) 1))) half (iblk (F := Ideal) m c 2 t)
        (iblk (F := Ideal) m c 3 t) r s := by
  have ht : t.val < 256 := lt_of_lt_of_eq t.isLt N_0
  have eh : (grid0.coords t) 1 = h := Fin.ext ((head_of t).trans hd.symm)
  rw [Cert.Reference5Ideal.Value.seq, dif_pos s.isLt, Cert.Reference5Ideal.Value.scores_apply, rowScore, tile_of t, ← hp, eh,
    slope_block]
  refine if_congr Iff.rfl ?_ rfl
  congr 2
  refine sum_congr rfl fun x _ => ?_
  have hx := hh x
  rw [q_block m c t r (half x) (by omega) (by omega), k_block m c t s (half x) (by omega) (by omega)]
  congr 2 <;> congr 1 <;> apply Fin.ext <;> dsimp only <;> omega

/-- The reference's scores after the query are `-∞`. -/
theorem seq_after (q k : FVec Ideal Cert.Reference5Ideal.S16384x1024 .bf16) (b : Fin 8) (h : Fin 4) (j : Fin 2) (p : Fin 2048)
    (n : ℕ) (hn : p.val < n) : Cert.Reference5Ideal.Value.seq (Cert.Reference5Ideal.Value.scores q k) b h j p n = ⊥ := by
  unfold Cert.Reference5Ideal.Value.seq
  split
  · rw [Cert.Reference5Ideal.Value.scores_apply, if_neg (by dsimp only; omega)]
  · rfl

/-- The result array is the reference's, where lambda and the values are real. -/
theorem final (c : Dev nD) (hl : ∀ i, ∃ r : ℝ, m ((c.tc : Thread nD τ).loc main_arg0) i = (r : EReal))
    (hv : ∀ i, ∃ r : ℝ, m ((c.tc : Thread nD τ).loc main_arg3) i = (r : EReal)) :
    (dats (F := Ideal) m 0 c).arrAt 6 cfg0.N
      = Cert.Reference5Ideal.Value.whole (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  unfold outsAt0
  rw [out_eq]
  idx_vars y
  have ht : t.val < 256 := lt_of_lt_of_eq t.isLt N_0
  have hemb : ((View.whole main_v1).slice (win0_6.rect t)).emb (ix2 y0 y1)
      = ix2 ⟨(t.val / 32 * 8 + t.val % 8) * 256 + y0.val, by omega⟩ ⟨t.val / 8 % 4 * 256 + y1.val, by omega⟩ := by
    blk_ext [idx_o]
  rw [hemb, Cert.Reference5Ideal.Value.whole, Cert.Reference5Ideal.Value.normalised_apply]
  have eb : ((t.val / 32 * 8 + t.val % 8) * 256 + y0.val) / 2048 = t.val / 32 := by omega
  have ep : ((t.val / 32 * 8 + t.val % 8) * 256 + y0.val) % 2048 = t.val % 8 * 256 + y0.val := by omega
  have eh : (t.val / 8 % 4 * 256 + y1.val) / 256 = t.val / 8 % 4 := by omega
  have ed : (t.val / 8 % 4 * 256 + y1.val) % 256 = y1.val := by omega
  simp only [eb, ep, eh, ed]
  obtain ⟨lr, hlr⟩ := hl (ix1 0)
  choose vr hvr using hv
  obtain ⟨wr, hvb⟩ : ∃ wr : ℕ → Fin 256 → ℝ, ∀ (s : Fin 2048) (d : Fin 256),
      iblk (F := Ideal) m c 4 t (ix2 s d) = ((wr s.val d : ℝ) : EReal) := by
    refine ⟨fun n d => if hn : n < 2048 then vr (ix2 ⟨t.val / 32 * 2048 + n, by omega⟩ ⟨t.val / 8 % 4 * 256 + d.val, by omega⟩)
      else 0, fun s d => ?_⟩
    rw [v_block m c t s d (by omega) (by omega), hvr]
    dsimp only
    rw [dif_pos s.isLt]
  rw [lam_block, hlr]
  refine (row_value (grid0.coords t) lr _ (iblk (F := Ideal) m c 2 t) (iblk (F := Ideal) m c 3 t) (iblk (F := Ideal) m c 4 t)
    (iblk (F := Ideal) m c 5 t) y0 _ _ wr
    (seq_eq m c t ⟨t.val / 32, by omega⟩ ⟨t.val / 8 % 4, by omega⟩ 0 ⟨t.val % 8 * 256 + y0.val, by omega⟩ y0 lo (fun x => (Nat.zero_add _).symm) rfl rfl rfl)
    (seq_eq m c t ⟨t.val / 32, by omega⟩ ⟨t.val / 8 % 4, by omega⟩ 1 ⟨t.val % 8 * 256 + y0.val, by omega⟩ y0 hi (fun x => rfl) rfl rfl rfl)
    hvb (fun n hn => seq_after _ _ _ _ _ _ n (by rw [tile_of t] at hn; exact hn))
    (fun n hn => seq_after _ _ _ _ _ _ n (by rw [tile_of t] at hn; exact hn)) y1).trans ?_
  rw [g_block]
  simp only [Cert.Reference5Ideal.Value.attend_apply, Cert.Reference5Ideal.Value.weights_apply,
    Cert.Reference5Ideal.Value.softmax_apply, hlr]
  refine congrArg (fun f => Cert.Df.rowNorm f y1 * _ * _) ?_
  funext e
  refine sum_congr rfl fun s _ => ?_
  rw [v_block m c t s e (by omega) (by omega)]

end Cert.Kernel5Ideal.Value

end
-- ==== Proof.Df.Finite.lean ====
/-
  What the precondition of the differential attention says: lambda and every value is a real number.
-/
module

public import proofs.«01_k».proof.Proof.Gen.Pre_finite5
public import proofs.«01_k».proof.Proof.Sb.Finite
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Pre_finite5

open Cert.Pre_finite5.Gen

/-- The bit computed for lambda says that it is a real number. -/
theorem lam_of_bit (x : FVec Ideal S1 .f32) (i : S1.Idx)
    (h : cmpf .olt (Host.absf x) (broadcastInDim S1 ![] Facts.bcast_S_S1 (constant S_ .f32 0x7F800000#32)) i = 1#1) :
    ∃ r : ℝ, x i = (r : EReal) := by
  refine Cert.Sb.real_of_abs_lt ?_
  have e : cmpf .olt (Host.absf x) (broadcastInDim S1 ![] Facts.bcast_S_S1 (constant S_ .f32 0x7F800000#32)) i
      = BitVec.ofBool (decide (max (x i) (-(x i)) < Ideal.ofBits .f32 0x7F800000#32)) := by
    rfl
  rw [e, Cert.Sb.inf_bits] at h
  by_contra hc
  rw [decide_eq_false hc] at h
  exact absurd h (by decide)

/-- The bit computed for a value says that it is a real number. -/
theorem value_of_bit (x : FVec Ideal S16384x1024 .bf16) (i : S16384x1024.Idx)
    (h : cmpf .olt (Host.absf (extf .f32 x Facts.bitsLt_bf16_f32 : FVec Ideal S16384x1024 .f32))
      (broadcastInDim S16384x1024 ![] Facts.bcast_S_S16384x1024 (constant S_ .f32 0x7F800000#32)) i = 1#1) :
    ∃ r : ℝ, x i = (r : EReal) := by
  refine Cert.Sb.real_of_abs_lt ?_
  have e : cmpf .olt (Host.absf (extf .f32 x Facts.bitsLt_bf16_f32 : FVec Ideal S16384x1024 .f32))
      (broadcastInDim S16384x1024 ![] Facts.bcast_S_S16384x1024 (constant S_ .f32 0x7F800000#32)) i
      = BitVec.ofBool (decide (max (x i) (-(x i)) < Ideal.ofBits .f32 0x7F800000#32)) := by
    rfl
  rw [e, Cert.Sb.inf_bits] at h
  by_contra hc
  rw [decide_eq_false hc] at h
  exact absurd h (by decide)

/-- Where the precondition holds, lambda and the values are real numbers. -/
theorem real_of_fn (lam : FVec Ideal S1 .f32) (q k v : FVec Ideal S16384x1024 .bf16) (g : FVec Ideal S256 .f32)
    (h : fn (F := Ideal) lam q k v g = fun _ => 1#1) :
    (∀ i, ∃ r : ℝ, lam i = (r : EReal)) ∧ (∀ i, ∃ r : ℝ, v i = (r : EReal)) := by
  have h0 := congrFun h (Shape.Idx.first Facts.h_S_)
  unfold fn at h0
  dsimp only at h0
  obtain ⟨hx, hy⟩ := Cert.Pre_finite.andi_eq_one.1 h0
  exact ⟨fun i => lam_of_bit lam i (Host.reduce_andi_all _ _ _ _ _ hx i),
    fun i => value_of_bit v i (Host.reduce_andi_all _ _ _ _ _ hy i)⟩

end Cert.Pre_finite5

end
-- ==== Proof.Ms.Run.lean ====
/-
  The run of the sample's gating and output projection: whatever memory it is launched from, it ends with every array of the chip at the contents
  that its last step leaves.
-/
module

public import proofs.«01_k».proof.Proof.Gen.Kernel6Ideal.Frame

@[expose] public section

set_option maxRecDepth 16384

noncomputable section

namespace Cert.Kernel6Ideal.Value

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing faulting, with each array at the contents the last step leaves. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.Kernel6Ideal.Value

end
-- ==== Proof.Ms.Arrays.lean ====
/-
  The gating of the sample's two attentions and the output projection: what a block of each call computes, and what each call
  leaves in its result, entry by entry.
-/
module

public import proofs.«01_k».proof.Proof.Gen.Kernel6Ideal.Frame
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Finset

/-- The gating's block: each branch's rows times its columns, each under its gate. -/
theorem merge_apply (a : Vec Ideal S128x1024 .bf16) (wa : Vec Ideal S1024x1024 .bf16) (b : Vec Ideal S128x1024 .bf16)
    (wb : Vec Ideal S1024x1024 .bf16) (ga gb : Vec Ideal S128x1024 .bf16) (r : Fin 128) (k : Fin 1024) :
    k0_pay1 (F := Ideal) a wa b wb ga gb (ix2 r k)
      = (ga (ix2 r k) : EReal) * (∑ j : Fin 1024, (a (ix2 r j) : EReal) * wa (ix2 j k))
        + (gb (ix2 r k) : EReal) * ∑ j : Fin 1024, (b (ix2 r j) : EReal) * wb (ix2 j k) := by
  pointwise [k0_pay1]

/-- The output projection's block: the input plus rows times columns. -/
theorem out_apply (x : Vec Ideal S128x1024 .f32) (h : Vec Ideal S128x2048 .bf16) (w : Vec Ideal S2048x1024 .bf16) (r : Fin 128) (k : Fin 1024) :
    k1_pay1 (F := Ideal) x h w (ix2 r k) = (x (ix2 r k) : EReal) + ∑ j : Fin 2048, (h (ix2 r j) : EReal) * w (ix2 j k) := by
  pointwise [k1_pay1]

variable (V : (c : Dev nD) → (b : Ref sig .tc) → Buf (Elt Ideal) ((c.tc : Thread nD τ).loc b))

/-- An entry of the gated sum of the two branches. -/
def mergeArr (a b : FVec Ideal S128x1024 .bf16) (wa wb : FVec Ideal S1024x2048 .bf16) (g : FVec Ideal S128x4096 .bf16)
    (R : Fin 128) (C : Fin 2048) : EReal :=
  (g (ix2 R ⟨C.val, by omega⟩) : EReal) * (∑ j : Fin 1024, (a (ix2 R j) : EReal) * wa (ix2 j C))
    + (g (ix2 R ⟨2048 + C.val, by omega⟩) : EReal) * ∑ j : Fin 1024, (b (ix2 R j) : EReal) * wb (ix2 j C)

/-- An entry of the input plus the output projection. -/
def outArr (x : FVec Ideal S128x2048 .f32) (h : FVec Ideal S128x2048 .bf16) (w : FVec Ideal S2048x2048 .bf16)
    (R : Fin 128) (C : Fin 2048) : EReal :=
  (x (ix2 R C) : EReal) + ∑ j : Fin 2048, (h (ix2 R j) : EReal) * w (ix2 j C)

/-- Which block window 0 of call 0 shows at a grid point. -/
theorem idx0_0 : ∀ t : Fin grid0.N, win0_0.index t = ![t.val / 2, 0] := by decide +kernel

/-- Which block window 1 of call 0 shows at a grid point. -/
theorem idx0_1 : ∀ t : Fin grid0.N, win0_1.index t = ![t.val / 2, 0] := by decide +kernel

/-- Which block window 2 of call 0 shows at a grid point. -/
theorem idx0_2 : ∀ t : Fin grid0.N, win0_2.index t = ![0, t.val % 2] := by decide +kernel

/-- Which block window 3 of call 0 shows at a grid point. -/
theorem idx0_3 : ∀ t : Fin grid0.N, win0_3.index t = ![0, t.val % 2] := by decide +kernel

/-- Which block window 4 of call 0 shows at a grid point. -/
theorem idx0_4 : ∀ t : Fin grid0.N, win0_4.index t = ![t.val / 2, t.val % 2] := by decide +kernel

/-- Which block window 5 of call 0 shows at a grid point. -/
theorem idx0_5 : ∀ t : Fin grid0.N, win0_5.index t = ![t.val / 2, t.val % 2 + 2] := by decide +kernel

/-- Which block window 6 of call 0 shows at a grid point. -/
theorem idx0_6 : ∀ t : Fin grid0.N, win0_6.index t = ![t.val / 2, t.val % 2] := by decide +kernel

/-- Which block window 0 of call 1 shows at a grid point. -/
theorem idx1_0 : ∀ t : Fin grid1.N, win1_0.index t = ![t.val / 2, 0] := by decide +kernel

/-- Which block window 1 of call 1 shows at a grid point. -/
theorem idx1_1 : ∀ t : Fin grid1.N, win1_1.index t = ![0, t.val % 2] := by decide +kernel

/-- Which block window 2 of call 1 shows at a grid point. -/
theorem idx1_2 : ∀ t : Fin grid1.N, win1_2.index t = ![t.val / 2, t.val % 2] := by decide +kernel

/-- Which block window 3 of call 1 shows at a grid point. -/
theorem idx1_3 : ∀ t : Fin grid1.N, win1_3.index t = ![t.val / 2, t.val % 2] := by decide +kernel

/-- The block that grid point `t` reads through window 0 of call 0. -/
theorem blk0_0 (c : Dev nD) (t : Fin cfg0.N) (a : Fin 128) (b : Fin 1024) (h : t.val / 2 * 128 + a.val < 128) :
    iblk0 (F := Ideal) V c 0 t (ix2 a b) = V c main_arg0 (ix2 ⟨t.val / 2 * 128 + a.val, h⟩ b) := by
  blk_simp [iblk0]
  refine congrArg (V c main_arg0) ?_
  blk_ext [idx0_0]

/-- The block that grid point `t` reads through window 1 of call 0. -/
theorem blk0_1 (c : Dev nD) (t : Fin cfg0.N) (a : Fin 128) (b : Fin 1024) (h : t.val / 2 * 128 + a.val < 128) :
    iblk0 (F := Ideal) V c 1 t (ix2 a b) = V c main_arg1 (ix2 ⟨t.val / 2 * 128 + a.val, h⟩ b) := by
  blk_simp [iblk0]
  refine congrArg (V c main_arg1) ?_
  blk_ext [idx0_1]

/-- The block that grid point `t` reads through window 2 of call 0. -/
theorem blk0_2 (c : Dev nD) (t : Fin cfg0.N) (a : Fin 1024) (b : Fin 1024) (h' : t.val % 2 * 1024 + b.val < 2048) :
    iblk0 (F := Ideal) V c 2 t (ix2 a b) = V c main_v1 (ix2 a ⟨t.val % 2 * 1024 + b.val, h'⟩) := by
  blk_simp [iblk0]
  refine congrArg (V c main_v1) ?_
  blk_ext [idx0_2]

/-- The block that grid point `t` reads through window 3 of call 0. -/
theorem blk0_3 (c : Dev nD) (t : Fin cfg0.N) (a : Fin 1024) (b : Fin 1024) (h' : t.val % 2 * 1024 + b.val < 2048) :
    iblk0 (F := Ideal) V c 3 t (ix2 a b) = V c main_v2 (ix2 a ⟨t.val % 2 * 1024 + b.val, h'⟩) := by
  blk_simp [iblk0]
  refine congrArg (V c main_v2) ?_
  blk_ext [idx0_3]

/-- The block that grid point `t` reads through window 4 of call 0. -/
theorem blk0_4 (c : Dev nD) (t : Fin cfg0.N) (a : Fin 128) (b : Fin 1024) (h : t.val / 2 * 128 + a.val < 128) (h' : t.val % 2 * 1024 + b.val < 4096) :
    iblk0 (F := Ideal) V c 4 t (ix2 a b) = V c main_arg2 (ix2 ⟨t.val / 2 * 128 + a.val, h⟩ ⟨t.val % 2 * 1024 + b.val, h'⟩) := by
  blk_simp [iblk0]
  refine congrArg (V c main_arg2) ?_
  blk_ext [idx0_4]

/-- The block that grid point `t` reads through window 5 of call 0. -/
theorem blk0_5 (c : Dev nD) (t : Fin cfg0.N) (a : Fin 128) (b : Fin 1024) (h : t.val / 2 * 128 + a.val < 128) (h' : (t.val % 2 + 2) * 1024 + b.val < 4096) :
    iblk0 (F := Ideal) V c 5 t (ix2 a b) = V c main_arg2 (ix2 ⟨t.val / 2 * 128 + a.val, h⟩ ⟨(t.val % 2 + 2) * 1024 + b.val, h'⟩) := by
  blk_simp [iblk0]
  refine congrArg (V c main_arg2) ?_
  blk_ext [idx0_5]

/-- The block that grid point `t` reads through window 0 of call 1. -/
theorem blk1_0 (c : Dev nD) (t : Fin cfg1.N) (a : Fin 128) (b : Fin 2048) (h : t.val / 2 * 128 + a.val < 128) :
    iblk1 (F := Ideal) V c 0 t (ix2 a b) = V c main_v4 (ix2 ⟨t.val / 2 * 128 + a.val, h⟩ b) := by
  blk_simp [iblk1]
  refine congrArg (V c main_v4) ?_
  blk_ext [idx1_0]

/-- The block that grid point `t` reads through window 1 of call 1. -/
theorem blk1_1 (c : Dev nD) (t : Fin cfg1.N) (a : Fin 2048) (b : Fin 1024) (h' : t.val % 2 * 1024 + b.val < 2048) :
    iblk1 (F := Ideal) V c 1 t (ix2 a b) = V c main_v3 (ix2 a ⟨t.val % 2 * 1024 + b.val, h'⟩) := by
  blk_simp [iblk1]
  refine congrArg (V c main_v3) ?_
  blk_ext [idx1_1]

/-- The block that grid point `t` reads through window 2 of call 1. -/
theorem blk1_2 (c : Dev nD) (t : Fin cfg1.N) (a : Fin 128) (b : Fin 1024) (h : t.val / 2 * 128 + a.val < 128) (h' : t.val % 2 * 1024 + b.val < 2048) :
    iblk1 (F := Ideal) V c 2 t (ix2 a b) = V c main_v0 (ix2 ⟨t.val / 2 * 128 + a.val, h⟩ ⟨t.val % 2 * 1024 + b.val, h'⟩) := by
  blk_simp [iblk1]
  refine congrArg (V c main_v0) ?_
  blk_ext [idx1_2]

/-- The array of the gated sums. -/
theorem arr0_6 (c : Dev nD) : (dat0 (F := Ideal) V c).arrAt 6 cfg0.N = fun y : S128x2048.Idx => mergeArr (V c main_arg0) (V c main_arg1) (V c main_v1) (V c main_v2) (V c main_arg2) (y 0) (y 1) := by
  refine (dat0 (F := Ideal) V c).arrAt_eq_of_covers 6 _ (by decide +kernel) fun t hf y => ?_
  blk_simp
  rw [after0_6]
  unfold out0_6
  frame_out
  idx_vars y
  have ht : t.val < 2 := lt_of_lt_of_eq t.isLt N_0
  have hemb : ((View.whole main_v4).slice (win0_6.rect t)).emb (ix2 y0 y1)
      = ix2 ⟨t.val / 2 * 128 + y0.val, by omega⟩ ⟨t.val % 2 * 1024 + y1.val, by omega⟩ := by
    blk_ext [idx0_6]
  rw [hemb, merge_apply]
  show _ = mergeArr (V c main_arg0) (V c main_arg1) (V c main_v1) (V c main_v2) (V c main_arg2) ⟨t.val / 2 * 128 + y0.val, by omega⟩ ⟨t.val % 2 * 1024 + y1.val, by omega⟩
  unfold mergeArr
  rw [blk0_4 V c t y0 y1 (by omega) (by omega), blk0_5 V c t y0 y1 (by omega) (by omega)]
  have e : ∀ h h', (⟨(t.val % 2 + 2) * 1024 + y1.val, h⟩ : Fin 4096) = ⟨2048 + (t.val % 2 * 1024 + y1.val), h'⟩ :=
    fun _ _ => Fin.ext (by dsimp only; omega)
  rw [e _ (by omega)]
  refine congrArg₂ (· + ·) (congrArg _ (sum_congr rfl fun j _ => ?_)) (congrArg _ (sum_congr rfl fun j _ => ?_))
  · rw [blk0_0 V c t y0 j (by omega), blk0_2 V c t j y1 (by omega)]
  · rw [blk0_1 V c t y0 j (by omega), blk0_3 V c t j y1 (by omega)]

/-- The array of the input plus its projection. -/
theorem arr1_3 (c : Dev nD) : (dat1 (F := Ideal) V c).arrAt 3 cfg1.N = fun y : S128x2048.Idx => outArr (V c main_v0) (V c main_v4) (V c main_v3) (y 0) (y 1) := by
  refine (dat1 (F := Ideal) V c).arrAt_eq_of_covers 3 _ (by decide +kernel) fun t hf y => ?_
  blk_simp
  rw [after1_3]
  unfold out1_3
  frame_out
  idx_vars y
  have ht : t.val < 2 := lt_of_lt_of_eq t.isLt N_1
  have hemb : ((View.whole main_v5).slice (win1_3.rect t)).emb (ix2 y0 y1)
      = ix2 ⟨t.val / 2 * 128 + y0.val, by omega⟩ ⟨t.val % 2 * 1024 + y1.val, by omega⟩ := by
    blk_ext [idx1_3]
  rw [hemb, out_apply]
  show _ = outArr (V c main_v0) (V c main_v4) (V c main_v3) ⟨t.val / 2 * 128 + y0.val, by omega⟩ ⟨t.val % 2 * 1024 + y1.val, by omega⟩
  unfold outArr
  rw [blk1_2 V c t y0 y1 (by omega) (by omega)]
  refine congrArg _ (sum_congr rfl fun j _ => ?_)
  rw [blk1_0 V c t y0 j (by omega), blk1_1 V c t j y1 (by omega)]

end Cert.Kernel6Ideal.Value

end
-- ==== Proof.Ms.Reference.lean ====
/-
  The reference's gating of the sample and output projection, read at an entry.
-/
module

public import proofs.«01_k».proof.Proof.Gen.Reference6Ideal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Reference6Ideal.Value

open Cert.Reference6Ideal Cert.Reference6Ideal.Gen

/-- The gated sum of the two branches. -/
def merged (a b : FVec Ideal S128x1024 .bf16) (g : FVec Ideal S128x4096 .bf16) (wa wb : FVec Ideal S1024x2048 .f32) : FVec Ideal S32x4x2048 .f32 :=
  addf (mulf (extractStridedSlice S32x4x2048 ![0, 0, 0] (shapeCast S32x4x4096 (extf .f32 g bitsLt_bf16_f32 : FVec Ideal S128x4096 .f32) shapeCasts_S128x4096_S32x4x4096) slices_S32x4x4096_S32x4x2048_0_0_0)
      (Host.dotGeneral dot_S32x4x1024_S1024x2048_S32x4x2048_2_0_01_1_n_n none (shapeCast S32x4x1024 (extf .f32 a bitsLt_bf16_f32 : FVec Ideal S128x1024 .f32) shapeCasts_S128x1024_S32x4x1024) wa))
    (mulf (extractStridedSlice S32x4x2048 ![0, 0, 2048] (shapeCast S32x4x4096 (extf .f32 g bitsLt_bf16_f32 : FVec Ideal S128x4096 .f32) shapeCasts_S128x4096_S32x4x4096) slices_S32x4x4096_S32x4x2048_0_0_2048)
      (Host.dotGeneral dot_S32x4x1024_S1024x2048_S32x4x2048_2_0_01_1_n_n none (shapeCast S32x4x1024 (extf .f32 b bitsLt_bf16_f32 : FVec Ideal S128x1024 .f32) shapeCasts_S128x1024_S32x4x1024) wb))

/-- The input plus the projection of the gated sum, as rows. -/
def resid (a b : FVec Ideal S128x1024 .bf16) (g : FVec Ideal S128x4096 .bf16) (x : FVec Ideal S32x4x2048 .f32)
    (wa wb : FVec Ideal S1024x2048 .f32) (w : FVec Ideal S2048x2048 .f32) : FVec Ideal S128x2048 .f32 :=
  shapeCast S128x2048 (addf x (Host.dotGeneral dot_S32x4x2048_S2048x2048_S32x4x2048_2_0_01_1_n_n none (merged a b g wa wb) w)) shapeCasts_S32x4x2048_S128x2048

/-- An entry of the gated sum. -/
theorem merged_apply (a b : FVec Ideal S128x1024 .bf16) (g : FVec Ideal S128x4096 .bf16) (wa wb : FVec Ideal S1024x2048 .f32)
    (n : Fin 32) (t : Fin 4) (C : Fin 2048) :
    merged a b g wa wb (ix3 n t C)
      = (g (ix2 (⟨n.val * 4 + t.val, by omega⟩ : Fin 128) (⟨C.val, by omega⟩ : Fin 4096)) : EReal)
          * (∑ j : Fin 1024, (a (ix2 (⟨n.val * 4 + t.val, by omega⟩ : Fin 128) j) : EReal) * wa (ix2 j C))
        + (g (ix2 (⟨n.val * 4 + t.val, by omega⟩ : Fin 128) (⟨2048 + C.val, by omega⟩ : Fin 4096)) : EReal)
          * ∑ j : Fin 1024, (b (ix2 (⟨n.val * 4 + t.val, by omega⟩ : Fin 128) j) : EReal) * wb (ix2 j C) := by
  pointwise [merged]

/-- An entry of the result. -/
theorem resid_apply (a b : FVec Ideal S128x1024 .bf16) (g : FVec Ideal S128x4096 .bf16) (x : FVec Ideal S32x4x2048 .f32)
    (wa wb : FVec Ideal S1024x2048 .f32) (w : FVec Ideal S2048x2048 .f32) (R : Fin 128) (C : Fin 2048) :
    resid a b g x wa wb w (ix2 R C)
      = (x (ix3 (⟨R.val / 4, by omega⟩ : Fin 32) (⟨R.val % 4, by omega⟩ : Fin 4) C) : EReal)
        + ∑ j : Fin 2048, merged a b g wa wb (ix3 (⟨R.val / 4, by omega⟩ : Fin 32) (⟨R.val % 4, by omega⟩ : Fin 4) j) * w (ix2 j C) := by
  pointwise [resid]

end Cert.Reference6Ideal.Value

end
-- ==== Proof.Ms.Final.lean ====
/-
  The sample's gating and the output projection leave the reference's array.
-/
module

public import proofs.«01_k».proof.Proof.Ms.Arrays
public import proofs.«01_k».proof.Proof.Ms.Reference
public import Idealize.ShloMosaic.Lib.StableHlo.ReadAt

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Finset

variable (m : (ℓ : Loc nD τ sig) → Buf (Elt Ideal) ℓ) (ρ : Dev nD → PrngReg)

/-- The input as rows. -/
theorem v0_at (c : Dev nD) (k : Fin 128) (e : Fin 2048) : V1 m ρ c main_v0 (ix2 k e)
    = m ((c.tc : Thread nD τ).loc main_arg3) (ix3 (⟨k.val / 4, by omega⟩ : Fin 32) (⟨k.val % 4, by omega⟩ : Fin 4) e) := by
  show StableHlo.after hostOps0 (W0 m ρ c) (Proc.devRef .tc main_v0) (ix2 k e) = _
  after_reads_at

/-- The first branch's columns. -/
theorem v1_at (c : Dev nD) (k : Fin 1024) (e : Fin 2048) : V1 m ρ c main_v1 (ix2 k e)
    = m ((c.tc : Thread nD τ).loc main_arg4) (ix2 k e) := by
  show StableHlo.after hostOps0 (W0 m ρ c) (Proc.devRef .tc main_v1) (ix2 k e) = _
  after_reads_at

/-- The second branch's columns. -/
theorem v2_at (c : Dev nD) (k : Fin 1024) (e : Fin 2048) : V1 m ρ c main_v2 (ix2 k e)
    = m ((c.tc : Thread nD τ).loc main_arg5) (ix2 k e) := by
  show StableHlo.after hostOps0 (W0 m ρ c) (Proc.devRef .tc main_v2) (ix2 k e) = _
  after_reads_at

/-- The output projection's columns. -/
theorem v3_at (c : Dev nD) (k : Fin 2048) (e : Fin 2048) : V1 m ρ c main_v3 (ix2 k e)
    = m ((c.tc : Thread nD τ).loc main_arg6) (ix2 k e) := by
  show StableHlo.after hostOps0 (W0 m ρ c) (Proc.devRef .tc main_v3) (ix2 k e) = _
  after_reads_at

/-- An entry of the gated sum that the first call leaves. -/
theorem merge_at (c : Dev nD) (R : Fin 128) (C : Fin 2048) : V2 m ρ c main_v4 (ix2 R C)
    = Cert.Reference6Ideal.Value.merged (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (ix3 (⟨R.val / 4, by omega⟩ : Fin 32) (⟨R.val % 4, by omega⟩ : Fin 4) C) := by
  rw [show V2 m ρ c main_v4 = (dat0 (F := Ideal) (V1 m ρ) c).arrAt 6 cfg0.N from W2_arr m ρ c 6, arr0_6,
    Cert.Reference6Ideal.Value.merged_apply]
  have hR : ∀ h, (⟨R.val / 4 * 4 + R.val % 4, h⟩ : Fin 128) = R := fun _ => Fin.ext (by dsimp only; omega)
  simp only [hR]
  show mergeArr _ _ _ _ _ R C = _
  unfold mergeArr
  rw [show V1 m ρ c main_arg0 = m ((c.tc : Thread nD τ).loc main_arg0) from W1_args m ρ c main_arg0 (by decide),
    show V1 m ρ c main_arg1 = m ((c.tc : Thread nD τ).loc main_arg1) from W1_args m ρ c main_arg1 (by decide),
    show V1 m ρ c main_arg2 = m ((c.tc : Thread nD τ).loc main_arg2) from W1_args m ρ c main_arg2 (by decide)]
  refine congrArg₂ (· + ·) (congrArg _ (sum_congr rfl fun j _ => ?_)) (congrArg _ (sum_congr rfl fun j _ => ?_))
  · rw [v1_at]
  · rw [v2_at]

/-- The result is the reference's. -/
theorem final (c : Dev nD) : W3 m ρ c (Proc.devRef .tc main_v5)
    = Cert.Reference6Ideal.Value.resid (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  rw [show W3 m ρ c (Proc.devRef .tc main_v5) = (dat1 (F := Ideal) (V2 m ρ) c).arrAt 3 cfg1.N from W3_arr m ρ c 3, arr1_3]
  funext y
  idx_vars y
  rw [Cert.Reference6Ideal.Value.resid_apply]
  show outArr _ _ _ y0 y1 = _
  unfold outArr
  rw [show V2 m ρ c main_v0 = V1 m ρ c main_v0 from W2_of m ρ c main_v0 (by decide),
    show V2 m ρ c main_v3 = V1 m ρ c main_v3 from W2_of m ρ c main_v3 (by decide), v0_at]
  refine congrArg _ (sum_congr rfl fun j _ => ?_)
  rw [merge_at, v3_at]

end Cert.Kernel6Ideal.Value

end
-- ==== Proof.Lm.Final.lean ====
/-
  The differential attention's lambda: the kernel leaves the reference's number.
-/
module

public import proofs.«01_k».proof.Proof.Gen.Kernel7Ideal.Frame
public import proofs.«01_k».proof.Proof.Gen.Reference7Ideal.Run
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Reference7Ideal.Value

open Cert.Reference7Ideal Cert.Reference7Ideal.Gen Finset

/-- The reference's result as a term of the four vectors. -/
def lam (q1 k1 q2 k2 : FVec Ideal S128 .f32) : FVec Ideal S1 .f32 :=
  shapeCast _ (addf (subf (Host.exp (Host.reduceAdd (mulf q1 k1) (constant S_ .f32 0x00000000#32) reducesTo_S128_S_d0 h_S_))
    (Host.exp (Host.reduceAdd (mulf q2 k2) (constant S_ .f32 0x00000000#32) reducesTo_S128_S_d0 h_S_)))
    (constant S_ .f32 0x3E4CCCCD#32)) shapeCasts_S_S1

/-- The reference's number: one exponential of a sum of products less another, plus a constant. -/
theorem lam_apply (q1 k1 q2 k2 : FVec Ideal S128 .f32) (i : Fin 1) :
    lam q1 k1 q2 k2 (ix1 i)
      = (Ideal.exp (∑ j : Fin 128, (q1 (ix1 j) : EReal) * k1 (ix1 j)) : EReal)
        - (Ideal.exp (∑ j : Fin 128, (q2 (ix1 j) : EReal) * k2 (ix1 j)) : EReal)
        + (Scalar.ofBits (F := Ideal) .f32 0x3E4CCCCD#32 : EReal) := by
  pointwise [lam]

end Cert.Reference7Ideal.Value

namespace Cert.Kernel7Ideal.Value

open Cert.Kernel7Ideal Cert.Kernel7Ideal.Gen Finset

/-- The block: one exponential of a sum of products less another, plus a constant. -/
theorem pay_apply (q1 k1 q2 k2 : Vec Ideal S1x128 .f32) (r k : Fin 1) :
    k0_pay1 (F := Ideal) q1 k1 q2 k2 (ix2 r k)
      = (Ideal.exp (∑ j : Fin 128, (q1 (ix2 (0 : Fin 1) j) : EReal) * k1 (ix2 (0 : Fin 1) j)) : EReal)
        - (Ideal.exp (∑ j : Fin 128, (q2 (ix2 (0 : Fin 1) j) : EReal) * k2 (ix2 (0 : Fin 1) j)) : EReal)
        + (Scalar.ofBits (F := Ideal) .f32 0x3E4CCCCD#32 : EReal) := by
  pointwise [k0_pay1]

variable (m : (ℓ : Loc nD τ sig) → Buf (Elt Ideal) ℓ) (ρ : Dev nD → PrngReg)

/-- The first vector as a row of the call. -/
theorem row0 (c : Dev nD) (k : Fin 1) (e : Fin 128) : V m c main_v0 (ix2 k e) = m ((c.tc : Thread nD τ).loc main_arg0) (ix1 e) := by
  show StableHlo.after hostOps0 (fun b => m (c, b)) (Proc.devRef .tc main_v0) (ix2 k e) = _
  after_reads_at
/-- The second vector as a row of the call. -/
theorem row1 (c : Dev nD) (k : Fin 1) (e : Fin 128) : V m c main_v1 (ix2 k e) = m ((c.tc : Thread nD τ).loc main_arg1) (ix1 e) := by
  show StableHlo.after hostOps0 (fun b => m (c, b)) (Proc.devRef .tc main_v1) (ix2 k e) = _
  after_reads_at
/-- The third vector as a row of the call. -/
theorem row2 (c : Dev nD) (k : Fin 1) (e : Fin 128) : V m c main_v2 (ix2 k e) = m ((c.tc : Thread nD τ).loc main_arg2) (ix1 e) := by
  show StableHlo.after hostOps0 (fun b => m (c, b)) (Proc.devRef .tc main_v2) (ix2 k e) = _
  after_reads_at
/-- The fourth vector as a row of the call. -/
theorem row3 (c : Dev nD) (k : Fin 1) (e : Fin 128) : V m c main_v3 (ix2 k e) = m ((c.tc : Thread nD τ).loc main_arg3) (ix1 e) := by
  show StableHlo.after hostOps0 (fun b => m (c, b)) (Proc.devRef .tc main_v3) (ix2 k e) = _
  after_reads_at

/-- The block that the one grid point reads through window 0. -/
theorem blk0 (c : Dev nD) (t : Fin cfg0.N) (a : Fin 1) (b : Fin 128) : iblk (F := Ideal) m c 0 t (ix2 a b) = V m c main_v0 (ix2 a b) := by
  blk_simp [iblk]
  refine congrArg (V m c main_v0) ?_
  blk_ext [(by decide +kernel : ∀ t : Fin grid0.N, win0_0.index t = ![0, 0])]
/-- Through window 1. -/
theorem blk1 (c : Dev nD) (t : Fin cfg0.N) (a : Fin 1) (b : Fin 128) : iblk (F := Ideal) m c 1 t (ix2 a b) = V m c main_v1 (ix2 a b) := by
  blk_simp [iblk]
  refine congrArg (V m c main_v1) ?_
  blk_ext [(by decide +kernel : ∀ t : Fin grid0.N, win0_1.index t = ![0, 0])]
/-- Through window 2. -/
theorem blk2 (c : Dev nD) (t : Fin cfg0.N) (a : Fin 1) (b : Fin 128) : iblk (F := Ideal) m c 2 t (ix2 a b) = V m c main_v2 (ix2 a b) := by
  blk_simp [iblk]
  refine congrArg (V m c main_v2) ?_
  blk_ext [(by decide +kernel : ∀ t : Fin grid0.N, win0_2.index t = ![0, 0])]
/-- Through window 3. -/
theorem blk3 (c : Dev nD) (t : Fin cfg0.N) (a : Fin 1) (b : Fin 128) : iblk (F := Ideal) m c 3 t (ix2 a b) = V m c main_v3 (ix2 a b) := by
  blk_simp [iblk]
  refine congrArg (V m c main_v3) ?_
  blk_ext [(by decide +kernel : ∀ t : Fin grid0.N, win0_3.index t = ![0, 0])]

/-- The array that the call leaves: the reference's one number. -/
theorem arr (c : Dev nD) : (dats (F := Ideal) m 0 c).arrAt 4 cfg0.N = fun _ : S1x1.Idx =>
    Cert.Reference7Ideal.Value.lam (m ((c.tc : Thread nD τ).loc main_arg0)) (m ((c.tc : Thread nD τ).loc main_arg1))
      (m ((c.tc : Thread nD τ).loc main_arg2)) (m ((c.tc : Thread nD τ).loc main_arg3)) (ix1 (0 : Fin 1)) := by
  refine (dats (F := Ideal) m 0 c).arrAt_eq_of_covers 4 _ (by decide +kernel) fun t hf y => ?_
  blk_simp
  rw [after0_4]
  unfold out0_4
  frame_out
  idx_vars y
  rw [pay_apply, Cert.Reference7Ideal.Value.lam_apply]
  simp only [blk0, blk1, blk2, blk3]
  refine congrArg₂ (· + ·) (congrArg₂ (· - ·) (congrArg Ideal.exp (sum_congr rfl fun j _ => ?_))
    (congrArg Ideal.exp (sum_congr rfl fun j _ => ?_))) rfl
  · exact congrArg₂ (· * ·) (row0 m c 0 j) (row1 m c 0 j)
  · exact congrArg₂ (· * ·) (row2 m c 0 j) (row3 m c 0 j)

/-- The result is the reference's. -/
theorem final (c : Dev nD) : Pipeline.afterTail₀ cfgs (dats (F := Ideal) m) 0 (V0 m) [hostOps1] c main_v5
    = Cert.Reference7Ideal.Value.lam (m ((c.tc : Thread nD τ).loc main_arg0)) (m ((c.tc : Thread nD τ).loc main_arg1))
      (m ((c.tc : Thread nD τ).loc main_arg2)) (m ((c.tc : Thread nD τ).loc main_arg3)) := by
  unfold Pipeline.afterTail₀
  have h : Pipeline.withArrays (cfgs 0).spec c (V0 m c) (fun w => (dats (F := Ideal) m 0 c).arrAt w (cfgs 0).N) (Proc.devRef .tc main_v4)
      = (dats (F := Ideal) m 0 c).arrAt 4 cfg0.N :=
    Pipeline.withArrays_arr (cfgs 0).spec (by decide) c (V0 m c) (fun w => (dats (F := Ideal) m 0 c).arrAt w (cfgs 0).N) 4
  generalize Pipeline.withArrays (cfgs 0).spec c (V0 m c) (fun w => (dats (F := Ideal) m 0 c).arrAt w (cfgs 0).N) = W at h
  funext y
  idx_vars y
  show StableHlo.after hostOps1 W (Proc.devRef .tc main_v5) (ix1 y0) = _
  have e : StableHlo.after hostOps1 W (Proc.devRef .tc main_v5) (ix1 y0) = W (Proc.devRef .tc main_v4) (ix2 (0 : Fin 1) (0 : Fin 1)) := by
    after_reads_at
  rw [e, h, arr]
  exact congrArg _ (congrArg ix1 (Subsingleton.elim _ _))

/-- Every run ends, nothing faulting, with the reference's number in the result and the four vectors as they were. -/
theorem run_lambda : θ_run defs (onTc (τ := τ) (main (F := Ideal))) ⟨m, fun _ => 0, ρ⟩ (fun r => ∀ c : Dev nD,
    r.2.mem ((c.tc : Thread nD τ).loc main_v5)
      = Cert.Reference7Ideal.Value.lam (m ((c.tc : Thread nD τ).loc main_arg0)) (m ((c.tc : Thread nD τ).loc main_arg1))
        (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (final m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.Kernel7Ideal.Value

end
-- ==== Proof.lean ====
/-
  The proof of `Cert.Claim`: every program runs without a fault, keeps its arguments and ends with every semaphore at
  zero; each kernel and its ideal version are one program, up to the constant that stands for minus infinity; and each kernel's
  results are its reference's, as equations of extended reals, for the two attentions where the arguments named by their
  preconditions are finite.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Reference3Ideal
public import proofs.«01_k».proof.Proof.Gen.ReferenceIdeal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Gen.Reference7Ideal
public import proofs.«01_k».proof.Proof.Sb.Final
public import proofs.«01_k».proof.Proof.Pj.Run2
public import proofs.«01_k».proof.Proof.Pj.Final2
public import proofs.«01_k».proof.Proof.Pj.Run3
public import proofs.«01_k».proof.Proof.Pj.Final3
public import proofs.«01_k».proof.Proof.Mg.Run
public import proofs.«01_k».proof.Proof.Mg.Final
public import proofs.«01_k».proof.Proof.Df.Final
public import proofs.«01_k».proof.Proof.Df.Finite
public import proofs.«01_k».proof.Proof.Ms.Run
public import proofs.«01_k».proof.Proof.Ms.Final
public import proofs.«01_k».proof.Proof.Lm.Final
public import Idealize.ShloMosaic.Lib.Quiescent
public import Idealize.ShloMosaic.Adequacy
public import Idealize.ShloMosaic.Init

@[expose] public section

noncomputable section

namespace Cert.Proof

open Idealize.ShloMosaic Idealize.SL.Sem

/-- The stick-breaking attention: from equal arguments with finite queries and keys, kernel and reference end with the same
    result. -/
theorem attention : Cert.algebraic_KernelIdeal_ReferenceIdeal_pre_finite := by
  intro m g m' g' hpre hagree
  refine ⟨fun c => (Cert.KernelIdeal.Gen.dats (F := Ideal) m 0 c).arrAt 3 Cert.KernelIdeal.cfg0.N,
    Cert.KernelIdeal.Value.run_blocks (F := Ideal) m g,
    (θ_run Cert.ReferenceIdeal.defs _ _).mono (fun r h c => ⟨((h c).1).trans ?_, (h c).2⟩)
      (Cert.ReferenceIdeal.Value.run (F := Ideal) m' g')⟩
  obtain ⟨h0, h1, h2⟩ := hagree c
  obtain ⟨hq, hk⟩ := Cert.Pre_finite.real_of_fn _ _ _ (hpre c)
  refine Eq.trans ?_ (Cert.KernelIdeal.Value.final m c hq hk).symm
  rw [← h0, ← h1, ← h2]
  exact Cert.ReferenceIdeal.Value.res_eq m' c

/-- The reference runs, keeps its arguments and ends with every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The prompt's projections: from equal arguments, kernel and reference end with the same results. -/
theorem projections_prompt : Cert.algebraic_Kernel2Ideal_Reference2Ideal := by
  intro m g m' g' _ hagree
  refine ⟨fun c => Cert.Kernel2Ideal.Gen.W17 (F := Ideal) m g c (Proc.devRef .tc Cert.Kernel2Ideal.main_v30),
    fun c => Cert.Kernel2Ideal.Gen.W17 (F := Ideal) m g c (Proc.devRef .tc Cert.Kernel2Ideal.main_v31),
    fun c => Cert.Kernel2Ideal.Gen.W17 (F := Ideal) m g c (Proc.devRef .tc Cert.Kernel2Ideal.main_v32),
    fun c => Cert.Kernel2Ideal.Gen.W17 (F := Ideal) m g c (Proc.devRef .tc Cert.Kernel2Ideal.main_v33),
    fun c => Cert.Kernel2Ideal.Gen.W17 (F := Ideal) m g c (Proc.devRef .tc Cert.Kernel2Ideal.main_v13),
    fun c => Cert.Kernel2Ideal.Gen.W17 (F := Ideal) m g c (Proc.devRef .tc Cert.Kernel2Ideal.main_v16_1),
    fun c => Cert.Kernel2Ideal.Gen.W17 (F := Ideal) m g c (Proc.devRef .tc Cert.Kernel2Ideal.main_v19_1),
    fun c => Cert.Kernel2Ideal.Gen.W17 (F := Ideal) m g c (Proc.devRef .tc Cert.Kernel2Ideal.main_v21),
    fun c => Cert.Kernel2Ideal.Gen.W17 (F := Ideal) m g c (Proc.devRef .tc Cert.Kernel2Ideal.main_v23_1),
    fun c => Cert.Kernel2Ideal.Gen.W17 (F := Ideal) m g c (Proc.devRef .tc Cert.Kernel2Ideal.main_v26_1),
    fun c => Cert.Kernel2Ideal.Gen.W17 (F := Ideal) m g c (Proc.devRef .tc Cert.Kernel2Ideal.main_v29),
    (θ_run Cert.Kernel2Ideal.defs _ _).mono (fun r h c =>
      ⟨h c _ (Cert.Kernel2Ideal.Gen.mem_uc Cert.Kernel2Ideal.main_v30 (by decide)),
       h c _ (Cert.Kernel2Ideal.Gen.mem_uc Cert.Kernel2Ideal.main_v31 (by decide)),
       h c _ (Cert.Kernel2Ideal.Gen.mem_uc Cert.Kernel2Ideal.main_v32 (by decide)),
       h c _ (Cert.Kernel2Ideal.Gen.mem_uc Cert.Kernel2Ideal.main_v33 (by decide)),
       h c _ (Cert.Kernel2Ideal.Gen.mem_uc Cert.Kernel2Ideal.main_v13 (by decide)),
       h c _ (Cert.Kernel2Ideal.Gen.mem_uc Cert.Kernel2Ideal.main_v16_1 (by decide)),
       h c _ (Cert.Kernel2Ideal.Gen.mem_uc Cert.Kernel2Ideal.main_v19_1 (by decide)),
       h c _ (Cert.Kernel2Ideal.Gen.mem_uc Cert.Kernel2Ideal.main_v21 (by decide)),
       h c _ (Cert.Kernel2Ideal.Gen.mem_uc Cert.Kernel2Ideal.main_v23_1 (by decide)),
       h c _ (Cert.Kernel2Ideal.Gen.mem_uc Cert.Kernel2Ideal.main_v26_1 (by decide)),
       h c _ (Cert.Kernel2Ideal.Gen.mem_uc Cert.Kernel2Ideal.main_v29 (by decide)),
       (h c _ (Cert.Kernel2Ideal.Gen.mem_uc Cert.Kernel2Ideal.main_arg0 (by decide))).trans (Cert.Kernel2Ideal.Gen.W17_main_arg0 m g c),
       (h c _ (Cert.Kernel2Ideal.Gen.mem_uc Cert.Kernel2Ideal.main_arg1 (by decide))).trans (Cert.Kernel2Ideal.Gen.W17_main_arg1 m g c),
       (h c _ (Cert.Kernel2Ideal.Gen.mem_uc Cert.Kernel2Ideal.main_arg2 (by decide))).trans (Cert.Kernel2Ideal.Gen.W17_main_arg2 m g c),
       (h c _ (Cert.Kernel2Ideal.Gen.mem_uc Cert.Kernel2Ideal.main_arg3 (by decide))).trans (Cert.Kernel2Ideal.Gen.W17_main_arg3 m g c),
       (h c _ (Cert.Kernel2Ideal.Gen.mem_uc Cert.Kernel2Ideal.main_arg4 (by decide))).trans (Cert.Kernel2Ideal.Gen.W17_main_arg4 m g c)⟩) (Cert.Kernel2Ideal.Value.run_all (F := Ideal) m g),
    (θ_run Cert.Reference2Ideal.defs _ _).mono (fun r h c => ?_) (Cert.Reference2Ideal.Value.run (F := Ideal) m' g')⟩
  obtain ⟨e0, e1, e2, e3, e4⟩ := hagree c
  obtain ⟨r0, r1, r2, r3, r4, r5, r6, r7, r8, r9, r10, hargs⟩ := h c
  exact ⟨r0.trans ((Cert.Kernel2Ideal.Value.cache2 m g c).trans (by rw [Cert.Kernel2Ideal.Value.rp, ← e0, ← e1, ← e2]; rfl)).symm,
     r1.trans ((Cert.Kernel2Ideal.Value.cache3 m g c).trans (by rw [Cert.Kernel2Ideal.Value.rp, ← e0, ← e1, ← e2]; rfl)).symm,
     r2.trans ((Cert.Kernel2Ideal.Value.cache5 m g c).trans (by rw [Cert.Kernel2Ideal.Value.rp, ← e0, ← e1, ← e2, ← e4]; rfl)).symm,
     r3.trans ((Cert.Kernel2Ideal.Value.cache6 m g c).trans (by rw [Cert.Kernel2Ideal.Value.rp, ← e0, ← e1, ← e2]; rfl)).symm,
     r4.trans ((Cert.Kernel2Ideal.Value.rows1 m g c).trans (by rw [Cert.Kernel2Ideal.Value.rp, ← e0, ← e1, ← e2]; rfl)).symm,
     r5.trans ((Cert.Kernel2Ideal.Value.rows2 m g c).trans (by rw [Cert.Kernel2Ideal.Value.rp, ← e0, ← e1, ← e2]; rfl)).symm,
     r6.trans ((Cert.Kernel2Ideal.Value.rows3 m g c).trans (by rw [Cert.Kernel2Ideal.Value.rp, ← e0, ← e1, ← e2]; rfl)).symm,
     r7.trans ((Cert.Kernel2Ideal.Value.rows4 m g c).trans (by rw [Cert.Kernel2Ideal.Value.rp, ← e0, ← e1, ← e2, ← e3]; rfl)).symm,
     r8.trans ((Cert.Kernel2Ideal.Value.rows5 m g c).trans (by rw [Cert.Kernel2Ideal.Value.rp, ← e0, ← e1, ← e2, ← e4]; rfl)).symm,
     r9.trans ((Cert.Kernel2Ideal.Value.rows6 m g c).trans (by rw [Cert.Kernel2Ideal.Value.rp, ← e0, ← e1, ← e2]; rfl)).symm,
     r10.trans ((Cert.Kernel2Ideal.Value.rows7 m g c).trans (by rw [Cert.Kernel2Ideal.Value.rp, ← e0, ← e1, ← e2]; rfl)).symm, hargs⟩

/-- The reference of the prompt's projections runs, keeps its arguments and ends with every semaphore at zero. -/
theorem projections_prompt_frame : Cert.quiescent_Reference2Ideal := fun m ρ _ =>
  (θ_run Cert.Reference2Ideal.defs _ _).mono
    (fun r h => ⟨fun c => (h c).2.2.2.2.2.2.2.2.2.2.2, Idealize.ShloMosaic.sem_eq_zero_of_no_sems (by decide) r.2⟩)
    (Cert.Reference2Ideal.Value.run (F := Ideal) m ρ)

/-- The sample's projections: from equal arguments, kernel and reference end with the same results. -/
theorem projections_sample : Cert.algebraic_Kernel3Ideal_Reference3Ideal := by
  intro m g m' g' _ hagree
  refine ⟨fun c => Cert.Kernel3Ideal.Gen.W17 (F := Ideal) m g c (Proc.devRef .tc Cert.Kernel3Ideal.main_v30),
    fun c => Cert.Kernel3Ideal.Gen.W17 (F := Ideal) m g c (Proc.devRef .tc Cert.Kernel3Ideal.main_v31),
    fun c => Cert.Kernel3Ideal.Gen.W17 (F := Ideal) m g c (Proc.devRef .tc Cert.Kernel3Ideal.main_v32),
    fun c => Cert.Kernel3Ideal.Gen.W17 (F := Ideal) m g c (Proc.devRef .tc Cert.Kernel3Ideal.main_v33),
    fun c => Cert.Kernel3Ideal.Gen.W17 (F := Ideal) m g c (Proc.devRef .tc Cert.Kernel3Ideal.main_v13),
    fun c => Cert.Kernel3Ideal.Gen.W17 (F := Ideal) m g c (Proc.devRef .tc Cert.Kernel3Ideal.main_v21),
    fun c => Cert.Kernel3Ideal.Gen.W17 (F := Ideal) m g c (Proc.devRef .tc Cert.Kernel3Ideal.main_v29),
    (θ_run Cert.Kernel3Ideal.defs _ _).mono (fun r h c =>
      ⟨h c _ (Cert.Kernel3Ideal.Gen.mem_uc Cert.Kernel3Ideal.main_v30 (by decide)),
       h c _ (Cert.Kernel3Ideal.Gen.mem_uc Cert.Kernel3Ideal.main_v31 (by decide)),
       h c _ (Cert.Kernel3Ideal.Gen.mem_uc Cert.Kernel3Ideal.main_v32 (by decide)),
       h c _ (Cert.Kernel3Ideal.Gen.mem_uc Cert.Kernel3Ideal.main_v33 (by decide)),
       h c _ (Cert.Kernel3Ideal.Gen.mem_uc Cert.Kernel3Ideal.main_v13 (by decide)),
       h c _ (Cert.Kernel3Ideal.Gen.mem_uc Cert.Kernel3Ideal.main_v21 (by decide)),
       h c _ (Cert.Kernel3Ideal.Gen.mem_uc Cert.Kernel3Ideal.main_v29 (by decide)),
       (h c _ (Cert.Kernel3Ideal.Gen.mem_uc Cert.Kernel3Ideal.main_arg0 (by decide))).trans (Cert.Kernel3Ideal.Gen.W17_main_arg0 m g c),
       (h c _ (Cert.Kernel3Ideal.Gen.mem_uc Cert.Kernel3Ideal.main_arg1 (by decide))).trans (Cert.Kernel3Ideal.Gen.W17_main_arg1 m g c),
       (h c _ (Cert.Kernel3Ideal.Gen.mem_uc Cert.Kernel3Ideal.main_arg2 (by decide))).trans (Cert.Kernel3Ideal.Gen.W17_main_arg2 m g c),
       (h c _ (Cert.Kernel3Ideal.Gen.mem_uc Cert.Kernel3Ideal.main_arg3 (by decide))).trans (Cert.Kernel3Ideal.Gen.W17_main_arg3 m g c),
       (h c _ (Cert.Kernel3Ideal.Gen.mem_uc Cert.Kernel3Ideal.main_arg4 (by decide))).trans (Cert.Kernel3Ideal.Gen.W17_main_arg4 m g c)⟩) (Cert.Kernel3Ideal.Value.run_all (F := Ideal) m g),
    (θ_run Cert.Reference3Ideal.defs _ _).mono (fun r h c => ?_) (Cert.Reference3Ideal.Value.run (F := Ideal) m' g')⟩
  obtain ⟨e0, e1, e2, e3, e4⟩ := hagree c
  obtain ⟨r0, r1, r2, r3, r4, r5, r6, hargs⟩ := h c
  exact ⟨r0.trans ((Cert.Kernel3Ideal.Value.cache2 m g c).trans (by rw [Cert.Kernel3Ideal.Value.rp, ← e0, ← e1, ← e2]; rfl)).symm,
     r1.trans ((Cert.Kernel3Ideal.Value.cache3 m g c).trans (by rw [Cert.Kernel3Ideal.Value.rp, ← e0, ← e1, ← e2]; rfl)).symm,
     r2.trans ((Cert.Kernel3Ideal.Value.cache5 m g c).trans (by rw [Cert.Kernel3Ideal.Value.rp, ← e0, ← e1, ← e2, ← e4]; rfl)).symm,
     r3.trans ((Cert.Kernel3Ideal.Value.cache6 m g c).trans (by rw [Cert.Kernel3Ideal.Value.rp, ← e0, ← e1, ← e2]; rfl)).symm,
     r4.trans ((Cert.Kernel3Ideal.Value.rows1 m g c).trans (by rw [Cert.Kernel3Ideal.Value.rp, ← e0, ← e1, ← e2]; rfl)).symm,
     r5.trans ((Cert.Kernel3Ideal.Value.rows4 m g c).trans (by rw [Cert.Kernel3Ideal.Value.rp, ← e0, ← e1, ← e2, ← e3]; rfl)).symm,
     r6.trans ((Cert.Kernel3Ideal.Value.rows7 m g c).trans (by rw [Cert.Kernel3Ideal.Value.rp, ← e0, ← e1, ← e2]; rfl)).symm, hargs⟩

/-- The reference of the sample's projections runs, keeps its arguments and ends with every semaphore at zero. -/
theorem projections_sample_frame : Cert.quiescent_Reference3Ideal := fun m ρ _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

/-- The gating and the output projection: from equal arguments, kernel and reference end with the same result. -/
theorem output : Cert.algebraic_Kernel4Ideal_Reference4Ideal := by
  intro m g m' g' _ hagree
  refine ⟨fun c => Cert.Kernel4Ideal.Gen.W3 (F := Ideal) m g c (Proc.devRef .tc Cert.Kernel4Ideal.main_v5),
    (θ_run Cert.Kernel4Ideal.defs _ _).mono (fun r h c =>
      ⟨h c _ (Cert.Kernel4Ideal.Gen.mem_uc Cert.Kernel4Ideal.main_v5 (by decide)),
       (h c _ (Cert.Kernel4Ideal.Gen.mem_uc Cert.Kernel4Ideal.main_arg0 (by decide))).trans (Cert.Kernel4Ideal.Gen.W3_main_arg0 m g c),
       (h c _ (Cert.Kernel4Ideal.Gen.mem_uc Cert.Kernel4Ideal.main_arg1 (by decide))).trans (Cert.Kernel4Ideal.Gen.W3_main_arg1 m g c),
       (h c _ (Cert.Kernel4Ideal.Gen.mem_uc Cert.Kernel4Ideal.main_arg2 (by decide))).trans (Cert.Kernel4Ideal.Gen.W3_main_arg2 m g c),
       (h c _ (Cert.Kernel4Ideal.Gen.mem_uc Cert.Kernel4Ideal.main_arg3 (by decide))).trans (Cert.Kernel4Ideal.Gen.W3_main_arg3 m g c),
       (h c _ (Cert.Kernel4Ideal.Gen.mem_uc Cert.Kernel4Ideal.main_arg4 (by decide))).trans (Cert.Kernel4Ideal.Gen.W3_main_arg4 m g c),
       (h c _ (Cert.Kernel4Ideal.Gen.mem_uc Cert.Kernel4Ideal.main_arg5 (by decide))).trans (Cert.Kernel4Ideal.Gen.W3_main_arg5 m g c),
       (h c _ (Cert.Kernel4Ideal.Gen.mem_uc Cert.Kernel4Ideal.main_arg6 (by decide))).trans (Cert.Kernel4Ideal.Gen.W3_main_arg6 m g c)⟩) (Cert.Kernel4Ideal.Value.run_all (F := Ideal) m g),
    (θ_run Cert.Reference4Ideal.defs _ _).mono (fun r h c => ?_) (Cert.Reference4Ideal.Value.run (F := Ideal) m' g')⟩
  obtain ⟨e0, e1, e2, e3, e4, e5, e6⟩ := hagree c
  obtain ⟨r0, hargs⟩ := h c
  exact ⟨r0.trans ((Cert.Kernel4Ideal.Value.final m g c).trans (by rw [← e0, ← e1, ← e2, ← e3, ← e4, ← e5, ← e6]; rfl)).symm, hargs⟩

/-- The reference of the output runs, keeps its arguments and ends with every semaphore at zero. -/
theorem output_frame : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The differential attention: from equal arguments with finite lambda and values, kernel and reference end with the same
    result. -/
theorem differential : Cert.algebraic_Kernel5Ideal_Reference5Ideal_pre_finite5 := by
  intro m g m' g' hpre hagree
  refine ⟨fun c => (Cert.Kernel5Ideal.Gen.dats (F := Ideal) m 0 c).arrAt 6 Cert.Kernel5Ideal.cfg0.N,
    Cert.Kernel5Ideal.Value.run_blocks (F := Ideal) m g,
    (θ_run Cert.Reference5Ideal.defs _ _).mono (fun r h c => ⟨((h c).1).trans ?_, (h c).2⟩)
      (Cert.Reference5Ideal.Value.run (F := Ideal) m' g')⟩
  obtain ⟨h0, h1, h2, h3, h4⟩ := hagree c
  obtain ⟨hl, hv⟩ := Cert.Pre_finite5.real_of_fn _ _ _ _ _ (hpre c)
  refine Eq.trans ?_ (Cert.Kernel5Ideal.Value.final m c hl hv).symm
  rw [← h0, ← h1, ← h2, ← h3, ← h4]
  exact Cert.Reference5Ideal.Value.res_eq m' c

/-- The reference of the differential attention runs, keeps its arguments and ends with every semaphore at zero. -/
theorem differential_frame : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The one constant that the ideal differential attention reads as minus infinity. -/
theorem differential_constant : Cert.preserves_Kernel5_Kernel5Ideal :=
  IdealRules.named_const.statement Cert.Kernel5Ideal.κ "neg" .f32 _ ⊥ rfl

/-- The sample's gating and output projection: from equal arguments, kernel and reference end with the same result. -/
theorem output_sample : Cert.algebraic_Kernel6Ideal_Reference6Ideal := by
  intro m g m' g' _ hagree
  refine ⟨fun c => Cert.Kernel6Ideal.Gen.W3 (F := Ideal) m g c (Proc.devRef .tc Cert.Kernel6Ideal.main_v5),
    (θ_run Cert.Kernel6Ideal.defs _ _).mono (fun r h c =>
      ⟨h c _ (Cert.Kernel6Ideal.Gen.mem_uc Cert.Kernel6Ideal.main_v5 (by decide)),
       (h c _ (Cert.Kernel6Ideal.Gen.mem_uc Cert.Kernel6Ideal.main_arg0 (by decide))).trans (Cert.Kernel6Ideal.Gen.W3_main_arg0 m g c),
       (h c _ (Cert.Kernel6Ideal.Gen.mem_uc Cert.Kernel6Ideal.main_arg1 (by decide))).trans (Cert.Kernel6Ideal.Gen.W3_main_arg1 m g c),
       (h c _ (Cert.Kernel6Ideal.Gen.mem_uc Cert.Kernel6Ideal.main_arg2 (by decide))).trans (Cert.Kernel6Ideal.Gen.W3_main_arg2 m g c),
       (h c _ (Cert.Kernel6Ideal.Gen.mem_uc Cert.Kernel6Ideal.main_arg3 (by decide))).trans (Cert.Kernel6Ideal.Gen.W3_main_arg3 m g c),
       (h c _ (Cert.Kernel6Ideal.Gen.mem_uc Cert.Kernel6Ideal.main_arg4 (by decide))).trans (Cert.Kernel6Ideal.Gen.W3_main_arg4 m g c),
       (h c _ (Cert.Kernel6Ideal.Gen.mem_uc Cert.Kernel6Ideal.main_arg5 (by decide))).trans (Cert.Kernel6Ideal.Gen.W3_main_arg5 m g c),
       (h c _ (Cert.Kernel6Ideal.Gen.mem_uc Cert.Kernel6Ideal.main_arg6 (by decide))).trans (Cert.Kernel6Ideal.Gen.W3_main_arg6 m g c)⟩) (Cert.Kernel6Ideal.Value.run_all (F := Ideal) m g),
    (θ_run Cert.Reference6Ideal.defs _ _).mono (fun r h c => ?_) (Cert.Reference6Ideal.Value.run (F := Ideal) m' g')⟩
  obtain ⟨e0, e1, e2, e3, e4, e5, e6⟩ := hagree c
  obtain ⟨r0, hargs⟩ := h c
  exact ⟨r0.trans ((Cert.Kernel6Ideal.Value.final m g c).trans (by rw [← e0, ← e1, ← e2, ← e3, ← e4, ← e5, ← e6]; rfl)).symm, hargs⟩

/-- The reference of the sample's output runs, keeps its arguments and ends with every semaphore at zero. -/
theorem output_sample_frame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The differential attention's lambda: from equal arguments, kernel and reference end with the same number. -/
theorem lambda_value : Cert.algebraic_Kernel7Ideal_Reference7Ideal := by
  intro m g m' g' _ hagree
  refine ⟨fun c => Cert.Reference7Ideal.Value.lam (m ((c.tc : Thread _ _).loc Cert.Kernel7Ideal.main_arg0))
      (m ((c.tc : Thread _ _).loc Cert.Kernel7Ideal.main_arg1)) (m ((c.tc : Thread _ _).loc Cert.Kernel7Ideal.main_arg2))
      (m ((c.tc : Thread _ _).loc Cert.Kernel7Ideal.main_arg3)),
    Cert.Kernel7Ideal.Value.run_lambda m g,
    (θ_run Cert.Reference7Ideal.defs _ _).mono (fun r h c => ?_) (Cert.Reference7Ideal.Value.run (F := Ideal) m' g')⟩
  obtain ⟨e0, e1, e2, e3⟩ := hagree c
  obtain ⟨r0, hargs⟩ := h c
  exact ⟨r0.trans (by beta_reduce; rw [← e0, ← e1, ← e2, ← e3]; rfl), hargs⟩

/-- The reference of the lambda runs, keeps its arguments and ends with every semaphore at zero. -/
theorem lambda_frame : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The claim: the frames, the kernels' ideal versions, and the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts, Cert.Pre_finite5.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, projections_prompt_frame,
  fun m ρ _ => Cert.Kernel3.Gen.frame m ρ, fun m ρ _ => Cert.Kernel3Ideal.Gen.frame m ρ, projections_sample_frame,
  fun m ρ _ => Cert.Kernel4.Gen.frame m ρ, fun m ρ _ => Cert.Kernel4Ideal.Gen.frame m ρ, output_frame,
  fun m ρ _ => Cert.Kernel5.Gen.frame m ρ, fun m ρ _ => Cert.Kernel5Ideal.Gen.frame m ρ, fun m ρ _ => Cert.Kernel5Ideal.Gen.frame m ρ,
  differential_frame, fun m ρ _ => differential_frame m ρ trivial,
  fun m ρ _ => Cert.Kernel6.Gen.frame m ρ, fun m ρ _ => Cert.Kernel6Ideal.Gen.frame m ρ, output_sample_frame,
  fun m ρ _ => Cert.Kernel7.Gen.frame m ρ, fun m ρ _ => Cert.Kernel7Ideal.Gen.frame m ρ, lambda_frame,
  trivial, attention, trivial, projections_prompt, trivial, projections_sample,
  trivial, output, differential_constant, differential,
  trivial, output_sample, trivial, lambda_value⟩

end Cert.Proof

end
